-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpInner (m : (ℓ : Loc Cert.MlpInner.nD Cert.MlpInner.τ Cert.MlpInner.sig) → Buf (Elt Bits) ℓ) : Prop :=
  True

def Pre_MlpInnerIdeal (m : (ℓ : Loc Cert.MlpInnerIdeal.nD Cert.MlpInnerIdeal.τ Cert.MlpInnerIdeal.sig) → Buf (Elt Ideal) ℓ) : Prop :=
  True

def Pre_MlpInnerReferenceIdeal (m : (ℓ : Loc Cert.MlpInnerReferenceIdeal.nD Cert.MlpInnerReferenceIdeal.τ Cert.MlpInnerReferenceIdeal.sig) → Buf (Elt Ideal) ℓ) : Prop :=
  True

def Pre_FourierIn (m : (ℓ : Loc Cert.FourierIn.nD Cert.FourierIn.τ Cert.FourierIn.sig) → Buf (Elt Bits) ℓ) : Prop :=
  True

def Pre_FourierInIdeal (m : (ℓ : Loc Cert.FourierInIdeal.nD Cert.FourierInIdeal.τ Cert.FourierInIdeal.sig) → Buf (Elt Ideal) ℓ) : Prop :=
  True

def Pre_FourierInReferenceIdeal (m : (ℓ : Loc Cert.FourierInReferenceIdeal.nD Cert.FourierInReferenceIdeal.τ Cert.FourierInReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MlpSecond (m : (ℓ : Loc Cert.MlpSecond.nD Cert.MlpSecond.τ Cert.MlpSecond.sig) → Buf (Elt Bits) ℓ) : Prop :=
  True

def Pre_MlpSecondIdeal (m : (ℓ : Loc Cert.MlpSecondIdeal.nD Cert.MlpSecondIdeal.τ Cert.MlpSecondIdeal.sig) → Buf (Elt Ideal) ℓ) : Prop :=
  True

def Pre_MlpSecondReferenceIdeal (m : (ℓ : Loc Cert.MlpSecondReferenceIdeal.nD Cert.MlpSecondReferenceIdeal.τ Cert.MlpSecondReferenceIdeal.sig) → Buf (Elt Ideal) ℓ) : Prop :=
  True

def Pre_MlpThird (m : (ℓ : Loc Cert.MlpThird.nD Cert.MlpThird.τ Cert.MlpThird.sig) → Buf (Elt Bits) ℓ) : Prop :=
  True

def Pre_MlpThirdIdeal (m : (ℓ : Loc Cert.MlpThirdIdeal.nD Cert.MlpThirdIdeal.τ Cert.MlpThirdIdeal.sig) → Buf (Elt Ideal) ℓ) : Prop :=
  True

def Pre_MlpThirdReferenceIdeal (m : (ℓ : Loc Cert.MlpThirdReferenceIdeal.nD Cert.MlpThirdReferenceIdeal.τ Cert.MlpThirdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_MlpInner [hMlpInner : Cert.MlpInner.Facts] : Prop :=
  ∀ (m : (ℓ : Loc Cert.MlpInner.nD Cert.MlpInner.τ Cert.MlpInner.sig) → Buf (Elt Bits) ℓ) (g : Dev Cert.MlpInner.nD → PrngReg), Pre_MlpInner m →
    θ_run (Cert.MlpInner.defs (F := Bits)) (onTc (τ := Cert.MlpInner.τ) (Cert.MlpInner.main (F := Bits))) ⟨m, fun _ => 0, g⟩ (fun r => (∀ c : Dev Cert.MlpInner.nD,
      r.2.mem ((c.tc : Thread Cert.MlpInner.nD Cert.MlpInner.τ).loc Cert.MlpInner.main_arg0) = m ((c.tc : Thread Cert.MlpInner.nD Cert.MlpInner.τ).loc Cert.MlpInner.main_arg0)
      ∧ r.2.mem ((c.tc : Thread Cert.MlpInner.nD Cert.MlpInner.τ).loc Cert.MlpInner.main_arg1) = m ((c.tc : Thread Cert.MlpInner.nD Cert.MlpInner.τ).loc Cert.MlpInner.main_arg1)
      ∧ r.2.mem ((c.tc : Thread Cert.MlpInner.nD Cert.MlpInner.τ).loc Cert.MlpInner.main_arg2) = m ((c.tc : Thread Cert.MlpInner.nD Cert.MlpInner.τ).loc Cert.MlpInner.main_arg2)
      ∧ r.2.mem ((c.tc : Thread Cert.MlpInner.nD Cert.MlpInner.τ).loc Cert.MlpInner.main_arg3) = m ((c.tc : Thread Cert.MlpInner.nD Cert.MlpInner.τ).loc Cert.MlpInner.main_arg3)
      ∧ r.2.mem ((c.tc : Thread Cert.MlpInner.nD Cert.MlpInner.τ).loc Cert.MlpInner.main_arg4) = m ((c.tc : Thread Cert.MlpInner.nD Cert.MlpInner.τ).loc Cert.MlpInner.main_arg4)
      ∧ r.2.mem ((c.tc : Thread Cert.MlpInner.nD Cert.MlpInner.τ).loc Cert.MlpInner.main_arg5) = m ((c.tc : Thread Cert.MlpInner.nD Cert.MlpInner.τ).loc Cert.MlpInner.main_arg5)
      ∧ r.2.mem ((c.tc : Thread Cert.MlpInner.nD Cert.MlpInner.τ).loc Cert.MlpInner.main_arg6) = m ((c.tc : Thread Cert.MlpInner.nD Cert.MlpInner.τ).loc Cert.MlpInner.main_arg6)
      ∧ r.2.mem ((c.tc : Thread Cert.MlpInner.nD Cert.MlpInner.τ).loc Cert.MlpInner.main_arg7) = m ((c.tc : Thread Cert.MlpInner.nD Cert.MlpInner.τ).loc Cert.MlpInner.main_arg7))
      ∧ r.2.sem = fun _ => 0)

def quiescent_MlpInnerIdeal [hMlpInnerIdeal : Cert.MlpInnerIdeal.Facts] : Prop :=
  ∀ (m : (ℓ : Loc Cert.MlpInnerIdeal.nD Cert.MlpInnerIdeal.τ Cert.MlpInnerIdeal.sig) → Buf (Elt Ideal) ℓ) (g : Dev Cert.MlpInnerIdeal.nD → PrngReg), Pre_MlpInnerIdeal m →
    θ_run (Cert.MlpInnerIdeal.defs (F := Ideal)) (onTc (τ := Cert.MlpInnerIdeal.τ) (Cert.MlpInnerIdeal.main (F := Ideal))) ⟨m, fun _ => 0, g⟩ (fun r => (∀ c : Dev Cert.MlpInnerIdeal.nD,
      r.2.mem ((c.tc : Thread Cert.MlpInnerIdeal.nD Cert.MlpInnerIdeal.τ).loc Cert.MlpInnerIdeal.main_arg0) = m ((c.tc : Thread Cert.MlpInnerIdeal.nD Cert.MlpInnerIdeal.τ).loc Cert.MlpInnerIdeal.main_arg0)
      ∧ r.2.mem ((c.tc : Thread Cert.MlpInnerIdeal.nD Cert.MlpInnerIdeal.τ).loc Cert.MlpInnerIdeal.main_arg1) = m ((c.tc : Thread Cert.MlpInnerIdeal.nD Cert.MlpInnerIdeal.τ).loc Cert.MlpInnerIdeal.main_arg1)
      ∧ r.2.mem ((c.tc : Thread Cert.MlpInnerIdeal.nD Cert.MlpInnerIdeal.τ).loc Cert.MlpInnerIdeal.main_arg2) = m ((c.tc : Thread Cert.MlpInnerIdeal.nD Cert.MlpInnerIdeal.τ).loc Cert.MlpInnerIdeal.main_arg2)
      ∧ r.2.mem ((c.tc : Thread Cert.MlpInnerIdeal.nD Cert.MlpInnerIdeal.τ).loc Cert.MlpInnerIdeal.main_arg3) = m ((c.tc : Thread Cert.MlpInnerIdeal.nD Cert.MlpInnerIdeal.τ).loc Cert.MlpInnerIdeal.main_arg3)
      ∧ r.2.mem ((c.tc : Thread Cert.MlpInnerIdeal.nD Cert.MlpInnerIdeal.τ).loc Cert.MlpInnerIdeal.main_arg4) = m ((c.tc : Thread Cert.MlpInnerIdeal.nD Cert.MlpInnerIdeal.τ).loc Cert.MlpInnerIdeal.main_arg4)
      ∧ r.2.mem ((c.tc : Thread Cert.MlpInnerIdeal.nD Cert.MlpInnerIdeal.τ).loc Cert.MlpInnerIdeal.main_arg5) = m ((c.tc : Thread Cert.MlpInnerIdeal.nD Cert.MlpInnerIdeal.τ).loc Cert.MlpInnerIdeal.main_arg5)
      ∧ r.2.mem ((c.tc : Thread Cert.MlpInnerIdeal.nD Cert.MlpInnerIdeal.τ).loc Cert.MlpInnerIdeal.main_arg6) = m ((c.tc : Thread Cert.MlpInnerIdeal.nD Cert.MlpInnerIdeal.τ).loc Cert.MlpInnerIdeal.main_arg6)
      ∧ r.2.mem ((c.tc : Thread Cert.MlpInnerIdeal.nD Cert.MlpInnerIdeal.τ).loc Cert.MlpInnerIdeal.main_arg7) = m ((c.tc : Thread Cert.MlpInnerIdeal.nD Cert.MlpInnerIdeal.τ).loc Cert.MlpInnerIdeal.main_arg7))
      ∧ r.2.sem = fun _ => 0)

def quiescent_MlpInnerReferenceIdeal [hMlpInnerReferenceIdeal : Cert.MlpInnerReferenceIdeal.Facts] : Prop :=
  ∀ (m : (ℓ : Loc Cert.MlpInnerReferenceIdeal.nD Cert.MlpInnerReferenceIdeal.τ Cert.MlpInnerReferenceIdeal.sig) → Buf (Elt Ideal) ℓ) (g : Dev Cert.MlpInnerReferenceIdeal.nD → PrngReg), Pre_MlpInnerReferenceIdeal m →
    θ_run (Cert.MlpInnerReferenceIdeal.defs (F := Ideal)) (onTc (τ := Cert.MlpInnerReferenceIdeal.τ) (Cert.MlpInnerReferenceIdeal.main (F := Ideal))) ⟨m, fun _ => 0, g⟩ (fun r => (∀ c : Dev Cert.MlpInnerReferenceIdeal.nD,
      r.2.mem ((c.tc : Thread Cert.MlpInnerReferenceIdeal.nD Cert.MlpInnerReferenceIdeal.τ).loc Cert.MlpInnerReferenceIdeal.main_arg0) = m ((c.tc : Thread Cert.MlpInnerReferenceIdeal.nD Cert.MlpInnerReferenceIdeal.τ).loc Cert.MlpInnerReferenceIdeal.main_arg0)
      ∧ r.2.mem ((c.tc : Thread Cert.MlpInnerReferenceIdeal.nD Cert.MlpInnerReferenceIdeal.τ).loc Cert.MlpInnerReferenceIdeal.main_arg1) = m ((c.tc : Thread Cert.MlpInnerReferenceIdeal.nD Cert.MlpInnerReferenceIdeal.τ).loc Cert.MlpInnerReferenceIdeal.main_arg1)
      ∧ r.2.mem ((c.tc : Thread Cert.MlpInnerReferenceIdeal.nD Cert.MlpInnerReferenceIdeal.τ).loc Cert.MlpInnerReferenceIdeal.main_arg2) = m ((c.tc : Thread Cert.MlpInnerReferenceIdeal.nD Cert.MlpInnerReferenceIdeal.τ).loc Cert.MlpInnerReferenceIdeal.main_arg2)
      ∧ r.2.mem ((c.tc : Thread Cert.MlpInnerReferenceIdeal.nD Cert.MlpInnerReferenceIdeal.τ).loc Cert.MlpInnerReferenceIdeal.main_arg3) = m ((c.tc : Thread Cert.MlpInnerReferenceIdeal.nD Cert.MlpInnerReferenceIdeal.τ).loc Cert.MlpInnerReferenceIdeal.main_arg3)
      ∧ r.2.mem ((c.tc : Thread Cert.MlpInnerReferenceIdeal.nD Cert.MlpInnerReferenceIdeal.τ).loc Cert.MlpInnerReferenceIdeal.main_arg4) = m ((c.tc : Thread Cert.MlpInnerReferenceIdeal.nD Cert.MlpInnerReferenceIdeal.τ).loc Cert.MlpInnerReferenceIdeal.main_arg4)
      ∧ r.2.mem ((c.tc : Thread Cert.MlpInnerReferenceIdeal.nD Cert.MlpInnerReferenceIdeal.τ).loc Cert.MlpInnerReferenceIdeal.main_arg5) = m ((c.tc : Thread Cert.MlpInnerReferenceIdeal.nD Cert.MlpInnerReferenceIdeal.τ).loc Cert.MlpInnerReferenceIdeal.main_arg5)
      ∧ r.2.mem ((c.tc : Thread Cert.MlpInnerReferenceIdeal.nD Cert.MlpInnerReferenceIdeal.τ).loc Cert.MlpInnerReferenceIdeal.main_arg6) = m ((c.tc : Thread Cert.MlpInnerReferenceIdeal.nD Cert.MlpInnerReferenceIdeal.τ).loc Cert.MlpInnerReferenceIdeal.main_arg6)
      ∧ r.2.mem ((c.tc : Thread Cert.MlpInnerReferenceIdeal.nD Cert.MlpInnerReferenceIdeal.τ).loc Cert.MlpInnerReferenceIdeal.main_arg7) = m ((c.tc : Thread Cert.MlpInnerReferenceIdeal.nD Cert.MlpInnerReferenceIdeal.τ).loc Cert.MlpInnerReferenceIdeal.main_arg7))
      ∧ r.2.sem = fun _ => 0)

def quiescent_FourierIn [hFourierIn : Cert.FourierIn.Facts] : Prop :=
  ∀ (m : (ℓ : Loc Cert.FourierIn.nD Cert.FourierIn.τ Cert.FourierIn.sig) → Buf (Elt Bits) ℓ) (g : Dev Cert.FourierIn.nD → PrngReg), Pre_FourierIn m →
    θ_run (Cert.FourierIn.defs (F := Bits)) (onTc (τ := Cert.FourierIn.τ) (Cert.FourierIn.main (F := Bits))) ⟨m, fun _ => 0, g⟩ (fun r => (∀ c : Dev Cert.FourierIn.nD,
      r.2.mem ((c.tc : Thread Cert.FourierIn.nD Cert.FourierIn.τ).loc Cert.FourierIn.main_arg0) = m ((c.tc : Thread Cert.FourierIn.nD Cert.FourierIn.τ).loc Cert.FourierIn.main_arg0)
      ∧ r.2.mem ((c.tc : Thread Cert.FourierIn.nD Cert.FourierIn.τ).loc Cert.FourierIn.main_arg1) = m ((c.tc : Thread Cert.FourierIn.nD Cert.FourierIn.τ).loc Cert.FourierIn.main_arg1)
      ∧ r.2.mem ((c.tc : Thread Cert.FourierIn.nD Cert.FourierIn.τ).loc Cert.FourierIn.main_arg2) = m ((c.tc : Thread Cert.FourierIn.nD Cert.FourierIn.τ).loc Cert.FourierIn.main_arg2))
      ∧ r.2.sem = fun _ => 0)

def quiescent_FourierInIdeal [hFourierInIdeal : Cert.FourierInIdeal.Facts] : Prop :=
  ∀ (m : (ℓ : Loc Cert.FourierInIdeal.nD Cert.FourierInIdeal.τ Cert.FourierInIdeal.sig) → Buf (Elt Ideal) ℓ) (g : Dev Cert.FourierInIdeal.nD → PrngReg), Pre_FourierInIdeal m →
    θ_run (Cert.FourierInIdeal.defs (F := Ideal)) (onTc (τ := Cert.FourierInIdeal.τ) (Cert.FourierInIdeal.main (F := Ideal))) ⟨m, fun _ => 0, g⟩ (fun r => (∀ c : Dev Cert.FourierInIdeal.nD,
      r.2.mem ((c.tc : Thread Cert.FourierInIdeal.nD Cert.FourierInIdeal.τ).loc Cert.FourierInIdeal.main_arg0) = m ((c.tc : Thread Cert.FourierInIdeal.nD Cert.FourierInIdeal.τ).loc Cert.FourierInIdeal.main_arg0)
      ∧ r.2.mem ((c.tc : Thread Cert.FourierInIdeal.nD Cert.FourierInIdeal.τ).loc Cert.FourierInIdeal.main_arg1) = m ((c.tc : Thread Cert.FourierInIdeal.nD Cert.FourierInIdeal.τ).loc Cert.FourierInIdeal.main_arg1)
      ∧ r.2.mem ((c.tc : Thread Cert.FourierInIdeal.nD Cert.FourierInIdeal.τ).loc Cert.FourierInIdeal.main_arg2) = m ((c.tc : Thread Cert.FourierInIdeal.nD Cert.FourierInIdeal.τ).loc Cert.FourierInIdeal.main_arg2))
      ∧ r.2.sem = fun _ => 0)

def quiescent_FourierInReferenceIdeal [hFourierInReferenceIdeal : Cert.FourierInReferenceIdeal.Facts] : Prop :=
  ∀ (m : (ℓ : Loc Cert.FourierInReferenceIdeal.nD Cert.FourierInReferenceIdeal.τ Cert.FourierInReferenceIdeal.sig) → Buf (Elt Ideal) ℓ) (g : Dev Cert.FourierInReferenceIdeal.nD → PrngReg), Pre_FourierInReferenceIdeal m →
    θ_run (Cert.FourierInReferenceIdeal.defs (F := Ideal)) (onTc (τ := Cert.FourierInReferenceIdeal.τ) (Cert.FourierInReferenceIdeal.main (F := Ideal))) ⟨m, fun _ => 0, g⟩ (fun r => (∀ c : Dev Cert.FourierInReferenceIdeal.nD,
      r.2.mem ((c.tc : Thread Cert.FourierInReferenceIdeal.nD Cert.FourierInReferenceIdeal.τ).loc Cert.FourierInReferenceIdeal.main_arg0) = m ((c.tc : Thread Cert.FourierInReferenceIdeal.nD Cert.FourierInReferenceIdeal.τ).loc Cert.FourierInReferenceIdeal.main_arg0)
      ∧ r.2.mem ((c.tc : Thread Cert.FourierInReferenceIdeal.nD Cert.FourierInReferenceIdeal.τ).loc Cert.FourierInReferenceIdeal.main_arg1) = m ((c.tc : Thread Cert.FourierInReferenceIdeal.nD Cert.FourierInReferenceIdeal.τ).loc Cert.FourierInReferenceIdeal.main_arg1)
      ∧ r.2.mem ((c.tc : Thread Cert.FourierInReferenceIdeal.nD Cert.FourierInReferenceIdeal.τ).loc Cert.FourierInReferenceIdeal.main_arg2) = m ((c.tc : Thread Cert.FourierInReferenceIdeal.nD Cert.FourierInReferenceIdeal.τ).loc Cert.FourierInReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
      ∧ r.2.sem = fun _ => 0)

def quiescent_MlpSecond [hMlpSecond : Cert.MlpSecond.Facts] : Prop :=
  ∀ (m : (ℓ : Loc Cert.MlpSecond.nD Cert.MlpSecond.τ Cert.MlpSecond.sig) → Buf (Elt Bits) ℓ) (g : Dev Cert.MlpSecond.nD → PrngReg), Pre_MlpSecond m →
    θ_run (Cert.MlpSecond.defs (F := Bits)) (onTc (τ := Cert.MlpSecond.τ) (Cert.MlpSecond.main (F := Bits))) ⟨m, fun _ => 0, g⟩ (fun r => (∀ c : Dev Cert.MlpSecond.nD,
      r.2.mem ((c.tc : Thread Cert.MlpSecond.nD Cert.MlpSecond.τ).loc Cert.MlpSecond.main_arg0) = m ((c.tc : Thread Cert.MlpSecond.nD Cert.MlpSecond.τ).loc Cert.MlpSecond.main_arg0)
      ∧ r.2.mem ((c.tc : Thread Cert.MlpSecond.nD Cert.MlpSecond.τ).loc Cert.MlpSecond.main_arg1) = m ((c.tc : Thread Cert.MlpSecond.nD Cert.MlpSecond.τ).loc Cert.MlpSecond.main_arg1)
      ∧ r.2.mem ((c.tc : Thread Cert.MlpSecond.nD Cert.MlpSecond.τ).loc Cert.MlpSecond.main_arg2) = m ((c.tc : Thread Cert.MlpSecond.nD Cert.MlpSecond.τ).loc Cert.MlpSecond.main_arg2)
      ∧ r.2.mem ((c.tc : Thread Cert.MlpSecond.nD Cert.MlpSecond.τ).loc Cert.MlpSecond.main_arg3) = m ((c.tc : Thread Cert.MlpSecond.nD Cert.MlpSecond.τ).loc Cert.MlpSecond.main_arg3)
      ∧ r.2.mem ((c.tc : Thread Cert.MlpSecond.nD Cert.MlpSecond.τ).loc Cert.MlpSecond.main_arg4) = m ((c.tc : Thread Cert.MlpSecond.nD Cert.MlpSecond.τ).loc Cert.MlpSecond.main_arg4)
      ∧ r.2.mem ((c.tc : Thread Cert.MlpSecond.nD Cert.MlpSecond.τ).loc Cert.MlpSecond.main_arg5) = m ((c.tc : Thread Cert.MlpSecond.nD Cert.MlpSecond.τ).loc Cert.MlpSecond.main_arg5)
      ∧ r.2.mem ((c.tc : Thread Cert.MlpSecond.nD Cert.MlpSecond.τ).loc Cert.MlpSecond.main_arg6) = m ((c.tc : Thread Cert.MlpSecond.nD Cert.MlpSecond.τ).loc Cert.MlpSecond.main_arg6)
      ∧ r.2.mem ((c.tc : Thread Cert.MlpSecond.nD Cert.MlpSecond.τ).loc Cert.MlpSecond.main_arg7) = m ((c.tc : Thread Cert.MlpSecond.nD Cert.MlpSecond.τ).loc Cert.MlpSecond.main_arg7))
      ∧ r.2.sem = fun _ => 0)

def quiescent_MlpSecondIdeal [hMlpSecondIdeal : Cert.MlpSecondIdeal.Facts] : Prop :=
  ∀ (m : (ℓ : Loc Cert.MlpSecondIdeal.nD Cert.MlpSecondIdeal.τ Cert.MlpSecondIdeal.sig) → Buf (Elt Ideal) ℓ) (g : Dev Cert.MlpSecondIdeal.nD → PrngReg), Pre_MlpSecondIdeal m →
    θ_run (Cert.MlpSecondIdeal.defs (F := Ideal)) (onTc (τ := Cert.MlpSecondIdeal.τ) (Cert.MlpSecondIdeal.main (F := Ideal))) ⟨m, fun _ => 0, g⟩ (fun r => (∀ c : Dev Cert.MlpSecondIdeal.nD,
      r.2.mem ((c.tc : Thread Cert.MlpSecondIdeal.nD Cert.MlpSecondIdeal.τ).loc Cert.MlpSecondIdeal.main_arg0) = m ((c.tc : Thread Cert.MlpSecondIdeal.nD Cert.MlpSecondIdeal.τ).loc Cert.MlpSecondIdeal.main_arg0)
      ∧ r.2.mem ((c.tc : Thread Cert.MlpSecondIdeal.nD Cert.MlpSecondIdeal.τ).loc Cert.MlpSecondIdeal.main_arg1) = m ((c.tc : Thread Cert.MlpSecondIdeal.nD Cert.MlpSecondIdeal.τ).loc Cert.MlpSecondIdeal.main_arg1)
      ∧ r.2.mem ((c.tc : Thread Cert.MlpSecondIdeal.nD Cert.MlpSecondIdeal.τ).loc Cert.MlpSecondIdeal.main_arg2) = m ((c.tc : Thread Cert.MlpSecondIdeal.nD Cert.MlpSecondIdeal.τ).loc Cert.MlpSecondIdeal.main_arg2)
      ∧ r.2.mem ((c.tc : Thread Cert.MlpSecondIdeal.nD Cert.MlpSecondIdeal.τ).loc Cert.MlpSecondIdeal.main_arg3) = m ((c.tc : Thread Cert.MlpSecondIdeal.nD Cert.MlpSecondIdeal.τ).loc Cert.MlpSecondIdeal.main_arg3)
      ∧ r.2.mem ((c.tc : Thread Cert.MlpSecondIdeal.nD Cert.MlpSecondIdeal.τ).loc Cert.MlpSecondIdeal.main_arg4) = m ((c.tc : Thread Cert.MlpSecondIdeal.nD Cert.MlpSecondIdeal.τ).loc Cert.MlpSecondIdeal.main_arg4)
      ∧ r.2.mem ((c.tc : Thread Cert.MlpSecondIdeal.nD Cert.MlpSecondIdeal.τ).loc Cert.MlpSecondIdeal.main_arg5) = m ((c.tc : Thread Cert.MlpSecondIdeal.nD Cert.MlpSecondIdeal.τ).loc Cert.MlpSecondIdeal.main_arg5)
      ∧ r.2.mem ((c.tc : Thread Cert.MlpSecondIdeal.nD Cert.MlpSecondIdeal.τ).loc Cert.MlpSecondIdeal.main_arg6) = m ((c.tc : Thread Cert.MlpSecondIdeal.nD Cert.MlpSecondIdeal.τ).loc Cert.MlpSecondIdeal.main_arg6)
      ∧ r.2.mem ((c.tc : Thread Cert.MlpSecondIdeal.nD Cert.MlpSecondIdeal.τ).loc Cert.MlpSecondIdeal.main_arg7) = m ((c.tc : Thread Cert.MlpSecondIdeal.nD Cert.MlpSecondIdeal.τ).loc Cert.MlpSecondIdeal.main_arg7))
      ∧ r.2.sem = fun _ => 0)

def quiescent_MlpSecondReferenceIdeal [hMlpSecondReferenceIdeal : Cert.MlpSecondReferenceIdeal.Facts] : Prop :=
  ∀ (m : (ℓ : Loc Cert.MlpSecondReferenceIdeal.nD Cert.MlpSecondReferenceIdeal.τ Cert.MlpSecondReferenceIdeal.sig) → Buf (Elt Ideal) ℓ) (g : Dev Cert.MlpSecondReferenceIdeal.nD → PrngReg), Pre_MlpSecondReferenceIdeal m →
    θ_run (Cert.MlpSecondReferenceIdeal.defs (F := Ideal)) (onTc (τ := Cert.MlpSecondReferenceIdeal.τ) (Cert.MlpSecondReferenceIdeal.main (F := Ideal))) ⟨m, fun _ => 0, g⟩ (fun r => (∀ c : Dev Cert.MlpSecondReferenceIdeal.nD,
      r.2.mem ((c.tc : Thread Cert.MlpSecondReferenceIdeal.nD Cert.MlpSecondReferenceIdeal.τ).loc Cert.MlpSecondReferenceIdeal.main_arg0) = m ((c.tc : Thread Cert.MlpSecondReferenceIdeal.nD Cert.MlpSecondReferenceIdeal.τ).loc Cert.MlpSecondReferenceIdeal.main_arg0)
      ∧ r.2.mem ((c.tc : Thread Cert.MlpSecondReferenceIdeal.nD Cert.MlpSecondReferenceIdeal.τ).loc Cert.MlpSecondReferenceIdeal.main_arg1) = m ((c.tc : Thread Cert.MlpSecondReferenceIdeal.nD Cert.MlpSecondReferenceIdeal.τ).loc Cert.MlpSecondReferenceIdeal.main_arg1)
      ∧ r.2.mem ((c.tc : Thread Cert.MlpSecondReferenceIdeal.nD Cert.MlpSecondReferenceIdeal.τ).loc Cert.MlpSecondReferenceIdeal.main_arg2) = m ((c.tc : Thread Cert.MlpSecondReferenceIdeal.nD Cert.MlpSecondReferenceIdeal.τ).loc Cert.MlpSecondReferenceIdeal.main_arg2)
      ∧ r.2.mem ((c.tc : Thread Cert.MlpSecondReferenceIdeal.nD Cert.MlpSecondReferenceIdeal.τ).loc Cert.MlpSecondReferenceIdeal.main_arg3) = m ((c.tc : Thread Cert.MlpSecondReferenceIdeal.nD Cert.MlpSecondReferenceIdeal.τ).loc Cert.MlpSecondReferenceIdeal.main_arg3)
      ∧ r.2.mem ((c.tc : Thread Cert.MlpSecondReferenceIdeal.nD Cert.MlpSecondReferenceIdeal.τ).loc Cert.MlpSecondReferenceIdeal.main_arg4) = m ((c.tc : Thread Cert.MlpSecondReferenceIdeal.nD Cert.MlpSecondReferenceIdeal.τ).loc Cert.MlpSecondReferenceIdeal.main_arg4)
      ∧ r.2.mem ((c.tc : Thread Cert.MlpSecondReferenceIdeal.nD Cert.MlpSecondReferenceIdeal.τ).loc Cert.MlpSecondReferenceIdeal.main_arg5) = m ((c.tc : Thread Cert.MlpSecondReferenceIdeal.nD Cert.MlpSecondReferenceIdeal.τ).loc Cert.MlpSecondReferenceIdeal.main_arg5)
      ∧ r.2.mem ((c.tc : Thread Cert.MlpSecondReferenceIdeal.nD Cert.MlpSecondReferenceIdeal.τ).loc Cert.MlpSecondReferenceIdeal.main_arg6) = m ((c.tc : Thread Cert.MlpSecondReferenceIdeal.nD Cert.MlpSecondReferenceIdeal.τ).loc Cert.MlpSecondReferenceIdeal.main_arg6)
      ∧ r.2.mem ((c.tc : Thread Cert.MlpSecondReferenceIdeal.nD Cert.MlpSecondReferenceIdeal.τ).loc Cert.MlpSecondReferenceIdeal.main_arg7) = m ((c.tc : Thread Cert.MlpSecondReferenceIdeal.nD Cert.MlpSecondReferenceIdeal.τ).loc Cert.MlpSecondReferenceIdeal.main_arg7))
      ∧ r.2.sem = fun _ => 0)

def quiescent_MlpThird [hMlpThird : Cert.MlpThird.Facts] : Prop :=
  ∀ (m : (ℓ : Loc Cert.MlpThird.nD Cert.MlpThird.τ Cert.MlpThird.sig) → Buf (Elt Bits) ℓ) (g : Dev Cert.MlpThird.nD → PrngReg), Pre_MlpThird m →
    θ_run (Cert.MlpThird.defs (F := Bits)) (onTc (τ := Cert.MlpThird.τ) (Cert.MlpThird.main (F := Bits))) ⟨m, fun _ => 0, g⟩ (fun r => (∀ c : Dev Cert.MlpThird.nD,
      r.2.mem ((c.tc : Thread Cert.MlpThird.nD Cert.MlpThird.τ).loc Cert.MlpThird.main_arg0) = m ((c.tc : Thread Cert.MlpThird.nD Cert.MlpThird.τ).loc Cert.MlpThird.main_arg0)
      ∧ r.2.mem ((c.tc : Thread Cert.MlpThird.nD Cert.MlpThird.τ).loc Cert.MlpThird.main_arg1) = m ((c.tc : Thread Cert.MlpThird.nD Cert.MlpThird.τ).loc Cert.MlpThird.main_arg1)
      ∧ r.2.mem ((c.tc : Thread Cert.MlpThird.nD Cert.MlpThird.τ).loc Cert.MlpThird.main_arg2) = m ((c.tc : Thread Cert.MlpThird.nD Cert.MlpThird.τ).loc Cert.MlpThird.main_arg2)
      ∧ r.2.mem ((c.tc : Thread Cert.MlpThird.nD Cert.MlpThird.τ).loc Cert.MlpThird.main_arg3) = m ((c.tc : Thread Cert.MlpThird.nD Cert.MlpThird.τ).loc Cert.MlpThird.main_arg3)
      ∧ r.2.mem ((c.tc : Thread Cert.MlpThird.nD Cert.MlpThird.τ).loc Cert.MlpThird.main_arg4) = m ((c.tc : Thread Cert.MlpThird.nD Cert.MlpThird.τ).loc Cert.MlpThird.main_arg4)
      ∧ r.2.mem ((c.tc : Thread Cert.MlpThird.nD Cert.MlpThird.τ).loc Cert.MlpThird.main_arg5) = m ((c.tc : Thread Cert.MlpThird.nD Cert.MlpThird.τ).loc Cert.MlpThird.main_arg5)
      ∧ r.2.mem ((c.tc : Thread Cert.MlpThird.nD Cert.MlpThird.τ).loc Cert.MlpThird.main_arg6) = m ((c.tc : Thread Cert.MlpThird.nD Cert.MlpThird.τ).loc Cert.MlpThird.main_arg6))
      ∧ r.2.sem = fun _ => 0)

def quiescent_MlpThirdIdeal [hMlpThirdIdeal : Cert.MlpThirdIdeal.Facts] : Prop :=
  ∀ (m : (ℓ : Loc Cert.MlpThirdIdeal.nD Cert.MlpThirdIdeal.τ Cert.MlpThirdIdeal.sig) → Buf (Elt Ideal) ℓ) (g : Dev Cert.MlpThirdIdeal.nD → PrngReg), Pre_MlpThirdIdeal m →
    θ_run (Cert.MlpThirdIdeal.defs (F := Ideal)) (onTc (τ := Cert.MlpThirdIdeal.τ) (Cert.MlpThirdIdeal.main (F := Ideal))) ⟨m, fun _ => 0, g⟩ (fun r => (∀ c : Dev Cert.MlpThirdIdeal.nD,
      r.2.mem ((c.tc : Thread Cert.MlpThirdIdeal.nD Cert.MlpThirdIdeal.τ).loc Cert.MlpThirdIdeal.main_arg0) = m ((c.tc : Thread Cert.MlpThirdIdeal.nD Cert.MlpThirdIdeal.τ).loc Cert.MlpThirdIdeal.main_arg0)
      ∧ r.2.mem ((c.tc : Thread Cert.MlpThirdIdeal.nD Cert.MlpThirdIdeal.τ).loc Cert.MlpThirdIdeal.main_arg1) = m ((c.tc : Thread Cert.MlpThirdIdeal.nD Cert.MlpThirdIdeal.τ).loc Cert.MlpThirdIdeal.main_arg1)
      ∧ r.2.mem ((c.tc : Thread Cert.MlpThirdIdeal.nD Cert.MlpThirdIdeal.τ).loc Cert.MlpThirdIdeal.main_arg2) = m ((c.tc : Thread Cert.MlpThirdIdeal.nD Cert.MlpThirdIdeal.τ).loc Cert.MlpThirdIdeal.main_arg2)
      ∧ r.2.mem ((c.tc : Thread Cert.MlpThirdIdeal.nD Cert.MlpThirdIdeal.τ).loc Cert.MlpThirdIdeal.main_arg3) = m ((c.tc : Thread Cert.MlpThirdIdeal.nD Cert.MlpThirdIdeal.τ).loc Cert.MlpThirdIdeal.main_arg3)
      ∧ r.2.mem ((c.tc : Thread Cert.MlpThirdIdeal.nD Cert.MlpThirdIdeal.τ).loc Cert.MlpThirdIdeal.main_arg4) = m ((c.tc : Thread Cert.MlpThirdIdeal.nD Cert.MlpThirdIdeal.τ).loc Cert.MlpThirdIdeal.main_arg4)
      ∧ r.2.mem ((c.tc : Thread Cert.MlpThirdIdeal.nD Cert.MlpThirdIdeal.τ).loc Cert.MlpThirdIdeal.main_arg5) = m ((c.tc : Thread Cert.MlpThirdIdeal.nD Cert.MlpThirdIdeal.τ).loc Cert.MlpThirdIdeal.main_arg5)
      ∧ r.2.mem ((c.tc : Thread Cert.MlpThirdIdeal.nD Cert.MlpThirdIdeal.τ).loc Cert.MlpThirdIdeal.main_arg6) = m ((c.tc : Thread Cert.MlpThirdIdeal.nD Cert.MlpThirdIdeal.τ).loc Cert.MlpThirdIdeal.main_arg6))
      ∧ r.2.sem = fun _ => 0)

def quiescent_MlpThirdReferenceIdeal [hMlpThirdReferenceIdeal : Cert.MlpThirdReferenceIdeal.Facts] : Prop :=
  ∀ (m : (ℓ : Loc Cert.MlpThirdReferenceIdeal.nD Cert.MlpThirdReferenceIdeal.τ Cert.MlpThirdReferenceIdeal.sig) → Buf (Elt Ideal) ℓ) (g : Dev Cert.MlpThirdReferenceIdeal.nD → PrngReg), Pre_MlpThirdReferenceIdeal m →
    θ_run (Cert.MlpThirdReferenceIdeal.defs (F := Ideal)) (onTc (τ := Cert.MlpThirdReferenceIdeal.τ) (Cert.MlpThirdReferenceIdeal.main (F := Ideal))) ⟨m, fun _ => 0, g⟩ (fun r => (∀ c : Dev Cert.MlpThirdReferenceIdeal.nD,
      r.2.mem ((c.tc : Thread Cert.MlpThirdReferenceIdeal.nD Cert.MlpThirdReferenceIdeal.τ).loc Cert.MlpThirdReferenceIdeal.main_arg0) = m ((c.tc : Thread Cert.MlpThirdReferenceIdeal.nD Cert.MlpThirdReferenceIdeal.τ).loc Cert.MlpThirdReferenceIdeal.main_arg0)
      ∧ r.2.mem ((c.tc : Thread Cert.MlpThirdReferenceIdeal.nD Cert.MlpThirdReferenceIdeal.τ).loc Cert.MlpThirdReferenceIdeal.main_arg1) = m ((c.tc : Thread Cert.MlpThirdReferenceIdeal.nD Cert.MlpThirdReferenceIdeal.τ).loc Cert.MlpThirdReferenceIdeal.main_arg1)
      ∧ r.2.mem ((c.tc : Thread Cert.MlpThirdReferenceIdeal.nD Cert.MlpThirdReferenceIdeal.τ).loc Cert.MlpThirdReferenceIdeal.main_arg2) = m ((c.tc : Thread Cert.MlpThirdReferenceIdeal.nD Cert.MlpThirdReferenceIdeal.τ).loc Cert.MlpThirdReferenceIdeal.main_arg2)
      ∧ r.2.mem ((c.tc : Thread Cert.MlpThirdReferenceIdeal.nD Cert.MlpThirdReferenceIdeal.τ).loc Cert.MlpThirdReferenceIdeal.main_arg3) = m ((c.tc : Thread Cert.MlpThirdReferenceIdeal.nD Cert.MlpThirdReferenceIdeal.τ).loc Cert.MlpThirdReferenceIdeal.main_arg3)
      ∧ r.2.mem ((c.tc : Thread Cert.MlpThirdReferenceIdeal.nD Cert.MlpThirdReferenceIdeal.τ).loc Cert.MlpThirdReferenceIdeal.main_arg4) = m ((c.tc : Thread Cert.MlpThirdReferenceIdeal.nD Cert.MlpThirdReferenceIdeal.τ).loc Cert.MlpThirdReferenceIdeal.main_arg4)
      ∧ r.2.mem ((c.tc : Thread Cert.MlpThirdReferenceIdeal.nD Cert.MlpThirdReferenceIdeal.τ).loc Cert.MlpThirdReferenceIdeal.main_arg5) = m ((c.tc : Thread Cert.MlpThirdReferenceIdeal.nD Cert.MlpThirdReferenceIdeal.τ).loc Cert.MlpThirdReferenceIdeal.main_arg5)
      ∧ r.2.mem ((c.tc : Thread Cert.MlpThirdReferenceIdeal.nD Cert.MlpThirdReferenceIdeal.τ).loc Cert.MlpThirdReferenceIdeal.main_arg6) = m ((c.tc : Thread Cert.MlpThirdReferenceIdeal.nD Cert.MlpThirdReferenceIdeal.τ).loc Cert.MlpThirdReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v31) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_MlpInner_MlpInnerIdeal : Prop :=
  True

def algebraic_MlpInnerIdeal_MlpInnerReferenceIdeal [hMlpInnerIdeal : Cert.MlpInnerIdeal.Facts] [hMlpInnerReferenceIdeal : Cert.MlpInnerReferenceIdeal.Facts] : Prop :=
  ∀ (m : (ℓ : Loc Cert.MlpInnerIdeal.nD Cert.MlpInnerIdeal.τ Cert.MlpInnerIdeal.sig) → Buf (Elt Ideal) ℓ) (g : Dev Cert.MlpInnerIdeal.nD → PrngReg)
    (m' : (ℓ : Loc Cert.MlpInnerReferenceIdeal.nD Cert.MlpInnerReferenceIdeal.τ Cert.MlpInnerReferenceIdeal.sig) → Buf (Elt Ideal) ℓ) (g' : Dev Cert.MlpInnerReferenceIdeal.nD → PrngReg), Pre_MlpInnerIdeal m →
    (∀ c : Dev Cert.MlpInnerIdeal.nD,
      m' ((c.tc : Thread Cert.MlpInnerReferenceIdeal.nD Cert.MlpInnerReferenceIdeal.τ).loc Cert.MlpInnerReferenceIdeal.main_arg0) = m ((c.tc : Thread Cert.MlpInnerIdeal.nD Cert.MlpInnerIdeal.τ).loc Cert.MlpInnerIdeal.main_arg0)
      ∧ m' ((c.tc : Thread Cert.MlpInnerReferenceIdeal.nD Cert.MlpInnerReferenceIdeal.τ).loc Cert.MlpInnerReferenceIdeal.main_arg1) = m ((c.tc : Thread Cert.MlpInnerIdeal.nD Cert.MlpInnerIdeal.τ).loc Cert.MlpInnerIdeal.main_arg1)
      ∧ m' ((c.tc : Thread Cert.MlpInnerReferenceIdeal.nD Cert.MlpInnerReferenceIdeal.τ).loc Cert.MlpInnerReferenceIdeal.main_arg2) = m ((c.tc : Thread Cert.MlpInnerIdeal.nD Cert.MlpInnerIdeal.τ).loc Cert.MlpInnerIdeal.main_arg2)
      ∧ m' ((c.tc : Thread Cert.MlpInnerReferenceIdeal.nD Cert.MlpInnerReferenceIdeal.τ).loc Cert.MlpInnerReferenceIdeal.main_arg3) = m ((c.tc : Thread Cert.MlpInnerIdeal.nD Cert.MlpInnerIdeal.τ).loc Cert.MlpInnerIdeal.main_arg3)
      ∧ m' ((c.tc : Thread Cert.MlpInnerReferenceIdeal.nD Cert.MlpInnerReferenceIdeal.τ).loc Cert.MlpInnerReferenceIdeal.main_arg4) = m ((c.tc : Thread Cert.MlpInnerIdeal.nD Cert.MlpInnerIdeal.τ).loc Cert.MlpInnerIdeal.main_arg4)
      ∧ m' ((c.tc : Thread Cert.MlpInnerReferenceIdeal.nD Cert.MlpInnerReferenceIdeal.τ).loc Cert.MlpInnerReferenceIdeal.main_arg5) = m ((c.tc : Thread Cert.MlpInnerIdeal.nD Cert.MlpInnerIdeal.τ).loc Cert.MlpInnerIdeal.main_arg5)
      ∧ m' ((c.tc : Thread Cert.MlpInnerReferenceIdeal.nD Cert.MlpInnerReferenceIdeal.τ).loc Cert.MlpInnerReferenceIdeal.main_arg6) = m ((c.tc : Thread Cert.MlpInnerIdeal.nD Cert.MlpInnerIdeal.τ).loc Cert.MlpInnerIdeal.main_arg6)
      ∧ m' ((c.tc : Thread Cert.MlpInnerReferenceIdeal.nD Cert.MlpInnerReferenceIdeal.τ).loc Cert.MlpInnerReferenceIdeal.main_arg7) = m ((c.tc : Thread Cert.MlpInnerIdeal.nD Cert.MlpInnerIdeal.τ).loc Cert.MlpInnerIdeal.main_arg7)) →
    ∃ (v0 : (c : Dev Cert.MlpInnerIdeal.nD) → Buf (Elt Ideal) ((c.tc : Thread Cert.MlpInnerIdeal.nD Cert.MlpInnerIdeal.τ).loc Cert.MlpInnerIdeal.main_v4_0)) (v1 : (c : Dev Cert.MlpInnerIdeal.nD) → Buf (Elt Ideal) ((c.tc : Thread Cert.MlpInnerIdeal.nD Cert.MlpInnerIdeal.τ).loc Cert.MlpInnerIdeal.main_v4_1)) (v2 : (c : Dev Cert.MlpInnerIdeal.nD) → Buf (Elt Ideal) ((c.tc : Thread Cert.MlpInnerIdeal.nD Cert.MlpInnerIdeal.τ).loc Cert.MlpInnerIdeal.main_v4_2)) (v3 : (c : Dev Cert.MlpInnerIdeal.nD) → Buf (Elt Ideal) ((c.tc : Thread Cert.MlpInnerIdeal.nD Cert.MlpInnerIdeal.τ).loc Cert.MlpInnerIdeal.main_v4_3)) (v4 : (c : Dev Cert.MlpInnerIdeal.nD) → Buf (Elt Ideal) ((c.tc : Thread Cert.MlpInnerIdeal.nD Cert.MlpInnerIdeal.τ).loc Cert.MlpInnerIdeal.main_v4_4)),
      θ_run (Cert.MlpInnerIdeal.defs (F := Ideal)) (onTc (τ := Cert.MlpInnerIdeal.τ) (Cert.MlpInnerIdeal.main (F := Ideal))) ⟨m, fun _ => 0, g⟩ (fun r => ∀ c : Dev Cert.MlpInnerIdeal.nD,
          r.2.mem ((c.tc : Thread Cert.MlpInnerIdeal.nD Cert.MlpInnerIdeal.τ).loc Cert.MlpInnerIdeal.main_v4_0) = v0 c
          ∧ r.2.mem ((c.tc : Thread Cert.MlpInnerIdeal.nD Cert.MlpInnerIdeal.τ).loc Cert.MlpInnerIdeal.main_v4_1) = v1 c
          ∧ r.2.mem ((c.tc : Thread Cert.MlpInnerIdeal.nD Cert.MlpInnerIdeal.τ).loc Cert.MlpInnerIdeal.main_v4_2) = v2 c
          ∧ r.2.mem ((c.tc : Thread Cert.MlpInnerIdeal.nD Cert.MlpInnerIdeal.τ).loc Cert.MlpInnerIdeal.main_v4_3) = v3 c
          ∧ r.2.mem ((c.tc : Thread Cert.MlpInnerIdeal.nD Cert.MlpInnerIdeal.τ).loc Cert.MlpInnerIdeal.main_v4_4) = v4 c
          ∧ r.2.mem ((c.tc : Thread Cert.MlpInnerIdeal.nD Cert.MlpInnerIdeal.τ).loc Cert.MlpInnerIdeal.main_arg0) = m ((c.tc : Thread Cert.MlpInnerIdeal.nD Cert.MlpInnerIdeal.τ).loc Cert.MlpInnerIdeal.main_arg0)
          ∧ r.2.mem ((c.tc : Thread Cert.MlpInnerIdeal.nD Cert.MlpInnerIdeal.τ).loc Cert.MlpInnerIdeal.main_arg1) = m ((c.tc : Thread Cert.MlpInnerIdeal.nD Cert.MlpInnerIdeal.τ).loc Cert.MlpInnerIdeal.main_arg1)
          ∧ r.2.mem ((c.tc : Thread Cert.MlpInnerIdeal.nD Cert.MlpInnerIdeal.τ).loc Cert.MlpInnerIdeal.main_arg2) = m ((c.tc : Thread Cert.MlpInnerIdeal.nD Cert.MlpInnerIdeal.τ).loc Cert.MlpInnerIdeal.main_arg2)
          ∧ r.2.mem ((c.tc : Thread Cert.MlpInnerIdeal.nD Cert.MlpInnerIdeal.τ).loc Cert.MlpInnerIdeal.main_arg3) = m ((c.tc : Thread Cert.MlpInnerIdeal.nD Cert.MlpInnerIdeal.τ).loc Cert.MlpInnerIdeal.main_arg3)
          ∧ r.2.mem ((c.tc : Thread Cert.MlpInnerIdeal.nD Cert.MlpInnerIdeal.τ).loc Cert.MlpInnerIdeal.main_arg4) = m ((c.tc : Thread Cert.MlpInnerIdeal.nD Cert.MlpInnerIdeal.τ).loc Cert.MlpInnerIdeal.main_arg4)
          ∧ r.2.mem ((c.tc : Thread Cert.MlpInnerIdeal.nD Cert.MlpInnerIdeal.τ).loc Cert.MlpInnerIdeal.main_arg5) = m ((c.tc : Thread Cert.MlpInnerIdeal.nD Cert.MlpInnerIdeal.τ).loc Cert.MlpInnerIdeal.main_arg5)
          ∧ r.2.mem ((c.tc : Thread Cert.MlpInnerIdeal.nD Cert.MlpInnerIdeal.τ).loc Cert.MlpInnerIdeal.main_arg6) = m ((c.tc : Thread Cert.MlpInnerIdeal.nD Cert.MlpInnerIdeal.τ).loc Cert.MlpInnerIdeal.main_arg6)
          ∧ r.2.mem ((c.tc : Thread Cert.MlpInnerIdeal.nD Cert.MlpInnerIdeal.τ).loc Cert.MlpInnerIdeal.main_arg7) = m ((c.tc : Thread Cert.MlpInnerIdeal.nD Cert.MlpInnerIdeal.τ).loc Cert.MlpInnerIdeal.main_arg7))
      ∧ θ_run (Cert.MlpInnerReferenceIdeal.defs (F := Ideal)) (onTc (τ := Cert.MlpInnerReferenceIdeal.τ) (Cert.MlpInnerReferenceIdeal.main (F := Ideal))) ⟨m', fun _ => 0, g'⟩ (fun r => ∀ c : Dev Cert.MlpInnerReferenceIdeal.nD,
          r.2.mem ((c.tc : Thread Cert.MlpInnerReferenceIdeal.nD Cert.MlpInnerReferenceIdeal.τ).loc Cert.MlpInnerReferenceIdeal.main_v26) = v0 c
          ∧ r.2.mem ((c.tc : Thread Cert.MlpInnerReferenceIdeal.nD Cert.MlpInnerReferenceIdeal.τ).loc Cert.MlpInnerReferenceIdeal.main_v27) = v1 c
          ∧ r.2.mem ((c.tc : Thread Cert.MlpInnerReferenceIdeal.nD Cert.MlpInnerReferenceIdeal.τ).loc Cert.MlpInnerReferenceIdeal.main_v28) = v2 c
          ∧ r.2.mem ((c.tc : Thread Cert.MlpInnerReferenceIdeal.nD Cert.MlpInnerReferenceIdeal.τ).loc Cert.MlpInnerReferenceIdeal.main_v29) = v3 c
          ∧ r.2.mem ((c.tc : Thread Cert.MlpInnerReferenceIdeal.nD Cert.MlpInnerReferenceIdeal.τ).loc Cert.MlpInnerReferenceIdeal.main_v30) = v4 c
          ∧ r.2.mem ((c.tc : Thread Cert.MlpInnerReferenceIdeal.nD Cert.MlpInnerReferenceIdeal.τ).loc Cert.MlpInnerReferenceIdeal.main_arg0) = m' ((c.tc : Thread Cert.MlpInnerReferenceIdeal.nD Cert.MlpInnerReferenceIdeal.τ).loc Cert.MlpInnerReferenceIdeal.main_arg0)
          ∧ r.2.mem ((c.tc : Thread Cert.MlpInnerReferenceIdeal.nD Cert.MlpInnerReferenceIdeal.τ).loc Cert.MlpInnerReferenceIdeal.main_arg1) = m' ((c.tc : Thread Cert.MlpInnerReferenceIdeal.nD Cert.MlpInnerReferenceIdeal.τ).loc Cert.MlpInnerReferenceIdeal.main_arg1)
          ∧ r.2.mem ((c.tc : Thread Cert.MlpInnerReferenceIdeal.nD Cert.MlpInnerReferenceIdeal.τ).loc Cert.MlpInnerReferenceIdeal.main_arg2) = m' ((c.tc : Thread Cert.MlpInnerReferenceIdeal.nD Cert.MlpInnerReferenceIdeal.τ).loc Cert.MlpInnerReferenceIdeal.main_arg2)
          ∧ r.2.mem ((c.tc : Thread Cert.MlpInnerReferenceIdeal.nD Cert.MlpInnerReferenceIdeal.τ).loc Cert.MlpInnerReferenceIdeal.main_arg3) = m' ((c.tc : Thread Cert.MlpInnerReferenceIdeal.nD Cert.MlpInnerReferenceIdeal.τ).loc Cert.MlpInnerReferenceIdeal.main_arg3)
          ∧ r.2.mem ((c.tc : Thread Cert.MlpInnerReferenceIdeal.nD Cert.MlpInnerReferenceIdeal.τ).loc Cert.MlpInnerReferenceIdeal.main_arg4) = m' ((c.tc : Thread Cert.MlpInnerReferenceIdeal.nD Cert.MlpInnerReferenceIdeal.τ).loc Cert.MlpInnerReferenceIdeal.main_arg4)
          ∧ r.2.mem ((c.tc : Thread Cert.MlpInnerReferenceIdeal.nD Cert.MlpInnerReferenceIdeal.τ).loc Cert.MlpInnerReferenceIdeal.main_arg5) = m' ((c.tc : Thread Cert.MlpInnerReferenceIdeal.nD Cert.MlpInnerReferenceIdeal.τ).loc Cert.MlpInnerReferenceIdeal.main_arg5)
          ∧ r.2.mem ((c.tc : Thread Cert.MlpInnerReferenceIdeal.nD Cert.MlpInnerReferenceIdeal.τ).loc Cert.MlpInnerReferenceIdeal.main_arg6) = m' ((c.tc : Thread Cert.MlpInnerReferenceIdeal.nD Cert.MlpInnerReferenceIdeal.τ).loc Cert.MlpInnerReferenceIdeal.main_arg6)
          ∧ r.2.mem ((c.tc : Thread Cert.MlpInnerReferenceIdeal.nD Cert.MlpInnerReferenceIdeal.τ).loc Cert.MlpInnerReferenceIdeal.main_arg7) = m' ((c.tc : Thread Cert.MlpInnerReferenceIdeal.nD Cert.MlpInnerReferenceIdeal.τ).loc Cert.MlpInnerReferenceIdeal.main_arg7))

def preserves_FourierIn_FourierInIdeal : Prop :=
  True

def algebraic_FourierInIdeal_FourierInReferenceIdeal [hFourierInIdeal : Cert.FourierInIdeal.Facts] [hFourierInReferenceIdeal : Cert.FourierInReferenceIdeal.Facts] : Prop :=
  ∀ (m : (ℓ : Loc Cert.FourierInIdeal.nD Cert.FourierInIdeal.τ Cert.FourierInIdeal.sig) → Buf (Elt Ideal) ℓ) (g : Dev Cert.FourierInIdeal.nD → PrngReg)
    (m' : (ℓ : Loc Cert.FourierInReferenceIdeal.nD Cert.FourierInReferenceIdeal.τ Cert.FourierInReferenceIdeal.sig) → Buf (Elt Ideal) ℓ) (g' : Dev Cert.FourierInReferenceIdeal.nD → PrngReg), Pre_FourierInIdeal m →
    (∀ c : Dev Cert.FourierInIdeal.nD,
      m' ((c.tc : Thread Cert.FourierInReferenceIdeal.nD Cert.FourierInReferenceIdeal.τ).loc Cert.FourierInReferenceIdeal.main_arg0) = m ((c.tc : Thread Cert.FourierInIdeal.nD Cert.FourierInIdeal.τ).loc Cert.FourierInIdeal.main_arg0)
      ∧ m' ((c.tc : Thread Cert.FourierInReferenceIdeal.nD Cert.FourierInReferenceIdeal.τ).loc Cert.FourierInReferenceIdeal.main_arg1) = m ((c.tc : Thread Cert.FourierInIdeal.nD Cert.FourierInIdeal.τ).loc Cert.FourierInIdeal.main_arg1)
      ∧ m' ((c.tc : Thread Cert.FourierInReferenceIdeal.nD Cert.FourierInReferenceIdeal.τ).loc Cert.FourierInReferenceIdeal.main_arg2) = m ((c.tc : Thread Cert.FourierInIdeal.nD Cert.FourierInIdeal.τ).loc Cert.FourierInIdeal.main_arg2)) →
    ∃ (v0 : (c : Dev Cert.FourierInIdeal.nD) → Buf (Elt Ideal) ((c.tc : Thread Cert.FourierInIdeal.nD Cert.FourierInIdeal.τ).loc Cert.FourierInIdeal.main_v2)),
      θ_run (Cert.FourierInIdeal.defs (F := Ideal)) (onTc (τ := Cert.FourierInIdeal.τ) (Cert.FourierInIdeal.main (F := Ideal))) ⟨m, fun _ => 0, g⟩ (fun r => ∀ c : Dev Cert.FourierInIdeal.nD,
          r.2.mem ((c.tc : Thread Cert.FourierInIdeal.nD Cert.FourierInIdeal.τ).loc Cert.FourierInIdeal.main_v2) = v0 c
          ∧ r.2.mem ((c.tc : Thread Cert.FourierInIdeal.nD Cert.FourierInIdeal.τ).loc Cert.FourierInIdeal.main_arg0) = m ((c.tc : Thread Cert.FourierInIdeal.nD Cert.FourierInIdeal.τ).loc Cert.FourierInIdeal.main_arg0)
          ∧ r.2.mem ((c.tc : Thread Cert.FourierInIdeal.nD Cert.FourierInIdeal.τ).loc Cert.FourierInIdeal.main_arg1) = m ((c.tc : Thread Cert.FourierInIdeal.nD Cert.FourierInIdeal.τ).loc Cert.FourierInIdeal.main_arg1)
          ∧ r.2.mem ((c.tc : Thread Cert.FourierInIdeal.nD Cert.FourierInIdeal.τ).loc Cert.FourierInIdeal.main_arg2) = m ((c.tc : Thread Cert.FourierInIdeal.nD Cert.FourierInIdeal.τ).loc Cert.FourierInIdeal.main_arg2))
      ∧ θ_run (Cert.FourierInReferenceIdeal.defs (F := Ideal)) (onTc (τ := Cert.FourierInReferenceIdeal.τ) (Cert.FourierInReferenceIdeal.main (F := Ideal))) ⟨m', fun _ => 0, g'⟩ (fun r => ∀ c : Dev Cert.FourierInReferenceIdeal.nD,
          r.2.mem ((c.tc : Thread Cert.FourierInReferenceIdeal.nD Cert.FourierInReferenceIdeal.τ).loc Cert.FourierInReferenceIdeal.main_v16) = v0 c
          ∧ r.2.mem ((c.tc : Thread Cert.FourierInReferenceIdeal.nD Cert.FourierInReferenceIdeal.τ).loc Cert.FourierInReferenceIdeal.main_arg0) = m' ((c.tc : Thread Cert.FourierInReferenceIdeal.nD Cert.FourierInReferenceIdeal.τ).loc Cert.FourierInReferenceIdeal.main_arg0)
          ∧ r.2.mem ((c.tc : Thread Cert.FourierInReferenceIdeal.nD Cert.FourierInReferenceIdeal.τ).loc Cert.FourierInReferenceIdeal.main_arg1) = m' ((c.tc : Thread Cert.FourierInReferenceIdeal.nD Cert.FourierInReferenceIdeal.τ).loc Cert.FourierInReferenceIdeal.main_arg1)
          ∧ r.2.mem ((c.tc : Thread Cert.FourierInReferenceIdeal.nD Cert.FourierInReferenceIdeal.τ).loc Cert.FourierInReferenceIdeal.main_arg2) = m' ((c.tc : Thread Cert.FourierInReferenceIdeal.nD Cert.FourierInReferenceIdeal.τ).loc Cert.FourierInReferenceIdeal.main_arg2))

def preserves_Conv_ConvIdeal : Prop :=
  True

def preserves_MlpSecond_MlpSecondIdeal : Prop :=
  True

def algebraic_MlpSecondIdeal_MlpSecondReferenceIdeal [hMlpSecondIdeal : Cert.MlpSecondIdeal.Facts] [hMlpSecondReferenceIdeal : Cert.MlpSecondReferenceIdeal.Facts] : Prop :=
  ∀ (m : (ℓ : Loc Cert.MlpSecondIdeal.nD Cert.MlpSecondIdeal.τ Cert.MlpSecondIdeal.sig) → Buf (Elt Ideal) ℓ) (g : Dev Cert.MlpSecondIdeal.nD → PrngReg)
    (m' : (ℓ : Loc Cert.MlpSecondReferenceIdeal.nD Cert.MlpSecondReferenceIdeal.τ Cert.MlpSecondReferenceIdeal.sig) → Buf (Elt Ideal) ℓ) (g' : Dev Cert.MlpSecondReferenceIdeal.nD → PrngReg), Pre_MlpSecondIdeal m →
    (∀ c : Dev Cert.MlpSecondIdeal.nD,
      m' ((c.tc : Thread Cert.MlpSecondReferenceIdeal.nD Cert.MlpSecondReferenceIdeal.τ).loc Cert.MlpSecondReferenceIdeal.main_arg0) = m ((c.tc : Thread Cert.MlpSecondIdeal.nD Cert.MlpSecondIdeal.τ).loc Cert.MlpSecondIdeal.main_arg0)
      ∧ m' ((c.tc : Thread Cert.MlpSecondReferenceIdeal.nD Cert.MlpSecondReferenceIdeal.τ).loc Cert.MlpSecondReferenceIdeal.main_arg1) = m ((c.tc : Thread Cert.MlpSecondIdeal.nD Cert.MlpSecondIdeal.τ).loc Cert.MlpSecondIdeal.main_arg1)
      ∧ m' ((c.tc : Thread Cert.MlpSecondReferenceIdeal.nD Cert.MlpSecondReferenceIdeal.τ).loc Cert.MlpSecondReferenceIdeal.main_arg2) = m ((c.tc : Thread Cert.MlpSecondIdeal.nD Cert.MlpSecondIdeal.τ).loc Cert.MlpSecondIdeal.main_arg2)
      ∧ m' ((c.tc : Thread Cert.MlpSecondReferenceIdeal.nD Cert.MlpSecondReferenceIdeal.τ).loc Cert.MlpSecondReferenceIdeal.main_arg3) = m ((c.tc : Thread Cert.MlpSecondIdeal.nD Cert.MlpSecondIdeal.τ).loc Cert.MlpSecondIdeal.main_arg3)
      ∧ m' ((c.tc : Thread Cert.MlpSecondReferenceIdeal.nD Cert.MlpSecondReferenceIdeal.τ).loc Cert.MlpSecondReferenceIdeal.main_arg4) = m ((c.tc : Thread Cert.MlpSecondIdeal.nD Cert.MlpSecondIdeal.τ).loc Cert.MlpSecondIdeal.main_arg4)
      ∧ m' ((c.tc : Thread Cert.MlpSecondReferenceIdeal.nD Cert.MlpSecondReferenceIdeal.τ).loc Cert.MlpSecondReferenceIdeal.main_arg5) = m ((c.tc : Thread Cert.MlpSecondIdeal.nD Cert.MlpSecondIdeal.τ).loc Cert.MlpSecondIdeal.main_arg5)
      ∧ m' ((c.tc : Thread Cert.MlpSecondReferenceIdeal.nD Cert.MlpSecondReferenceIdeal.τ).loc Cert.MlpSecondReferenceIdeal.main_arg6) = m ((c.tc : Thread Cert.MlpSecondIdeal.nD Cert.MlpSecondIdeal.τ).loc Cert.MlpSecondIdeal.main_arg6)
      ∧ m' ((c.tc : Thread Cert.MlpSecondReferenceIdeal.nD Cert.MlpSecondReferenceIdeal.τ).loc Cert.MlpSecondReferenceIdeal.main_arg7) = m ((c.tc : Thread Cert.MlpSecondIdeal.nD Cert.MlpSecondIdeal.τ).loc Cert.MlpSecondIdeal.main_arg7)) →
    ∃ (v0 : (c : Dev Cert.MlpSecondIdeal.nD) → Buf (Elt Ideal) ((c.tc : Thread Cert.MlpSecondIdeal.nD Cert.MlpSecondIdeal.τ).loc Cert.MlpSecondIdeal.main_v4_0)) (v1 : (c : Dev Cert.MlpSecondIdeal.nD) → Buf (Elt Ideal) ((c.tc : Thread Cert.MlpSecondIdeal.nD Cert.MlpSecondIdeal.τ).loc Cert.MlpSecondIdeal.main_v4_1)) (v2 : (c : Dev Cert.MlpSecondIdeal.nD) → Buf (Elt Ideal) ((c.tc : Thread Cert.MlpSecondIdeal.nD Cert.MlpSecondIdeal.τ).loc Cert.MlpSecondIdeal.main_v4_2)) (v3 : (c : Dev Cert.MlpSecondIdeal.nD) → Buf (Elt Ideal) ((c.tc : Thread Cert.MlpSecondIdeal.nD Cert.MlpSecondIdeal.τ).loc Cert.MlpSecondIdeal.main_v4_3)) (v4 : (c : Dev Cert.MlpSecondIdeal.nD) → Buf (Elt Ideal) ((c.tc : Thread Cert.MlpSecondIdeal.nD Cert.MlpSecondIdeal.τ).loc Cert.MlpSecondIdeal.main_v4_4)),
      θ_run (Cert.MlpSecondIdeal.defs (F := Ideal)) (onTc (τ := Cert.MlpSecondIdeal.τ) (Cert.MlpSecondIdeal.main (F := Ideal))) ⟨m, fun _ => 0, g⟩ (fun r => ∀ c : Dev Cert.MlpSecondIdeal.nD,
          r.2.mem ((c.tc : Thread Cert.MlpSecondIdeal.nD Cert.MlpSecondIdeal.τ).loc Cert.MlpSecondIdeal.main_v4_0) = v0 c
          ∧ r.2.mem ((c.tc : Thread Cert.MlpSecondIdeal.nD Cert.MlpSecondIdeal.τ).loc Cert.MlpSecondIdeal.main_v4_1) = v1 c
          ∧ r.2.mem ((c.tc : Thread Cert.MlpSecondIdeal.nD Cert.MlpSecondIdeal.τ).loc Cert.MlpSecondIdeal.main_v4_2) = v2 c
          ∧ r.2.mem ((c.tc : Thread Cert.MlpSecondIdeal.nD Cert.MlpSecondIdeal.τ).loc Cert.MlpSecondIdeal.main_v4_3) = v3 c
          ∧ r.2.mem ((c.tc : Thread Cert.MlpSecondIdeal.nD Cert.MlpSecondIdeal.τ).loc Cert.MlpSecondIdeal.main_v4_4) = v4 c
          ∧ r.2.mem ((c.tc : Thread Cert.MlpSecondIdeal.nD Cert.MlpSecondIdeal.τ).loc Cert.MlpSecondIdeal.main_arg0) = m ((c.tc : Thread Cert.MlpSecondIdeal.nD Cert.MlpSecondIdeal.τ).loc Cert.MlpSecondIdeal.main_arg0)
          ∧ r.2.mem ((c.tc : Thread Cert.MlpSecondIdeal.nD Cert.MlpSecondIdeal.τ).loc Cert.MlpSecondIdeal.main_arg1) = m ((c.tc : Thread Cert.MlpSecondIdeal.nD Cert.MlpSecondIdeal.τ).loc Cert.MlpSecondIdeal.main_arg1)
          ∧ r.2.mem ((c.tc : Thread Cert.MlpSecondIdeal.nD Cert.MlpSecondIdeal.τ).loc Cert.MlpSecondIdeal.main_arg2) = m ((c.tc : Thread Cert.MlpSecondIdeal.nD Cert.MlpSecondIdeal.τ).loc Cert.MlpSecondIdeal.main_arg2)
          ∧ r.2.mem ((c.tc : Thread Cert.MlpSecondIdeal.nD Cert.MlpSecondIdeal.τ).loc Cert.MlpSecondIdeal.main_arg3) = m ((c.tc : Thread Cert.MlpSecondIdeal.nD Cert.MlpSecondIdeal.τ).loc Cert.MlpSecondIdeal.main_arg3)
          ∧ r.2.mem ((c.tc : Thread Cert.MlpSecondIdeal.nD Cert.MlpSecondIdeal.τ).loc Cert.MlpSecondIdeal.main_arg4) = m ((c.tc : Thread Cert.MlpSecondIdeal.nD Cert.MlpSecondIdeal.τ).loc Cert.MlpSecondIdeal.main_arg4)
          ∧ r.2.mem ((c.tc : Thread Cert.MlpSecondIdeal.nD Cert.MlpSecondIdeal.τ).loc Cert.MlpSecondIdeal.main_arg5) = m ((c.tc : Thread Cert.MlpSecondIdeal.nD Cert.MlpSecondIdeal.τ).loc Cert.MlpSecondIdeal.main_arg5)
          ∧ r.2.mem ((c.tc : Thread Cert.MlpSecondIdeal.nD Cert.MlpSecondIdeal.τ).loc Cert.MlpSecondIdeal.main_arg6) = m ((c.tc : Thread Cert.MlpSecondIdeal.nD Cert.MlpSecondIdeal.τ).loc Cert.MlpSecondIdeal.main_arg6)
          ∧ r.2.mem ((c.tc : Thread Cert.MlpSecondIdeal.nD Cert.MlpSecondIdeal.τ).loc Cert.MlpSecondIdeal.main_arg7) = m ((c.tc : Thread Cert.MlpSecondIdeal.nD Cert.MlpSecondIdeal.τ).loc Cert.MlpSecondIdeal.main_arg7))
      ∧ θ_run (Cert.MlpSecondReferenceIdeal.defs (F := Ideal)) (onTc (τ := Cert.MlpSecondReferenceIdeal.τ) (Cert.MlpSecondReferenceIdeal.main (F := Ideal))) ⟨m', fun _ => 0, g'⟩ (fun r => ∀ c : Dev Cert.MlpSecondReferenceIdeal.nD,
          r.2.mem ((c.tc : Thread Cert.MlpSecondReferenceIdeal.nD Cert.MlpSecondReferenceIdeal.τ).loc Cert.MlpSecondReferenceIdeal.main_v18) = v0 c
          ∧ r.2.mem ((c.tc : Thread Cert.MlpSecondReferenceIdeal.nD Cert.MlpSecondReferenceIdeal.τ).loc Cert.MlpSecondReferenceIdeal.main_v19) = v1 c
          ∧ r.2.mem ((c.tc : Thread Cert.MlpSecondReferenceIdeal.nD Cert.MlpSecondReferenceIdeal.τ).loc Cert.MlpSecondReferenceIdeal.main_v20) = v2 c
          ∧ r.2.mem ((c.tc : Thread Cert.MlpSecondReferenceIdeal.nD Cert.MlpSecondReferenceIdeal.τ).loc Cert.MlpSecondReferenceIdeal.main_v21) = v3 c
          ∧ r.2.mem ((c.tc : Thread Cert.MlpSecondReferenceIdeal.nD Cert.MlpSecondReferenceIdeal.τ).loc Cert.MlpSecondReferenceIdeal.main_v22) = v4 c
          ∧ r.2.mem ((c.tc : Thread Cert.MlpSecondReferenceIdeal.nD Cert.MlpSecondReferenceIdeal.τ).loc Cert.MlpSecondReferenceIdeal.main_arg0) = m' ((c.tc : Thread Cert.MlpSecondReferenceIdeal.nD Cert.MlpSecondReferenceIdeal.τ).loc Cert.MlpSecondReferenceIdeal.main_arg0)
          ∧ r.2.mem ((c.tc : Thread Cert.MlpSecondReferenceIdeal.nD Cert.MlpSecondReferenceIdeal.τ).loc Cert.MlpSecondReferenceIdeal.main_arg1) = m' ((c.tc : Thread Cert.MlpSecondReferenceIdeal.nD Cert.MlpSecondReferenceIdeal.τ).loc Cert.MlpSecondReferenceIdeal.main_arg1)
          ∧ r.2.mem ((c.tc : Thread Cert.MlpSecondReferenceIdeal.nD Cert.MlpSecondReferenceIdeal.τ).loc Cert.MlpSecondReferenceIdeal.main_arg2) = m' ((c.tc : Thread Cert.MlpSecondReferenceIdeal.nD Cert.MlpSecondReferenceIdeal.τ).loc Cert.MlpSecondReferenceIdeal.main_arg2)
          ∧ r.2.mem ((c.tc : Thread Cert.MlpSecondReferenceIdeal.nD Cert.MlpSecondReferenceIdeal.τ).loc Cert.MlpSecondReferenceIdeal.main_arg3) = m' ((c.tc : Thread Cert.MlpSecondReferenceIdeal.nD Cert.MlpSecondReferenceIdeal.τ).loc Cert.MlpSecondReferenceIdeal.main_arg3)
          ∧ r.2.mem ((c.tc : Thread Cert.MlpSecondReferenceIdeal.nD Cert.MlpSecondReferenceIdeal.τ).loc Cert.MlpSecondReferenceIdeal.main_arg4) = m' ((c.tc : Thread Cert.MlpSecondReferenceIdeal.nD Cert.MlpSecondReferenceIdeal.τ).loc Cert.MlpSecondReferenceIdeal.main_arg4)
          ∧ r.2.mem ((c.tc : Thread Cert.MlpSecondReferenceIdeal.nD Cert.MlpSecondReferenceIdeal.τ).loc Cert.MlpSecondReferenceIdeal.main_arg5) = m' ((c.tc : Thread Cert.MlpSecondReferenceIdeal.nD Cert.MlpSecondReferenceIdeal.τ).loc Cert.MlpSecondReferenceIdeal.main_arg5)
          ∧ r.2.mem ((c.tc : Thread Cert.MlpSecondReferenceIdeal.nD Cert.MlpSecondReferenceIdeal.τ).loc Cert.MlpSecondReferenceIdeal.main_arg6) = m' ((c.tc : Thread Cert.MlpSecondReferenceIdeal.nD Cert.MlpSecondReferenceIdeal.τ).loc Cert.MlpSecondReferenceIdeal.main_arg6)
          ∧ r.2.mem ((c.tc : Thread Cert.MlpSecondReferenceIdeal.nD Cert.MlpSecondReferenceIdeal.τ).loc Cert.MlpSecondReferenceIdeal.main_arg7) = m' ((c.tc : Thread Cert.MlpSecondReferenceIdeal.nD Cert.MlpSecondReferenceIdeal.τ).loc Cert.MlpSecondReferenceIdeal.main_arg7))

def preserves_MlpThird_MlpThirdIdeal : Prop :=
  True

def algebraic_MlpThirdIdeal_MlpThirdReferenceIdeal [hMlpThirdIdeal : Cert.MlpThirdIdeal.Facts] [hMlpThirdReferenceIdeal : Cert.MlpThirdReferenceIdeal.Facts] : Prop :=
  ∀ (m : (ℓ : Loc Cert.MlpThirdIdeal.nD Cert.MlpThirdIdeal.τ Cert.MlpThirdIdeal.sig) → Buf (Elt Ideal) ℓ) (g : Dev Cert.MlpThirdIdeal.nD → PrngReg)
    (m' : (ℓ : Loc Cert.MlpThirdReferenceIdeal.nD Cert.MlpThirdReferenceIdeal.τ Cert.MlpThirdReferenceIdeal.sig) → Buf (Elt Ideal) ℓ) (g' : Dev Cert.MlpThirdReferenceIdeal.nD → PrngReg), Pre_MlpThirdIdeal m →
    (∀ c : Dev Cert.MlpThirdIdeal.nD,
      m' ((c.tc : Thread Cert.MlpThirdReferenceIdeal.nD Cert.MlpThirdReferenceIdeal.τ).loc Cert.MlpThirdReferenceIdeal.main_arg0) = m ((c.tc : Thread Cert.MlpThirdIdeal.nD Cert.MlpThirdIdeal.τ).loc Cert.MlpThirdIdeal.main_arg0)
      ∧ m' ((c.tc : Thread Cert.MlpThirdReferenceIdeal.nD Cert.MlpThirdReferenceIdeal.τ).loc Cert.MlpThirdReferenceIdeal.main_arg1) = m ((c.tc : Thread Cert.MlpThirdIdeal.nD Cert.MlpThirdIdeal.τ).loc Cert.MlpThirdIdeal.main_arg1)
      ∧ m' ((c.tc : Thread Cert.MlpThirdReferenceIdeal.nD Cert.MlpThirdReferenceIdeal.τ).loc Cert.MlpThirdReferenceIdeal.main_arg2) = m ((c.tc : Thread Cert.MlpThirdIdeal.nD Cert.MlpThirdIdeal.τ).loc Cert.MlpThirdIdeal.main_arg2)
      ∧ m' ((c.tc : Thread Cert.MlpThirdReferenceIdeal.nD Cert.MlpThirdReferenceIdeal.τ).loc Cert.MlpThirdReferenceIdeal.main_arg3) = m ((c.tc : Thread Cert.MlpThirdIdeal.nD Cert.MlpThirdIdeal.τ).loc Cert.MlpThirdIdeal.main_arg3)
      ∧ m' ((c.tc : Thread Cert.MlpThirdReferenceIdeal.nD Cert.MlpThirdReferenceIdeal.τ).loc Cert.MlpThirdReferenceIdeal.main_arg4) = m ((c.tc : Thread Cert.MlpThirdIdeal.nD Cert.MlpThirdIdeal.τ).loc Cert.MlpThirdIdeal.main_arg4)
      ∧ m' ((c.tc : Thread Cert.MlpThirdReferenceIdeal.nD Cert.MlpThirdReferenceIdeal.τ).loc Cert.MlpThirdReferenceIdeal.main_arg5) = m ((c.tc : Thread Cert.MlpThirdIdeal.nD Cert.MlpThirdIdeal.τ).loc Cert.MlpThirdIdeal.main_arg5)
      ∧ m' ((c.tc : Thread Cert.MlpThirdReferenceIdeal.nD Cert.MlpThirdReferenceIdeal.τ).loc Cert.MlpThirdReferenceIdeal.main_arg6) = m ((c.tc : Thread Cert.MlpThirdIdeal.nD Cert.MlpThirdIdeal.τ).loc Cert.MlpThirdIdeal.main_arg6)) →
    ∃ (v0 : (c : Dev Cert.MlpThirdIdeal.nD) → Buf (Elt Ideal) ((c.tc : Thread Cert.MlpThirdIdeal.nD Cert.MlpThirdIdeal.τ).loc Cert.MlpThirdIdeal.main_v4_0)) (v1 : (c : Dev Cert.MlpThirdIdeal.nD) → Buf (Elt Ideal) ((c.tc : Thread Cert.MlpThirdIdeal.nD Cert.MlpThirdIdeal.τ).loc Cert.MlpThirdIdeal.main_v4_1)) (v2 : (c : Dev Cert.MlpThirdIdeal.nD) → Buf (Elt Ideal) ((c.tc : Thread Cert.MlpThirdIdeal.nD Cert.MlpThirdIdeal.τ).loc Cert.MlpThirdIdeal.main_v4_2)) (v3 : (c : Dev Cert.MlpThirdIdeal.nD) → Buf (Elt Ideal) ((c.tc : Thread Cert.MlpThirdIdeal.nD Cert.MlpThirdIdeal.τ).loc Cert.MlpThirdIdeal.main_v4_3)),
      θ_run (Cert.MlpThirdIdeal.defs (F := Ideal)) (onTc (τ := Cert.MlpThirdIdeal.τ) (Cert.MlpThirdIdeal.main (F := Ideal))) ⟨m, fun _ => 0, g⟩ (fun r => ∀ c : Dev Cert.MlpThirdIdeal.nD,
          r.2.mem ((c.tc : Thread Cert.MlpThirdIdeal.nD Cert.MlpThirdIdeal.τ).loc Cert.MlpThirdIdeal.main_v4_0) = v0 c
          ∧ r.2.mem ((c.tc : Thread Cert.MlpThirdIdeal.nD Cert.MlpThirdIdeal.τ).loc Cert.MlpThirdIdeal.main_v4_1) = v1 c
          ∧ r.2.mem ((c.tc : Thread Cert.MlpThirdIdeal.nD Cert.MlpThirdIdeal.τ).loc Cert.MlpThirdIdeal.main_v4_2) = v2 c
          ∧ r.2.mem ((c.tc : Thread Cert.MlpThirdIdeal.nD Cert.MlpThirdIdeal.τ).loc Cert.MlpThirdIdeal.main_v4_3) = v3 c
          ∧ r.2.mem ((c.tc : Thread Cert.MlpThirdIdeal.nD Cert.MlpThirdIdeal.τ).loc Cert.MlpThirdIdeal.main_arg0) = m ((c.tc : Thread Cert.MlpThirdIdeal.nD Cert.MlpThirdIdeal.τ).loc Cert.MlpThirdIdeal.main_arg0)
          ∧ r.2.mem ((c.tc : Thread Cert.MlpThirdIdeal.nD Cert.MlpThirdIdeal.τ).loc Cert.MlpThirdIdeal.main_arg1) = m ((c.tc : Thread Cert.MlpThirdIdeal.nD Cert.MlpThirdIdeal.τ).loc Cert.MlpThirdIdeal.main_arg1)
          ∧ r.2.mem ((c.tc : Thread Cert.MlpThirdIdeal.nD Cert.MlpThirdIdeal.τ).loc Cert.MlpThirdIdeal.main_arg2) = m ((c.tc : Thread Cert.MlpThirdIdeal.nD Cert.MlpThirdIdeal.τ).loc Cert.MlpThirdIdeal.main_arg2)
          ∧ r.2.mem ((c.tc : Thread Cert.MlpThirdIdeal.nD Cert.MlpThirdIdeal.τ).loc Cert.MlpThirdIdeal.main_arg3) = m ((c.tc : Thread Cert.MlpThirdIdeal.nD Cert.MlpThirdIdeal.τ).loc Cert.MlpThirdIdeal.main_arg3)
          ∧ r.2.mem ((c.tc : Thread Cert.MlpThirdIdeal.nD Cert.MlpThirdIdeal.τ).loc Cert.MlpThirdIdeal.main_arg4) = m ((c.tc : Thread Cert.MlpThirdIdeal.nD Cert.MlpThirdIdeal.τ).loc Cert.MlpThirdIdeal.main_arg4)
          ∧ r.2.mem ((c.tc : Thread Cert.MlpThirdIdeal.nD Cert.MlpThirdIdeal.τ).loc Cert.MlpThirdIdeal.main_arg5) = m ((c.tc : Thread Cert.MlpThirdIdeal.nD Cert.MlpThirdIdeal.τ).loc Cert.MlpThirdIdeal.main_arg5)
          ∧ r.2.mem ((c.tc : Thread Cert.MlpThirdIdeal.nD Cert.MlpThirdIdeal.τ).loc Cert.MlpThirdIdeal.main_arg6) = m ((c.tc : Thread Cert.MlpThirdIdeal.nD Cert.MlpThirdIdeal.τ).loc Cert.MlpThirdIdeal.main_arg6))
      ∧ θ_run (Cert.MlpThirdReferenceIdeal.defs (F := Ideal)) (onTc (τ := Cert.MlpThirdReferenceIdeal.τ) (Cert.MlpThirdReferenceIdeal.main (F := Ideal))) ⟨m', fun _ => 0, g'⟩ (fun r => ∀ c : Dev Cert.MlpThirdReferenceIdeal.nD,
          r.2.mem ((c.tc : Thread Cert.MlpThirdReferenceIdeal.nD Cert.MlpThirdReferenceIdeal.τ).loc Cert.MlpThirdReferenceIdeal.main_v18) = v0 c
          ∧ r.2.mem ((c.tc : Thread Cert.MlpThirdReferenceIdeal.nD Cert.MlpThirdReferenceIdeal.τ).loc Cert.MlpThirdReferenceIdeal.main_v19) = v1 c
          ∧ r.2.mem ((c.tc : Thread Cert.MlpThirdReferenceIdeal.nD Cert.MlpThirdReferenceIdeal.τ).loc Cert.MlpThirdReferenceIdeal.main_v20) = v2 c
          ∧ r.2.mem ((c.tc : Thread Cert.MlpThirdReferenceIdeal.nD Cert.MlpThirdReferenceIdeal.τ).loc Cert.MlpThirdReferenceIdeal.main_v21) = v3 c
          ∧ r.2.mem ((c.tc : Thread Cert.MlpThirdReferenceIdeal.nD Cert.MlpThirdReferenceIdeal.τ).loc Cert.MlpThirdReferenceIdeal.main_arg0) = m' ((c.tc : Thread Cert.MlpThirdReferenceIdeal.nD Cert.MlpThirdReferenceIdeal.τ).loc Cert.MlpThirdReferenceIdeal.main_arg0)
          ∧ r.2.mem ((c.tc : Thread Cert.MlpThirdReferenceIdeal.nD Cert.MlpThirdReferenceIdeal.τ).loc Cert.MlpThirdReferenceIdeal.main_arg1) = m' ((c.tc : Thread Cert.MlpThirdReferenceIdeal.nD Cert.MlpThirdReferenceIdeal.τ).loc Cert.MlpThirdReferenceIdeal.main_arg1)
          ∧ r.2.mem ((c.tc : Thread Cert.MlpThirdReferenceIdeal.nD Cert.MlpThirdReferenceIdeal.τ).loc Cert.MlpThirdReferenceIdeal.main_arg2) = m' ((c.tc : Thread Cert.MlpThirdReferenceIdeal.nD Cert.MlpThirdReferenceIdeal.τ).loc Cert.MlpThirdReferenceIdeal.main_arg2)
          ∧ r.2.mem ((c.tc : Thread Cert.MlpThirdReferenceIdeal.nD Cert.MlpThirdReferenceIdeal.τ).loc Cert.MlpThirdReferenceIdeal.main_arg3) = m' ((c.tc : Thread Cert.MlpThirdReferenceIdeal.nD Cert.MlpThirdReferenceIdeal.τ).loc Cert.MlpThirdReferenceIdeal.main_arg3)
          ∧ r.2.mem ((c.tc : Thread Cert.MlpThirdReferenceIdeal.nD Cert.MlpThirdReferenceIdeal.τ).loc Cert.MlpThirdReferenceIdeal.main_arg4) = m' ((c.tc : Thread Cert.MlpThirdReferenceIdeal.nD Cert.MlpThirdReferenceIdeal.τ).loc Cert.MlpThirdReferenceIdeal.main_arg4)
          ∧ r.2.mem ((c.tc : Thread Cert.MlpThirdReferenceIdeal.nD Cert.MlpThirdReferenceIdeal.τ).loc Cert.MlpThirdReferenceIdeal.main_arg5) = m' ((c.tc : Thread Cert.MlpThirdReferenceIdeal.nD Cert.MlpThirdReferenceIdeal.τ).loc Cert.MlpThirdReferenceIdeal.main_arg5)
          ∧ r.2.mem ((c.tc : Thread Cert.MlpThirdReferenceIdeal.nD Cert.MlpThirdReferenceIdeal.τ).loc Cert.MlpThirdReferenceIdeal.main_arg6) = m' ((c.tc : Thread Cert.MlpThirdReferenceIdeal.nD Cert.MlpThirdReferenceIdeal.τ).loc Cert.MlpThirdReferenceIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMlpInner : Cert.MlpInner.Facts) (hMlpInnerIdeal : Cert.MlpInnerIdeal.Facts) (hMlpInnerReferenceIdeal : Cert.MlpInnerReferenceIdeal.Facts) (hFourierIn : Cert.FourierIn.Facts) (hFourierInIdeal : Cert.FourierInIdeal.Facts) (hFourierInReferenceIdeal : Cert.FourierInReferenceIdeal.Facts) (hConv : Cert.Conv.Facts) (hConvIdeal : Cert.ConvIdeal.Facts) (hConvReferenceIdeal : Cert.ConvReferenceIdeal.Facts) (hMlpSecond : Cert.MlpSecond.Facts) (hMlpSecondIdeal : Cert.MlpSecondIdeal.Facts) (hMlpSecondReferenceIdeal : Cert.MlpSecondReferenceIdeal.Facts) (hMlpThird : Cert.MlpThird.Facts) (hMlpThirdIdeal : Cert.MlpThirdIdeal.Facts) (hMlpThirdReferenceIdeal : Cert.MlpThirdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_MlpInner (hMlpInner := hMlpInner)
    ∧ quiescent_MlpInnerIdeal (hMlpInnerIdeal := hMlpInnerIdeal)
    ∧ quiescent_MlpInnerReferenceIdeal (hMlpInnerReferenceIdeal := hMlpInnerReferenceIdeal)
    ∧ quiescent_FourierIn (hFourierIn := hFourierIn)
    ∧ quiescent_FourierInIdeal (hFourierInIdeal := hFourierInIdeal)
    ∧ quiescent_FourierInReferenceIdeal (hFourierInReferenceIdeal := hFourierInReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_MlpSecond (hMlpSecond := hMlpSecond)
    ∧ quiescent_MlpSecondIdeal (hMlpSecondIdeal := hMlpSecondIdeal)
    ∧ quiescent_MlpSecondReferenceIdeal (hMlpSecondReferenceIdeal := hMlpSecondReferenceIdeal)
    ∧ quiescent_MlpThird (hMlpThird := hMlpThird)
    ∧ quiescent_MlpThirdIdeal (hMlpThirdIdeal := hMlpThirdIdeal)
    ∧ quiescent_MlpThirdReferenceIdeal (hMlpThirdReferenceIdeal := hMlpThirdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_MlpInner_MlpInnerIdeal
    ∧ algebraic_MlpInnerIdeal_MlpInnerReferenceIdeal (hMlpInnerIdeal := hMlpInnerIdeal) (hMlpInnerReferenceIdeal := hMlpInnerReferenceIdeal)
    ∧ preserves_FourierIn_FourierInIdeal
    ∧ algebraic_FourierInIdeal_FourierInReferenceIdeal (hFourierInIdeal := hFourierInIdeal) (hFourierInReferenceIdeal := hFourierInReferenceIdeal)
    ∧ preserves_Conv_ConvIdeal
    ∧ preserves_MlpSecond_MlpSecondIdeal
    ∧ algebraic_MlpSecondIdeal_MlpSecondReferenceIdeal (hMlpSecondIdeal := hMlpSecondIdeal) (hMlpSecondReferenceIdeal := hMlpSecondReferenceIdeal)
    ∧ preserves_MlpThird_MlpThirdIdeal
    ∧ algebraic_MlpThirdIdeal_MlpThirdReferenceIdeal (hMlpThirdIdeal := hMlpThirdIdeal) (hMlpThirdReferenceIdeal := hMlpThirdReferenceIdeal)
-- ==== Pre_finite.lean ====
abbrev S16x2048x1024 : Shape := ⟨3, ![16, 2048, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  bcast_S_S4x256x256 : S_.BroadcastsInDim S4x256x256 (![] : Fin 0 → Fin S4x256x256.rank)

variable [Facts]

def fn {F : FTy → Type} [FloatOps F] (main_arg0 : FVec F S16x2048x1024 .f32) (main_arg1 : FVec F S1024 .f32) (main_arg2 : FVec F S1024x1024 .f32) (main_arg3 : FVec F S4x256x256 .f32) (main_arg4 : FVec F S1024 .f32) (main_arg5 : FVec F S1024x1024 .f32) : IVec S1024 1 × IVec S1024x1024 1 × IVec S4x256x256 1 × IVec S1024 1 × IVec S1024x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := Host.absf main_arg2
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x256x256 .f32 := Host.absf main_arg3
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg5
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  (main_v2, main_v5, main_v8, main_v11, main_v14)
-- ==== Kernel.lean ====
abbrev S16x2048x1024 : Shape := ⟨3, ![16, 2048, 1024]⟩
abbrev S1024 : Shape := ⟨1, ![1024]⟩
abbrev S1024x1024 : Shape := ⟨2, ![1024, 1024]⟩
abbrev S4x256x256 : Shape := ⟨3, ![4, 256, 256]⟩
abbrev S1x1024 : Shape := ⟨2, ![1, 1024]⟩
abbrev S4x256x1 : Shape := ⟨3, ![4, 256, 1]⟩
abbrev S1x256x256 : Shape := ⟨3, ![1, 256, 256]⟩
abbrev S1x256x1 : Shape := ⟨3, ![1, 256, 1]⟩
abbrev S256x1024 : Shape := ⟨2, ![256, 1024]⟩
abbrev S256x1 : Shape := ⟨2, ![256, 1]⟩
abbrev S256x256 : Shape := ⟨2, ![256, 256]⟩
abbrev S1x8x1024 : Shape := ⟨3, ![1, 8, 1024]⟩
abbrev S1x1024x1024 : Shape := ⟨3, ![1, 1024, 1024]⟩
abbrev S8x1024 : Shape := ⟨2, ![8, 1024]⟩
abbrev S8 : Shape := ⟨1, ![8]⟩
abbrev S8x1 : Shape := ⟨2, ![8, 1]⟩
abbrev S1024x1 : Shape := ⟨2, ![1024, 1]⟩
abbrev S1040x1024 : Shape := ⟨2, ![1040, 1024]⟩
abbrev S1040x1 : Shape := ⟨2, ![1040, 1]⟩
abbrev S1040x256 : Shape := ⟨2, ![1040, 256]⟩
abbrev S1024x256 : Shape := ⟨2, ![1024, 256]⟩

abbrev nBuf : Space → Nat
  | .hbm => 11
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x1024, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S4x256x1, .f32⟩
  | .hbm, ⟨9, _⟩ => ⟨S1024x1024, .bf16⟩
  | .hbm, ⟨10, _⟩ => ⟨S16x2048x1024, .f32⟩
  | .local _ .vmem, ⟨0, _⟩ => ⟨S1x256x256, .f32⟩
  | .local _ .vmem, ⟨1, _⟩ => ⟨S1x256x256, .f32⟩
  | .local _ .vmem, ⟨2, _⟩ => ⟨S1x256x1, .f32⟩
  | .local _ .vmem, ⟨3, _⟩ => ⟨S1x256x1, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x8x1024, .f32⟩
  | .local _ .vmem, ⟨9, _⟩ => ⟨S1x8x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024x1024, .f32⟩
  | .local _ .vmem, ⟨18, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S16x2048x1024 : Shape := ⟨3, ![16, 2048, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S16x2049x4x256 : Shape := ⟨4, ![16, 2049, 4, 256]⟩
abbrev S2048 : Shape := ⟨1, ![2048]⟩
abbrev S1x2048x1 : Shape := ⟨3, ![1, 2048, 1]⟩
abbrev S2048x1 : Shape := ⟨2, ![2048, 1]⟩
abbrev S2048x2 : Shape := ⟨2, ![2048, 2]⟩
abbrev S16x2048x256 : Shape := ⟨3, ![16, 2048, 256]⟩
abbrev S16x2048x1x256 : Shape := ⟨4, ![16, 2048, 1, 256]⟩
abbrev S4x256x16x2048 : Shape := ⟨4, ![4, 256, 16, 2048]⟩

abbrev nBuf : Space → Nat
  | .hbm => 280
  | .vmem => 0
  | .smem => 0
  | _ => 0

abbrev hbmTy0_0 (i : Nat) : BufTy := match i % 128 with
  | 0 => ⟨S16x2048x1024, .f32⟩
  | 1 => ⟨S1024, .f32⟩
  | 2 => ⟨S1024x1024, .f32⟩
  | 3 => ⟨S4x256x256, .f32⟩
  | 4 => ⟨S1024, .f32⟩
  | 5 => ⟨S1024x1024, .f32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S16x2048x1024, .f32⟩
  | 23 => ⟨S16x2048x4x256, .f32⟩
  | 24 => ⟨S_, .f32⟩
  | 25 => ⟨S_, .f32⟩
  | 26 => ⟨S16x2048x4x256, .f32⟩
  | 27 => ⟨S_, .i32⟩
  | 28 => ⟨S_, .f32⟩
  | 29 => ⟨S16x2049x4x256, .f32⟩
  | 30 => ⟨S2048, .i32⟩
  | 31 => ⟨S_, .i32⟩
  | 32 => ⟨S2048, .i32⟩
  | 33 => ⟨S2048, .i32⟩
  | 34 => ⟨S_, .i32⟩
  | 35 => ⟨S_, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S_, .i32⟩
  | 46 => ⟨S_, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S2048, .i32⟩
  | 54 => ⟨S2048, .f32⟩
  | 55 => ⟨S1x2048x1, .f32⟩
  | 56 => ⟨S_, .i32⟩
  | 57 => ⟨S2048, .i32⟩
  | 58 => ⟨S2048, .i1⟩
  | 59 => ⟨S_, .i32⟩
  | 60 => ⟨S2048, .i32⟩
  | 61 => ⟨S2048, .i32⟩
  | 62 => ⟨S2048, .i32⟩
  | 63 => ⟨S_, .i32⟩
  | 64 => ⟨S2048, .i32⟩
  | 65 => ⟨S2048, .i32⟩
  | 66 => ⟨S2048x1, .i32⟩
  | 67 => ⟨S2048x1, .i32⟩
  | 68 => ⟨S2048x2, .i32⟩
  | 69 => ⟨S16x2048x256, .f32⟩
  | 70 => ⟨S_, .i32⟩
  | 71 => ⟨S2048, .i32⟩
  | 72 => ⟨S2048, .i1⟩
  | 73 => ⟨S_, .i32⟩
  | 74 => ⟨S2048, .i32⟩
  | 75 => ⟨S2048, .i32⟩
  | 76 => ⟨S2048, .i32⟩
  | 77 => ⟨S_, .i32⟩
  | 78 => ⟨S2048, .i32⟩
  | 79 => ⟨S2048, .i32⟩
  | 80 => ⟨S2048x1, .i32⟩
  | 81 => ⟨S2048x1, .i32⟩
  | 82 => ⟨S2048x2, .i32⟩
  | 83 => ⟨S16x2048x256, .f32⟩
  | 84 => ⟨S16x2048x256, .f32⟩
  | 85 => ⟨S16x2048x256, .f32⟩
  | 86 => ⟨S16x2048x256, .f32⟩
  | 87 => ⟨S16x2048x1x256, .f32⟩
  | 88 => ⟨S16x2048x256, .f32⟩
  | 89 => ⟨S16x2048x256, .f32⟩
  | 90 => ⟨S_, .i32⟩
  | 91 => ⟨S2048, .i32⟩
  | 92 => ⟨S2048, .i32⟩
  | 93 => ⟨S_, .i32⟩
  | 94 => ⟨S_, .i32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S_, .i32⟩
  | 105 => ⟨S_, .i32⟩
  | 106 => ⟨S_, .i32⟩
  | 107 => ⟨S2048, .i32⟩
  | 108 => ⟨S2048, .i32⟩
  | 109 => ⟨S_, .i32⟩
  | 110 => ⟨S2048, .i32⟩
  | 111 => ⟨S2048, .i32⟩
  | 112 => ⟨S2048, .i32⟩
  | 113 => ⟨S2048, .f32⟩
  | 114 => ⟨S1x2048x1, .f32⟩
  | 115 => ⟨S_, .i32⟩
  | 116 => ⟨S2048, .i32⟩
  | 117 => ⟨S2048, .i1⟩
  | 118 => ⟨S_, .i32⟩
  | 119 => ⟨S2048, .i32⟩
  | 120 => ⟨S2048, .i32⟩
  | 121 => ⟨S2048, .i32⟩
  | 122 => ⟨S_, .i32⟩
  | 123 => ⟨S2048, .i32⟩
  | 124 => ⟨S2048, .i32⟩
  | 125 => ⟨S2048x1, .i32⟩
  | 126 => ⟨S2048x1, .i32⟩
  | 127 => ⟨S2048x2, .i32⟩
  | _ => ⟨S16x2048x1024, .f32⟩

abbrev hbmTy0_1 (i : Nat) : BufTy := match i % 128 with
  | 0 => ⟨S16x2048x256, .f32⟩
  | 1 => ⟨S_, .i32⟩
  | 2 => ⟨S2048, .i32⟩
  | 3 => ⟨S2048, .i1⟩
  | 4 => ⟨S_, .i32⟩
  | 5 => ⟨S2048, .i32⟩
  | 6 => ⟨S2048, .i32⟩
  | 7 => ⟨S2048, .i32⟩
  | 8 => ⟨S_, .i32⟩
  | 9 => ⟨S2048, .i32⟩
  | 10 => ⟨S2048, .i32⟩
  | 11 => ⟨S2048x1, .i32⟩
  | 12 => ⟨S2048x1, .i32⟩
  | 13 => ⟨S2048x2, .i32⟩
  | 14 => ⟨S16x2048x256, .f32⟩
  | 15 => ⟨S16x2048x256, .f32⟩
  | 16 => ⟨S16x2048x256, .f32⟩
  | 17 => ⟨S16x2048x256, .f32⟩
  | 18 => ⟨S16x2048x1x256, .f32⟩
  | 19 => ⟨S16x2048x256, .f32⟩
  | 20 => ⟨S16x2048x256, .f32⟩
  | 21 => ⟨S_, .i32⟩
  | 22 => ⟨S2048, .i32⟩
  | 23 => ⟨S2048, .i32⟩
  | 24 => ⟨S_, .i32⟩
  | 25 => ⟨S_, .i32⟩
  | 26 => ⟨S_, .i32⟩
  | 27 => ⟨S2048, .i32⟩
  | 28 => ⟨S2048, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S_, .i32⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S2048, .i32⟩
  | 44 => ⟨S2048, .f32⟩
  | 45 => ⟨S1x2048x1, .f32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048x1, .i32⟩
  | 57 => ⟨S2048x1, .i32⟩
  | 58 => ⟨S2048x2, .i32⟩
  | 59 => ⟨S16x2048x256, .f32⟩
  | 60 => ⟨S_, .i32⟩
  | 61 => ⟨S2048, .i32⟩
  | 62 => ⟨S2048, .i1⟩
  | 63 => ⟨S_, .i32⟩
  | 64 => ⟨S2048, .i32⟩
  | 65 => ⟨S2048, .i32⟩
  | 66 => ⟨S2048, .i32⟩
  | 67 => ⟨S_, .i32⟩
  | 68 => ⟨S2048, .i32⟩
  | 69 => ⟨S2048, .i32⟩
  | 70 => ⟨S2048x1, .i32⟩
  | 71 => ⟨S2048x1, .i32⟩
  | 72 => ⟨S2048x2, .i32⟩
  | 73 => ⟨S16x2048x256, .f32⟩
  | 74 => ⟨S16x2048x256, .f32⟩
  | 75 => ⟨S16x2048x256, .f32⟩
  | 76 => ⟨S16x2048x256, .f32⟩
  | 77 => ⟨S16x2048x1x256, .f32⟩
  | 78 => ⟨S16x2048x256, .f32⟩
  | 79 => ⟨S16x2048x256, .f32⟩
  | 80 => ⟨S_, .i32⟩
  | 81 => ⟨S2048, .i32⟩
  | 82 => ⟨S2048, .i32⟩
  | 83 => ⟨S_, .i32⟩
  | 84 => ⟨S_, .i32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i32⟩
  | 94 => ⟨S_, .i32⟩
  | 95 => ⟨S_, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S2048, .i32⟩
  | 103 => ⟨S2048, .f32⟩
  | 104 => ⟨S1x2048x1, .f32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S_, .i32⟩
  | 113 => ⟨S2048, .i32⟩
  | 114 => ⟨S2048, .i32⟩
  | 115 => ⟨S2048x1, .i32⟩
  | 116 => ⟨S2048x1, .i32⟩
  | 117 => ⟨S2048x2, .i32⟩
  | 118 => ⟨S16x2048x256, .f32⟩
  | 119 => ⟨S_, .i32⟩
  | 120 => ⟨S2048, .i32⟩
  | 121 => ⟨S2048, .i1⟩
  | 122 => ⟨S_, .i32⟩
  | 123 => ⟨S2048, .i32⟩
  | 124 => ⟨S2048, .i32⟩
  | 125 => ⟨S2048, .i32⟩
  | 126 => ⟨S_, .i32⟩
  | 127 => ⟨S2048, .i32⟩
  | _ => ⟨S16x2048x1024, .f32⟩

abbrev hbmTy0_2 (i : Nat) : BufTy := match i % 128 with
  | 0 => ⟨S2048, .i32⟩
  | 1 => ⟨S2048x1, .i32⟩
  | 2 => ⟨S2048x1, .i32⟩
  | 3 => ⟨S2048x2, .i32⟩
  | 4 => ⟨S16x2048x256, .f32⟩
  | 5 => ⟨S16x2048x256, .f32⟩
  | 6 => ⟨S16x2048x256, .f32⟩
  | 7 => ⟨S16x2048x256, .f32⟩
  | 8 => ⟨S16x2048x1x256, .f32⟩
  | 9 => ⟨S16x2048x256, .f32⟩
  | 10 => ⟨S16x2048x256, .f32⟩
  | 11 => ⟨S16x2048x1x256, .f32⟩
  | 12 => ⟨S16x2048x1x256, .f32⟩
  | 13 => ⟨S16x2048x1x256, .f32⟩
  | 14 => ⟨S16x2048x1x256, .f32⟩
  | 15 => ⟨S16x2048x4x256, .f32⟩
  | 16 => ⟨S4x256x16x2048, .f32⟩
  | 17 => ⟨S16x2048x4x256, .f32⟩
  | 18 => ⟨S16x2048x1024, .f32⟩
  | 19 => ⟨S1x1x1024, .f32⟩
  | 20 => ⟨S16x2048x1024, .f32⟩
  | 21 => ⟨S16x2048x1024, .f32⟩
  | 22 => ⟨S16x2048x1024, .f32⟩
  | 23 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_call0_cst : Ref sig .tc := ⟨.hbm, 24, rfl⟩
abbrev main_call0_call0_v0 : Ref sig .tc := ⟨.hbm, 25, rfl⟩
abbrev main_v15 : Ref sig .tc := ⟨.hbm, 26, rfl⟩
abbrev main_c : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_c_7 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_8 : Ref sig .tc := ⟨.hbm, 56, rfl⟩
abbrev main_v27 : Ref sig .tc := ⟨.hbm, 57, rfl⟩
abbrev main_v28 : Ref sig .tc := ⟨.hbm, 58, rfl⟩
abbrev main_c_9 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_10 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_11 : Ref sig .tc := ⟨.hbm, 70, rfl⟩
abbrev main_v38 : Ref sig .tc := ⟨.hbm, 71, rfl⟩
abbrev main_v39 : Ref sig .tc := ⟨.hbm, 72, rfl⟩
abbrev main_c_12 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_14 : Ref sig .tc := ⟨.hbm, 90, rfl⟩
abbrev main_v55 : Ref sig .tc := ⟨.hbm, 91, rfl⟩
abbrev main_v56 : Ref sig .tc := ⟨.hbm, 92, rfl⟩
abbrev main_c_15 : Ref sig .tc := ⟨.hbm, 93, rfl⟩
abbrev main_c_16 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v57 : Ref sig .tc := ⟨.hbm, 100, rfl⟩
abbrev main_c_17 : Ref sig .tc := ⟨.hbm, 101, rfl⟩
abbrev main_v58 : Ref sig .tc := ⟨.hbm, 102, rfl⟩
abbrev main_v59 : Ref sig .tc := ⟨.hbm, 103, rfl⟩
abbrev main_c_18 : Ref sig .tc := ⟨.hbm, 104, rfl⟩
abbrev main_c_19 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_20 : Ref sig .tc := ⟨.hbm, 115, rfl⟩
abbrev main_v64 : Ref sig .tc := ⟨.hbm, 116, rfl⟩
abbrev main_v65 : Ref sig .tc := ⟨.hbm, 117, rfl⟩
abbrev main_c_21 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_22 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_23 : Ref sig .tc := ⟨.hbm, 129, rfl⟩
abbrev main_v75 : Ref sig .tc := ⟨.hbm, 130, rfl⟩
abbrev main_v76 : Ref sig .tc := ⟨.hbm, 131, rfl⟩
abbrev main_c_24 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_c_25 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_c_26 : Ref sig .tc := ⟨.hbm, 149, rfl⟩
abbrev main_v92 : Ref sig .tc := ⟨.hbm, 150, rfl⟩
abbrev main_v93 : Ref sig .tc := ⟨.hbm, 151, rfl⟩
abbrev main_c_27 : Ref sig .tc := ⟨.hbm, 152, rfl⟩
abbrev main_c_28 : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_v94 : Ref sig .tc := ⟨.hbm, 159, rfl⟩
abbrev main_c_29 : Ref sig .tc := ⟨.hbm, 160, rfl⟩
abbrev main_v95 : Ref sig .tc := ⟨.hbm, 161, rfl⟩
abbrev main_v96 : Ref sig .tc := ⟨.hbm, 162, rfl⟩
abbrev main_c_30 : Ref sig .tc := ⟨.hbm, 163, rfl⟩
abbrev main_c_31 : Ref sig .tc := ⟨.hbm, 164, rfl⟩
abbrev main_call7_v0 : Ref sig .tc := ⟨.hbm, 165, rfl⟩
abbrev main_call7_v1 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_c_32 : Ref sig .tc := ⟨.hbm, 174, rfl⟩
abbrev main_v101 : Ref sig .tc := ⟨.hbm, 175, rfl⟩
abbrev main_v102 : Ref sig .tc := ⟨.hbm, 176, rfl⟩
abbrev main_c_33 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_c_34 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_c_35 : Ref sig .tc := ⟨.hbm, 188, rfl⟩
abbrev main_v112 : Ref sig .tc := ⟨.hbm, 189, rfl⟩
abbrev main_v113 : Ref sig .tc := ⟨.hbm, 190, rfl⟩
abbrev main_c_36 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_c_37 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_c_38 : Ref sig .tc := ⟨.hbm, 208, rfl⟩
abbrev main_v129 : Ref sig .tc := ⟨.hbm, 209, rfl⟩
abbrev main_v130 : Ref sig .tc := ⟨.hbm, 210, rfl⟩
abbrev main_c_39 : Ref sig .tc := ⟨.hbm, 211, rfl⟩
abbrev main_c_40 : Ref sig .tc := ⟨.hbm, 212, rfl⟩
abbrev main_call8_v0 : Ref sig .tc := ⟨.hbm, 213, rfl⟩
abbrev main_call8_v1 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_v131 : Ref sig .tc := ⟨.hbm, 218, rfl⟩
abbrev main_c_41 : Ref sig .tc := ⟨.hbm, 219, rfl⟩
abbrev main_v132 : Ref sig .tc := ⟨.hbm, 220, rfl⟩
abbrev main_v133 : Ref sig .tc := ⟨.hbm, 221, rfl⟩
abbrev main_c_42 : Ref sig .tc := ⟨.hbm, 222, rfl⟩
abbrev main_c_43 : Ref sig .tc := ⟨.hbm, 223, rfl⟩
abbrev main_call9_v0 : Ref sig .tc := ⟨.hbm, 224, rfl⟩
abbrev main_call9_v1 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_c_44 : Ref sig .tc := ⟨.hbm, 233, rfl⟩
abbrev main_v138 : Ref sig .tc := ⟨.hbm, 234, rfl⟩
abbrev main_v139 : Ref sig .tc := ⟨.hbm, 235, rfl⟩
abbrev main_c_45 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_c_46 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_c_47 : Ref sig .tc := ⟨.hbm, 247, rfl⟩
abbrev main_v149 : Ref sig .tc := ⟨.hbm, 248, rfl⟩
abbrev main_v150 : Ref sig .tc := ⟨.hbm, 249, rfl⟩
abbrev main_c_48 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_c_49 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩

abbrev nD : Nat := 1
abbrev τ : Topo := Topo.v7x

variable {F : FTy → Type} [FloatOps F]
-- ==== Mlp.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpReferenceIdeal.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x4096, .f32⟩
  | .hbm, ⟨22, _⟩ => ⟨S_, .f32⟩
  | .hbm, ⟨23, _⟩ => ⟨S16x2048x4096, .f32⟩
  | .hbm, ⟨24, _⟩ => ⟨S16x2048x4096, .f32⟩
  | .hbm, ⟨25, _⟩ => ⟨S16x2048x4096, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== MlpInner.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩
abbrev S32768x1024 : Shape := ⟨2, ![32768, 1024]⟩
abbrev S1x1024 : Shape := ⟨2, ![1, 1024]⟩
abbrev S32x2048 : Shape := ⟨2, ![32, 2048]⟩
abbrev S32x1024 : Shape := ⟨2, ![32, 1024]⟩
abbrev S32x4096 : Shape := ⟨2, ![32, 4096]⟩
abbrev S128x1024 : Shape := ⟨2, ![128, 1024]⟩
abbrev S1024x1 : Shape := ⟨2, ![1024, 1]⟩
abbrev S32x256 : Shape := ⟨2, ![32, 256]⟩

abbrev nBuf : Space → Nat
  | .hbm => 17
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x2048, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S32768x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S32768x1024, .f32⟩
  | .hbm, ⟨13, _⟩ => ⟨S1024x2048, .bf16⟩
  | .hbm, ⟨14, _⟩ => ⟨S1024x1024, .bf16⟩
  | .hbm, ⟨15, _⟩ => ⟨S1024x4096, .bf16⟩
  | .hbm, ⟨16, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S32x2048, .f32⟩
  | .local _ .vmem, ⟨6, _⟩ => ⟨S32x2048, .f32⟩
  | .local _ .vmem, ⟨7, _⟩ => ⟨S32x1024, .f32⟩
  | .local _ .vmem, ⟨8, _⟩ => ⟨S32x1024, .f32⟩
  | .local _ .vmem, ⟨9, _⟩ => ⟨S32x4096, .f32⟩
  | .local _ .vmem, ⟨10, _⟩ => ⟨S32x4096, .f32⟩
  | .local _ .vmem, ⟨11, _⟩ => ⟨S128x1024, .f32⟩
  | .local _ .vmem, ⟨12, _⟩ => ⟨S128x1024, .f32⟩
  | .local _ .vmem, ⟨13, _⟩ => ⟨S1024x1024, .f32⟩
  | .local _ .vmem, ⟨14, _⟩ => ⟨S1024x1024, .f32⟩
  | .local _ .vmem, ⟨15, _⟩ => ⟨S32x2048, .bf16⟩
  | .local _ .vmem, ⟨16, _⟩ => ⟨S32x2048, .bf16⟩
  | .local _ .vmem, ⟨17, _⟩ => ⟨S32x1024, .bf16⟩
  | .local _ .vmem, ⟨18, _⟩ => ⟨S32x1024, .bf16⟩
  | .local _ .vmem, ⟨19, _⟩ => ⟨S32x4096, .bf16⟩
  | .local _ .vmem, ⟨20, _⟩ => ⟨S32x4096, .bf16⟩
  | .local _ .vmem, ⟨21, _⟩ => ⟨S128x1024, .bf16⟩
  | .local _ .vmem, ⟨22, _⟩ => ⟨S128x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlpInnerReferenceIdeal.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S1024x4x256 : Shape := ⟨3, ![1024, 4, 256]⟩
abbrev S1024x4x1x256 : Shape := ⟨4, ![1024, 4, 1, 256]⟩
abbrev S1024x4x2x256 : Shape := ⟨4, ![1024, 4, 2, 256]⟩
abbrev S32768x1024 : Shape := ⟨2, ![32768, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x2048, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x4096, .f32⟩
  | .hbm, ⟨25, _⟩ => ⟨S_, .f32⟩
  | .hbm, ⟨26, _⟩ => ⟨S16x2048x4096, .f32⟩
  | .hbm, ⟨27, _⟩ => ⟨S16x2048x4096, .f32⟩
  | .hbm, ⟨28, _⟩ => ⟨S16x2048x4096, .f32⟩
  | .hbm, ⟨29, _⟩ => ⟨S16x2048x1024, .f32⟩
  | .hbm, ⟨30, _⟩ => ⟨S16x2048x1024, .f32⟩
  | .hbm, ⟨31, _⟩ => ⟨S1024x1024, .f32⟩
  | .hbm, ⟨32, _⟩ => ⟨S1024x1024, .f32⟩
  | .hbm, ⟨33, _⟩ => ⟨S1024x4x256, .f32⟩
  | .hbm, ⟨34, _⟩ => ⟨S1024x4x256, .f32⟩
  | .hbm, ⟨35, _⟩ => ⟨S1024x4x1x256, .f32⟩
  | .hbm, ⟨36, _⟩ => ⟨S1024x4x1x256, .f32⟩
  | .hbm, ⟨37, _⟩ => ⟨S1024x4x2x256, .f32⟩
  | .hbm, ⟨38, _⟩ => ⟨S1024x2048, .f32⟩
  | .hbm, ⟨39, _⟩ => ⟨S32768x1024, .f32⟩
  | .hbm, ⟨40, _⟩ => ⟨S1024x2048, .bf16⟩
  | .hbm, ⟨41, _⟩ => ⟨S1024x1024, .bf16⟩
  | .hbm, ⟨42, _⟩ => ⟨S1024x4096, .bf16⟩
  | .hbm, ⟨43, _⟩ => ⟨S4096x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== FourierIn.lean ====
abbrev S16x2048x1024 : Shape := ⟨3, ![16, 2048, 1024]⟩
abbrev S1024 : Shape := ⟨1, ![1024]⟩
abbrev S1024x1024 : Shape := ⟨2, ![1024, 1024]⟩
abbrev S1x1024 : Shape := ⟨2, ![1, 1024]⟩
abbrev S16x8x256x1024 : Shape := ⟨4, ![16, 8, 256, 1024]⟩
abbrev S1x1024x1024 : Shape := ⟨3, ![1, 1024, 1024]⟩
abbrev S1x8x128x1024 : Shape := ⟨4, ![1, 8, 128, 1024]⟩
abbrev S8x1024x128 : Shape := ⟨3, ![8, 1024, 128]⟩
abbrev S1024x1 : Shape := ⟨2, ![1024, 1]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 6
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16x8x256x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x8x128x1024, .bf16⟩
  | .local _ .vmem, ⟨5, _⟩ => ⟨S1x8x128x1024, .bf16⟩
  | .local _ .vmem, ⟨6, _⟩ => ⟨S8x1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FourierInReferenceIdeal.lean ====
abbrev S16x2048x1024 : Shape := ⟨3, ![16, 2048, 1024]⟩
abbrev S1024 : Shape := ⟨1, ![1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256x8x1024 : Shape := ⟨4, ![16, 256, 8, 1024]⟩
abbrev S16x8x256x1024 : Shape := ⟨4, ![16, 8, 256, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x1024, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x256x8x1024, .f32⟩
  | .hbm, ⟨21, _⟩ => ⟨S16x8x256x1024, .f32⟩
  | .hbm, ⟨22, _⟩ => ⟨S16x8x256x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Conv.lean ====
abbrev S16x2048x1024 : Shape := ⟨3, ![16, 2048, 1024]⟩
abbrev S1024 : Shape := ⟨1, ![1024]⟩
abbrev S1024x2048 : Shape := ⟨2, ![1024, 2048]⟩
abbrev S31x1024 : Shape := ⟨2, ![31, 1024]⟩
abbrev S1024x1024 : Shape := ⟨2, ![1024, 1024]⟩
abbrev S1024x4x256 : Shape := ⟨3, ![1024, 4, 256]⟩
abbrev S1024x4x1x256 : Shape := ⟨4, ![1024, 4, 1, 256]⟩
abbrev S1024x4x2x256 : Shape := ⟨4, ![1024, 4, 2, 256]⟩
abbrev S1x1024 : Shape := ⟨2, ![1, 1024]⟩
abbrev S31x8x128 : Shape := ⟨3, ![31, 8, 128]⟩
abbrev S31x16x128 : Shape := ⟨3, ![31, 16, 128]⟩
abbrev S1x16x1024 : Shape := ⟨3, ![1, 16, 1024]⟩
abbrev S1x1024x1024 : Shape := ⟨3, ![1, 1024, 1024]⟩
abbrev S132x64x128 : Shape := ⟨3, ![132, 64, 128]⟩
abbrev S544x16x128 : Shape := ⟨3, ![544, 16, 128]⟩
abbrev S128x64x128 : Shape := ⟨3, ![128, 64, 128]⟩
abbrev S16x1024 : Shape := ⟨2, ![16, 1024]⟩
abbrev S16 : Shape := ⟨1, ![16]⟩
abbrev S16x1 : Shape := ⟨2, ![16, 1]⟩
abbrev S1024x1 : Shape := ⟨2, ![1024, 1]⟩
abbrev S1056x1024 : Shape := ⟨2, ![1056, 1024]⟩
abbrev S1056x1 : Shape := ⟨2, ![1056, 1]⟩
abbrev S1024x512 : Shape := ⟨2, ![1024, 512]⟩
abbrev S1056x512 : Shape := ⟨2, ![1056, 512]⟩
abbrev S1056x256 : Shape := ⟨2, ![1056, 256]⟩
abbrev S1056x128 : Shape := ⟨2, ![1056, 128]⟩
abbrev S132x8x128 : Shape := ⟨3, ![132, 8, 128]⟩
abbrev S1x8x128 : Shape := ⟨3, ![1, 8, 128]⟩
abbrev S8x128 : Shape := ⟨2, ![8, 128]⟩
abbrev S16x128 : Shape := ⟨2, ![16, 128]⟩
abbrev S1x16x128 : Shape := ⟨3, ![1, 16, 128]⟩
abbrev S64x8x128 : Shape := ⟨3, ![64, 8, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 26
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2048, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x4x256, .f32⟩
  | .hbm, ⟨11, _⟩ => ⟨S1024x4x256, .f32⟩
  | .hbm, ⟨12, _⟩ => ⟨S1024x4x1x256, .f32⟩
  | .hbm, ⟨13, _⟩ => ⟨S1024x4x1x256, .f32⟩
  | .hbm, ⟨14, _⟩ => ⟨S1024x4x2x256, .f32⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x1024, .bf16⟩
  | .hbm, ⟨22, _⟩ => ⟨S31x8x128, .f32⟩
  | .hbm, ⟨23, _⟩ => ⟨S31x16x128, .f32⟩
  | .hbm, ⟨24, _⟩ => ⟨S31x16x128, .bf16⟩
  | .hbm, ⟨25, _⟩ => ⟨S16x2048x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x2048, .bf16⟩
  | .local _ .vmem, ⟨8, _⟩ => ⟨S31x16x128, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S132x64x128, .f32⟩
  | .local _ .vmem, ⟨16, _⟩ => ⟨S544x16x128, .bf16⟩
  | .local _ .vmem, ⟨17, _⟩ => ⟨S128x64x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_48 : BitVec 32 := 0#32
  let c68_i32 : BitVec 32 := 68#32
  let v140 : BitVec 32 := Scalar.addi c0_i32_48 c68_i32
  let c1_i32 : BitVec 32 := 1#32
  ⟨c0_i32_48, v140, c1_i32⟩
def k0_off1 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v256 : Index := Scalar.indexCast arg16
  let c0_140 : Index := 0#32
  let c0_141 : Index := 0#32
  ![v256.toNat, 0, 0]
def k0_off2 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_142 : BitVec 32 := 64#32
  let v259 : BitVec 32 := Scalar.addi arg16 c64_i32_142
  let v260 : Index := Scalar.indexCast v259
  let c0_143 : Index := 0#32
  let c0_144 : Index := 0#32
  ![v260.toNat, 0, 0]
def k0_off3 (k0_t1 : Fin k0_t1_loop.trips) (c0_i32_145 : BitVec 32) : Fin 3 → Nat :=
  let c0_i32_48 : BitVec 32 := 0#32
  let c1_i32 : BitVec 32 := 1#32
  let arg16 : BitVec 32 := Scf.iv c0_i32_48 c1_i32 k0_t1
  let c8_i32 : BitVec 32 := 8#32
  let v265 : BitVec 32 := Scalar.muli arg16 c8_i32
  let v266 : BitVec 32 := Scalar.addi v265 c0_i32_145
  let v267 : Index := Scalar.indexCast v266
  let c0_146 : Index := 0#32
  let c0_147 : Index := 0#32
  ![v267.toNat, 0, 0]
def k0_off4 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v271 : Index := Scalar.indexCast arg16
  let c1 : Index := 1#32
  let c0_148 : Index := 0#32
  ![v271.toNat, 1, 0]
def k0_off5 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_149 : BitVec 32 := 64#32
  let v274 : BitVec 32 := Scalar.addi arg16 c64_i32_149
  let v275 : Index := Scalar.indexCast v274
  let c1_150 : Index := 1#32
  let c0_151 : Index := 0#32
  ![v275.toNat, 1, 0]
def k0_off6 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v286 : Index := Scalar.indexCast arg16
  let c2 : Index := 2#32
  let c0_156 : Index := 0#32
  ![v286.toNat, 2, 0]
def k0_off7 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_157 : BitVec 32 := 64#32
  let v289 : BitVec 32 := Scalar.addi arg16 c64_i32_157
  let v290 : Index := Scalar.indexCast v289
  let c2_158 : Index := 2#32
  let c0_159 : Index := 0#32
  ![v290.toNat, 2, 0]
def k0_off8 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v301 : Index := Scalar.indexCast arg16
  let c3 : Index := 3#32
  let c0_163 : Index := 0#32
  ![v301.toNat, 3, 0]
def k0_off9 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_164 : BitVec 32 := 64#32
  let v304 : BitVec 32 := Scalar.addi arg16 c64_i32_164
  let v305 : Index := Scalar.indexCast v304
  let c3_165 : Index := 3#32
  let c0_166 : Index := 0#32
  ![v305.toNat, 3, 0]
def k0_off10 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v316 : Index := Scalar.indexCast arg16
  let c4 : Index := 4#32
  let c0_170 : Index := 0#32
  ![v316.toNat, 4, 0]
def k0_off11 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_171 : BitVec 32 := 64#32
  let v319 : BitVec 32 := Scalar.addi arg16 c64_i32_171
  let v320 : Index := Scalar.indexCast v319
  let c4_172 : Index := 4#32
  let c0_173 : Index := 0#32
  ![v320.toNat, 4, 0]
def k0_off12 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v331 : Index := Scalar.indexCast arg16
  let c5 : Index := 5#32
  let c0_177 : Index := 0#32
  ![v331.toNat, 5, 0]
def k0_off13 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_178 : BitVec 32 := 64#32
  let v334 : BitVec 32 := Scalar.addi arg16 c64_i32_178
  let v335 : Index := Scalar.indexCast v334
  let c5_179 : Index := 5#32
  let c0_180 : Index := 0#32
  ![v335.toNat, 5, 0]
def k0_off14 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v346 : Index := Scalar.indexCast arg16
  let c6 : Index := 6#32
  let c0_184 : Index := 0#32
  ![v346.toNat, 6, 0]
def k0_off15 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_185 : BitVec 32 := 64#32
  let v349 : BitVec 32 := Scalar.addi arg16 c64_i32_185
  let v350 : Index := Scalar.indexCast v349
  let c6_186 : Index := 6#32
  let c0_187 : Index := 0#32
  ![v350.toNat, 6, 0]
def k0_off16 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let v361 : Index := Scalar.indexCast arg16
  let c7 : Index := 7#32
  let c0_191 : Index := 0#32
  ![v361.toNat, 7, 0]
def k0_off17 (k0_t1 : Fin k0_t1_loop.trips) : Fin 3 → Nat :=
  let c0_i32_48 : BitVec 32 := 0#32
  let c1_i32 : BitVec 32 := 1#32
  let arg16 : BitVec 32 := Scf.iv c0_i32_48 c1_i32 k0_t1
  let c64_i32_192 : BitVec 32 := 64#32
  let v364 : BitVec 32 := Scalar.addi arg16 c64_i32_192
  let v365 : Index := Scalar.indexCast v364
  let c7_193 : Index := 7#32
  let c0_194 : Index := 0#32
  ![v365.toNat, 7, 0]
@[reducible] def k0_t2_loop : Scf.Loop 32 :=
  let c0_i32_50 : BitVec 32 := 0#32
  let c64_i32 : BitVec 32 := 64#32
  let v141 : BitVec 32 := Scalar.addi c0_i32_50 c64_i32
  let c1_i32_51 : BitVec 32 := 1#32
  ⟨c0_i32_50, v141, c1_i32_51⟩
def k0_off18 (k0_t2 : Fin k0_t2_loop.trips) (c0_i32_141 : BitVec 32) : Fin 3 → Nat :=
  let c0_i32_50 : BitVec 32 := 0#32
  let c1_i32_51 : BitVec 32 := 1#32
  let arg16 : BitVec 32 := Scf.iv c0_i32_50 c1_i32_51 k0_t2
  let c8_i32 : BitVec 32 := 8#32
  let v256 : BitVec 32 := Scalar.muli arg16 c8_i32
  let c1_i32_140 : BitVec 32 := 1#32
  let v257 : BitVec 32 := Scalar.addi v256 c1_i32_140
  let v258 : BitVec 32 := Scalar.addi v257 c0_i32_141
  let v259 : Index := Scalar.indexCast v258
  let c0_142 : Index := 0#32
  let c0_143 : Index := 0#32
  ![v259.toNat, 0, 0]
def k0_off19 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v596 : Index := Scalar.indexCast arg16
  let c0_287 : Index := 0#32
  let c0_288 : Index := 0#32
  ![v596.toNat, 0, 0]
def k0_off20 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_289 : BitVec 32 := 64#32
  let v601 : BitVec 32 := Scalar.addi arg16 c64_i32_289
  let v602 : Index := Scalar.indexCast v601
  let c0_290 : Index := 0#32
  let c0_291 : Index := 0#32
  ![v602.toNat, 0, 0]
def k0_off21 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v730 : Index := Scalar.indexCast arg16
  let c1_292 : Index := 1#32
  let c0_293 : Index := 0#32
  ![v730.toNat, 1, 0]
def k0_off22 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_294 : BitVec 32 := 64#32
  let v735 : BitVec 32 := Scalar.addi arg16 c64_i32_294
  let v736 : Index := Scalar.indexCast v735
  let c1_295 : Index := 1#32
  let c0_296 : Index := 0#32
  ![v736.toNat, 1, 0]
def k0_off23 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v864 : Index := Scalar.indexCast arg16
  let c2_297 : Index := 2#32
  let c0_298 : Index := 0#32
  ![v864.toNat, 2, 0]
def k0_off24 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_299 : BitVec 32 := 64#32
  let v869 : BitVec 32 := Scalar.addi arg16 c64_i32_299
  let v870 : Index := Scalar.indexCast v869
  let c2_300 : Index := 2#32
  let c0_301 : Index := 0#32
  ![v870.toNat, 2, 0]
def k0_off25 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v998 : Index := Scalar.indexCast arg16
  let c3_302 : Index := 3#32
  let c0_303 : Index := 0#32
  ![v998.toNat, 3, 0]
def k0_off26 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_304 : BitVec 32 := 64#32
  let v1003 : BitVec 32 := Scalar.addi arg16 c64_i32_304
  let v1004 : Index := Scalar.indexCast v1003
  let c3_305 : Index := 3#32
  let c0_306 : Index := 0#32
  ![v1004.toNat, 3, 0]
def k0_off27 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v1132 : Index := Scalar.indexCast arg16
  let c4_307 : Index := 4#32
  let c0_308 : Index := 0#32
  ![v1132.toNat, 4, 0]
def k0_off28 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_309 : BitVec 32 := 64#32
  let v1137 : BitVec 32 := Scalar.addi arg16 c64_i32_309
  let v1138 : Index := Scalar.indexCast v1137
  let c4_310 : Index := 4#32
  let c0_311 : Index := 0#32
  ![v1138.toNat, 4, 0]
def k0_off29 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v1266 : Index := Scalar.indexCast arg16
  let c5_312 : Index := 5#32
  let c0_313 : Index := 0#32
  ![v1266.toNat, 5, 0]
def k0_off30 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_314 : BitVec 32 := 64#32
  let v1271 : BitVec 32 := Scalar.addi arg16 c64_i32_314
  let v1272 : Index := Scalar.indexCast v1271
  let c5_315 : Index := 5#32
  let c0_316 : Index := 0#32
  ![v1272.toNat, 5, 0]
def k0_off31 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v1400 : Index := Scalar.indexCast arg16
  let c6_317 : Index := 6#32
  let c0_318 : Index := 0#32
  ![v1400.toNat, 6, 0]
def k0_off32 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_319 : BitVec 32 := 64#32
  let v1405 : BitVec 32 := Scalar.addi arg16 c64_i32_319
  let v1406 : Index := Scalar.indexCast v1405
  let c6_320 : Index := 6#32
  let c0_321 : Index := 0#32
  ![v1406.toNat, 6, 0]
def k0_off33 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let v1534 : Index := Scalar.indexCast arg16
  let c7_322 : Index := 7#32
  let c0_323 : Index := 0#32
  ![v1534.toNat, 7, 0]
def k0_off34 (k0_t2 : Fin k0_t2_loop.trips) : Fin 3 → Nat :=
  let c0_i32_50 : BitVec 32 := 0#32
  let c1_i32_51 : BitVec 32 := 1#32
  let arg16 : BitVec 32 := Scf.iv c0_i32_50 c1_i32_51 k0_t2
  let c64_i32_324 : BitVec 32 := 64#32
  let v1539 : BitVec 32 := Scalar.addi arg16 c64_i32_324
  let v1540 : Index := Scalar.indexCast v1539
  let c7_325 : Index := 7#32
  let c0_326 : Index := 0#32
  ![v1540.toNat, 7, 0]
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvReferenceIdeal.lean ====
abbrev S16x2048x1024 : Shape := ⟨3, ![16, 2048, 1024]⟩
abbrev S1024 : Shape := ⟨1, ![1024]⟩
abbrev S1024x2048 : Shape := ⟨2, ![1024, 2048]⟩
abbrev S31x1024 : Shape := ⟨2, ![31, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩
abbrev S16x2078x1024 : Shape := ⟨3, ![16, 2078, 1024]⟩
abbrev S1x1024 : Shape := ⟨2, ![1, 1024]⟩

abbrev nBuf : Space → Nat
  | .hbm => 298
  | .vmem => 0
  | .smem => 0
  | _ => 0

abbrev hbmTy0_0 (i : Nat) : BufTy := match i % 128 with
  | 0 => ⟨S16x2048x1024, .f32⟩
  | 1 => ⟨S1024, .f32⟩
  | 2 => ⟨S1024x2048, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x2048x2048, .f32⟩
  | 25 => ⟨S16x2048x1024, .f32⟩
  | 26 => ⟨S16x2048x1024, .f32⟩
  | 27 => ⟨S16x2048x1024, .f32⟩
  | 28 => ⟨S16x2048x1024, .f32⟩
  | 29 => ⟨S_, .f32⟩
  | 30 => ⟨S16x2048x1024, .f32⟩
  | 31 => ⟨S16x2048x1024, .f32⟩
  | 32 => ⟨S_, .f32⟩
  | 33 => ⟨S16x2048x1024, .f32⟩
  | 34 => ⟨S16x2048x1024, .f32⟩
  | 35 => ⟨S16x2048x1024, .f32⟩
  | 36 => ⟨S_, .i32⟩
  | 37 => ⟨S_, .f32⟩
  | 38 => ⟨S16x2078x1024, .f32⟩
  | 39 => ⟨S16x2048x1024, .f32⟩
  | 40 => ⟨S1x1024, .f32⟩
  | 41 => ⟨S1024, .f32⟩
  | 42 => ⟨S1x1x1024, .f32⟩
  | 43 => ⟨S16x2048x1024, .f32⟩
  | 44 => ⟨S16x2048x1024, .f32⟩
  | 45 => ⟨S16x2048x1024, .f32⟩
  | 46 => ⟨S1x1024, .f32⟩
  | 47 => ⟨S1024, .f32⟩
  | 48 => ⟨S1x1x1024, .f32⟩
  | 49 => ⟨S16x2048x1024, .f32⟩
  | 50 => ⟨S16x2048x1024, .f32⟩
  | 51 => ⟨S16x2048x1024, .f32⟩
  | 52 => ⟨S1x1024, .f32⟩
  | 53 => ⟨S1024, .f32⟩
  | 54 => ⟨S1x1x1024, .f32⟩
  | 55 => ⟨S16x2048x1024, .f32⟩
  | 56 => ⟨S16x2048x1024, .f32⟩
  | 57 => ⟨S16x2048x1024, .f32⟩
  | 58 => ⟨S1x1024, .f32⟩
  | 59 => ⟨S1024, .f32⟩
  | 60 => ⟨S1x1x1024, .f32⟩
  | 61 => ⟨S16x2048x1024, .f32⟩
  | 62 => ⟨S16x2048x1024, .f32⟩
  | 63 => ⟨S16x2048x1024, .f32⟩
  | 64 => ⟨S1x1024, .f32⟩
  | 65 => ⟨S1024, .f32⟩
  | 66 => ⟨S1x1x1024, .f32⟩
  | 67 => ⟨S16x2048x1024, .f32⟩
  | 68 => ⟨S16x2048x1024, .f32⟩
  | 69 => ⟨S16x2048x1024, .f32⟩
  | 70 => ⟨S1x1024, .f32⟩
  | 71 => ⟨S1024, .f32⟩
  | 72 => ⟨S1x1x1024, .f32⟩
  | 73 => ⟨S16x2048x1024, .f32⟩
  | 74 => ⟨S16x2048x1024, .f32⟩
  | 75 => ⟨S16x2048x1024, .f32⟩
  | 76 => ⟨S1x1024, .f32⟩
  | 77 => ⟨S1024, .f32⟩
  | 78 => ⟨S1x1x1024, .f32⟩
  | 79 => ⟨S16x2048x1024, .f32⟩
  | 80 => ⟨S16x2048x1024, .f32⟩
  | 81 => ⟨S16x2048x1024, .f32⟩
  | 82 => ⟨S1x1024, .f32⟩
  | 83 => ⟨S1024, .f32⟩
  | 84 => ⟨S1x1x1024, .f32⟩
  | 85 => ⟨S16x2048x1024, .f32⟩
  | 86 => ⟨S16x2048x1024, .f32⟩
  | 87 => ⟨S16x2048x1024, .f32⟩
  | 88 => ⟨S1x1024, .f32⟩
  | 89 => ⟨S1024, .f32⟩
  | 90 => ⟨S1x1x1024, .f32⟩
  | 91 => ⟨S16x2048x1024, .f32⟩
  | 92 => ⟨S16x2048x1024, .f32⟩
  | 93 => ⟨S16x2048x1024, .f32⟩
  | 94 => ⟨S1x1024, .f32⟩
  | 95 => ⟨S1024, .f32⟩
  | 96 => ⟨S1x1x1024, .f32⟩
  | 97 => ⟨S16x2048x1024, .f32⟩
  | 98 => ⟨S16x2048x1024, .f32⟩
  | 99 => ⟨S16x2048x1024, .f32⟩
  | 100 => ⟨S1x1024, .f32⟩
  | 101 => ⟨S1024, .f32⟩
  | 102 => ⟨S1x1x1024, .f32⟩
  | 103 => ⟨S16x2048x1024, .f32⟩
  | 104 => ⟨S16x2048x1024, .f32⟩
  | 105 => ⟨S16x2048x1024, .f32⟩
  | 106 => ⟨S1x1024, .f32⟩
  | 107 => ⟨S1024, .f32⟩
  | 108 => ⟨S1x1x1024, .f32⟩
  | 109 => ⟨S16x2048x1024, .f32⟩
  | 110 => ⟨S16x2048x1024, .f32⟩
  | 111 => ⟨S16x2048x1024, .f32⟩
  | 112 => ⟨S1x1024, .f32⟩
  | 113 => ⟨S1024, .f32⟩
  | 114 => ⟨S1x1x1024, .f32⟩
  | 115 => ⟨S16x2048x1024, .f32⟩
  | 116 => ⟨S16x2048x1024, .f32⟩
  | 117 => ⟨S16x2048x1024, .f32⟩
  | 118 => ⟨S1x1024, .f32⟩
  | 119 => ⟨S1024, .f32⟩
  | 120 => ⟨S1x1x1024, .f32⟩
  | 121 => ⟨S16x2048x1024, .f32⟩
  | 122 => ⟨S16x2048x1024, .f32⟩
  | 123 => ⟨S16x2048x1024, .f32⟩
  | 124 => ⟨S1x1024, .f32⟩
  | 125 => ⟨S1024, .f32⟩
  | 126 => ⟨S1x1x1024, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S1x1024, .f32⟩
  | 3 => ⟨S1024, .f32⟩
  | 4 => ⟨S1x1x1024, .f32⟩
  | 5 => ⟨S16x2048x1024, .f32⟩
  | 6 => ⟨S16x2048x1024, .f32⟩
  | 7 => ⟨S16x2048x1024, .f32⟩
  | 8 => ⟨S1x1024, .f32⟩
  | 9 => ⟨S1024, .f32⟩
  | 10 => ⟨S1x1x1024, .f32⟩
  | 11 => ⟨S16x2048x1024, .f32⟩
  | 12 => ⟨S16x2048x1024, .f32⟩
  | 13 => ⟨S16x2048x1024, .f32⟩
  | 14 => ⟨S1x1024, .f32⟩
  | 15 => ⟨S1024, .f32⟩
  | 16 => ⟨S1x1x1024, .f32⟩
  | 17 => ⟨S16x2048x1024, .f32⟩
  | 18 => ⟨S16x2048x1024, .f32⟩
  | 19 => ⟨S16x2048x1024, .f32⟩
  | 20 => ⟨S1x1024, .f32⟩
  | 21 => ⟨S1024, .f32⟩
  | 22 => ⟨S1x1x1024, .f32⟩
  | 23 => ⟨S16x2048x1024, .f32⟩
  | 24 => ⟨S16x2048x1024, .f32⟩
  | 25 => ⟨S16x2048x1024, .f32⟩
  | 26 => ⟨S1x1024, .f32⟩
  | 27 => ⟨S1024, .f32⟩
  | 28 => ⟨S1x1x1024, .f32⟩
  | 29 => ⟨S16x2048x1024, .f32⟩
  | 30 => ⟨S16x2048x1024, .f32⟩
  | 31 => ⟨S16x2048x1024, .f32⟩
  | 32 => ⟨S1x1024, .f32⟩
  | 33 => ⟨S1024, .f32⟩
  | 34 => ⟨S1x1x1024, .f32⟩
  | 35 => ⟨S16x2048x1024, .f32⟩
  | 36 => ⟨S16x2048x1024, .f32⟩
  | 37 => ⟨S16x2048x1024, .f32⟩
  | 38 => ⟨S1x1024, .f32⟩
  | 39 => ⟨S1024, .f32⟩
  | 40 => ⟨S1x1x1024, .f32⟩
  | 41 => ⟨S16x2048x1024, .f32⟩
  | 42 => ⟨S16x2048x1024, .f32⟩
  | 43 => ⟨S16x2048x1024, .f32⟩
  | 44 => ⟨S1x1024, .f32⟩
  | 45 => ⟨S1024, .f32⟩
  | 46 => ⟨S1x1x1024, .f32⟩
  | 47 => ⟨S16x2048x1024, .f32⟩
  | 48 => ⟨S16x2048x1024, .f32⟩
  | 49 => ⟨S16x2048x1024, .f32⟩
  | 50 => ⟨S1x1024, .f32⟩
  | 51 => ⟨S1024, .f32⟩
  | 52 => ⟨S1x1x1024, .f32⟩
  | 53 => ⟨S16x2048x1024, .f32⟩
  | 54 => ⟨S16x2048x1024, .f32⟩
  | 55 => ⟨S16x2048x1024, .f32⟩
  | 56 => ⟨S1x1024, .f32⟩
  | 57 => ⟨S1024, .f32⟩
  | 58 => ⟨S1x1x1024, .f32⟩
  | 59 => ⟨S16x2048x1024, .f32⟩
  | 60 => ⟨S16x2048x1024, .f32⟩
  | 61 => ⟨S16x2048x1024, .f32⟩
  | 62 => ⟨S1x1024, .f32⟩
  | 63 => ⟨S1024, .f32⟩
  | 64 => ⟨S1x1x1024, .f32⟩
  | 65 => ⟨S16x2048x1024, .f32⟩
  | 66 => ⟨S16x2048x1024, .f32⟩
  | 67 => ⟨S16x2048x1024, .f32⟩
  | 68 => ⟨S1x1024, .f32⟩
  | 69 => ⟨S1024, .f32⟩
  | 70 => ⟨S1x1x1024, .f32⟩
  | 71 => ⟨S16x2048x1024, .f32⟩
  | 72 => ⟨S16x2048x1024, .f32⟩
  | 73 => ⟨S16x2048x1024, .f32⟩
  | 74 => ⟨S1x1024, .f32⟩
  | 75 => ⟨S1024, .f32⟩
  | 76 => ⟨S1x1x1024, .f32⟩
  | 77 => ⟨S16x2048x1024, .f32⟩
  | 78 => ⟨S16x2048x1024, .f32⟩
  | 79 => ⟨S16x2048x1024, .f32⟩
  | 80 => ⟨S1x1024, .f32⟩
  | 81 => ⟨S1024, .f32⟩
  | 82 => ⟨S1x1x1024, .f32⟩
  | 83 => ⟨S16x2048x1024, .f32⟩
  | 84 => ⟨S16x2048x1024, .f32⟩
  | 85 => ⟨S16x2048x1024, .f32⟩
  | 86 => ⟨S1x1024, .f32⟩
  | 87 => ⟨S1024, .f32⟩
  | 88 => ⟨S1x1x1024, .f32⟩
  | 89 => ⟨S16x2048x1024, .f32⟩
  | 90 => ⟨S16x2048x1024, .f32⟩
  | 91 => ⟨S16x2048x1024, .f32⟩
  | 92 => ⟨S1x1024, .f32⟩
  | 93 => ⟨S1024, .f32⟩
  | 94 => ⟨S1x1x1024, .f32⟩
  | 95 => ⟨S16x2048x1024, .f32⟩
  | 96 => ⟨S16x2048x1024, .f32⟩
  | 97 => ⟨S16x2048x1024, .f32⟩
  | 98 => ⟨S16x2048x1024, .f32⟩
  | 99 => ⟨S16x2048x1024, .f32⟩
  | 100 => ⟨S16x2048x1024, .f32⟩
  | 101 => ⟨S16x2048x1024, .f32⟩
  | 102 => ⟨S16x2048x1024, .f32⟩
  | 103 => ⟨S16x2048x1024, .f32⟩
  | 104 => ⟨S16x2048x1024, .f32⟩
  | 105 => ⟨S16x2048x1024, .f32⟩
  | 106 => ⟨S16x2048x1024, .f32⟩
  | 107 => ⟨S16x2048x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S16x2048x1024, .f32⟩
  | 113 => ⟨S16x2048x1024, .f32⟩
  | 114 => ⟨S16x2048x1024, .f32⟩
  | 115 => ⟨S16x2048x1024, .f32⟩
  | 116 => ⟨S16x2048x1024, .f32⟩
  | 117 => ⟨S16x2048x1024, .f32⟩
  | 118 => ⟨S16x2048x1024, .f32⟩
  | 119 => ⟨S16x2048x1024, .f32⟩
  | 120 => ⟨S16x2048x1024, .f32⟩
  | 121 => ⟨S16x2048x1024, .f32⟩
  | 122 => ⟨S16x2048x1024, .f32⟩
  | 123 => ⟨S16x2048x1024, .f32⟩
  | 124 => ⟨S16x2048x1024, .f32⟩
  | 125 => ⟨S16x2048x1024, .f32⟩
  | 126 => ⟨S16x2048x1024, .f32⟩
  | 127 => ⟨S1x1x1024, .f32⟩
  | _ => ⟨S16x2048x1024, .f32⟩

abbrev hbmTy0_2 (i : Nat) : BufTy := match i % 128 with
  | 0 => ⟨S16x2048x1024, .f32⟩
  | 1 => ⟨S16x2048x1024, .f32⟩
  | 2 => ⟨S_, .f32⟩
  | 3 => ⟨S16x2048, .f32⟩
  | 4 => ⟨S16x2048x1, .f32⟩
  | 5 => ⟨S_, .f32⟩
  | 6 => ⟨S16x2048x1, .f32⟩
  | 7 => ⟨S16x2048x1, .f32⟩
  | 8 => ⟨S16x2048x1024, .f32⟩
  | 9 => ⟨S16x2048x1024, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S16x2048x1024, .f32⟩
  | 18 => ⟨S16x2048x1024, .f32⟩
  | 19 => ⟨S_, .f32⟩
  | 20 => ⟨S16x2048x1, .f32⟩
  | 21 => ⟨S16x2048x1, .f32⟩
  | 22 => ⟨S16x2048x1, .f32⟩
  | 23 => ⟨S16x2048x1024, .f32⟩
  | 24 => ⟨S16x2048x1024, .f32⟩
  | 25 => ⟨S1x1x1024, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | 31 => ⟨S16x2048x1024, .f32⟩
  | 32 => ⟨S16x2048x1024, .f32⟩
  | 33 => ⟨S_, .f32⟩
  | 34 => ⟨S16x2048x1024, .f32⟩
  | 35 => ⟨S16x2048x1024, .f32⟩
  | 36 => ⟨S_, .f32⟩
  | 37 => ⟨S16x2048x1024, .f32⟩
  | 38 => ⟨S16x2048x1024, .f32⟩
  | 39 => ⟨S16x2048x1024, .f32⟩
  | 40 => ⟨S16x2048x1024, .f32⟩
  | 41 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_cst_4 : Ref sig .tc := ⟨.hbm, 258, rfl⟩
abbrev main_v243 : Ref sig .tc := ⟨.hbm, 259, rfl⟩
abbrev main_v244 : Ref sig .tc := ⟨.hbm, 260, rfl⟩
abbrev main_cst_5 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_cst_6 : Ref sig .tc := ⟨.hbm, 267, rfl⟩
abbrev main_v250 : Ref sig .tc := ⟨.hbm, 268, rfl⟩
abbrev main_v251 : Ref sig .tc := ⟨.hbm, 269, rfl⟩
abbrev main_cst_7 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_cst_8 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_call1_v0 : Ref sig .tc := ⟨.hbm, 287, rfl⟩
abbrev main_call1_v1 : Ref sig .tc := ⟨.hbm, 288, rfl⟩
abbrev main_call1_cst : Ref sig .tc := ⟨.hbm, 289, rfl⟩
abbrev main_call1_v2 : Ref sig .tc := ⟨.hbm, 290, rfl⟩
abbrev main_call1_v3 : Ref sig .tc := ⟨.hbm, 291, rfl⟩
abbrev main_call1_cst_0 : Ref sig .tc := ⟨.hbm, 292, rfl⟩
abbrev main_call1_v4 : Ref sig .tc := ⟨.hbm, 293, rfl⟩
abbrev main_call1_v5 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩

abbrev nD : Nat := 1
abbrev τ : Topo := Topo.v7x

variable {F : FTy → Type} [FloatOps F]
-- ==== MlpSecond.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S32768x1024 : Shape := ⟨2, ![32768, 1024]⟩
abbrev S1x1024 : Shape := ⟨2, ![1, 1024]⟩
abbrev S32x1024 : Shape := ⟨2, ![32, 1024]⟩
abbrev S32x4096 : Shape := ⟨2, ![32, 4096]⟩
abbrev S128x1024 : Shape := ⟨2, ![128, 1024]⟩
abbrev S1024x1 : Shape := ⟨2, ![1024, 1]⟩

abbrev nBuf : Space → Nat
  | .hbm => 17
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S32768x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S32768x1024, .f32⟩
  | .hbm, ⟨13, _⟩ => ⟨S1024x1024, .bf16⟩
  | .hbm, ⟨14, _⟩ => ⟨S1024x1024, .bf16⟩
  | .hbm, ⟨15, _⟩ => ⟨S1024x4096, .bf16⟩
  | .hbm, ⟨16, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x4096, .f32⟩
  | .local _ .vmem, ⟨10, _⟩ => ⟨S32x4096, .f32⟩
  | .local _ .vmem, ⟨11, _⟩ => ⟨S128x1024, .f32⟩
  | .local _ .vmem, ⟨12, _⟩ => ⟨S128x1024, .f32⟩
  | .local _ .vmem, ⟨13, _⟩ => ⟨S1024x1024, .f32⟩
  | .local _ .vmem, ⟨14, _⟩ => ⟨S1024x1024, .f32⟩
  | .local _ .vmem, ⟨15, _⟩ => ⟨S32x1024, .bf16⟩
  | .local _ .vmem, ⟨16, _⟩ => ⟨S32x1024, .bf16⟩
  | .local _ .vmem, ⟨17, _⟩ => ⟨S32x1024, .bf16⟩
  | .local _ .vmem, ⟨18, _⟩ => ⟨S32x1024, .bf16⟩
  | .local _ .vmem, ⟨19, _⟩ => ⟨S32x4096, .bf16⟩
  | .local _ .vmem, ⟨20, _⟩ => ⟨S32x4096, .bf16⟩
  | .local _ .vmem, ⟨21, _⟩ => ⟨S128x1024, .bf16⟩
  | .local _ .vmem, ⟨22, _⟩ => ⟨S128x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlpSecondReferenceIdeal.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x4096, .f32⟩
  | .hbm, ⟨25, _⟩ => ⟨S_, .f32⟩
  | .hbm, ⟨26, _⟩ => ⟨S16x2048x4096, .f32⟩
  | .hbm, ⟨27, _⟩ => ⟨S16x2048x4096, .f32⟩
  | .hbm, ⟨28, _⟩ => ⟨S16x2048x4096, .f32⟩
  | .hbm, ⟨29, _⟩ => ⟨S16x2048x1024, .f32⟩
  | .hbm, ⟨30, _⟩ => ⟨S16x2048x1024, .f32⟩
  | .hbm, ⟨31, _⟩ => ⟨S32768x1024, .f32⟩
  | .hbm, ⟨32, _⟩ => ⟨S1024x1024, .bf16⟩
  | .hbm, ⟨33, _⟩ => ⟨S1024x1024, .bf16⟩
  | .hbm, ⟨34, _⟩ => ⟨S1024x4096, .bf16⟩
  | .hbm, ⟨35, _⟩ => ⟨S4096x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== MlpThird.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S32768x1024 : Shape := ⟨2, ![32768, 1024]⟩
abbrev S1x1024 : Shape := ⟨2, ![1, 1024]⟩
abbrev S32x1024 : Shape := ⟨2, ![32, 1024]⟩
abbrev S32x4096 : Shape := ⟨2, ![32, 4096]⟩
abbrev S128x1024 : Shape := ⟨2, ![128, 1024]⟩
abbrev S1024x1 : Shape := ⟨2, ![1024, 1]⟩

abbrev nBuf : Space → Nat
  | .hbm => 15
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S32768x1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S32768x1024, .f32⟩
  | .hbm, ⟨12, _⟩ => ⟨S1024x1024, .bf16⟩
  | .hbm, ⟨13, _⟩ => ⟨S1024x4096, .bf16⟩
  | .hbm, ⟨14, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S32x1024, .f32⟩
  | .local _ .vmem, ⟨6, _⟩ => ⟨S32x1024, .f32⟩
  | .local _ .vmem, ⟨7, _⟩ => ⟨S32x4096, .f32⟩
  | .local _ .vmem, ⟨8, _⟩ => ⟨S32x4096, .f32⟩
  | .local _ .vmem, ⟨9, _⟩ => ⟨S128x1024, .f32⟩
  | .local _ .vmem, ⟨10, _⟩ => ⟨S128x1024, .f32⟩
  | .local _ .vmem, ⟨11, _⟩ => ⟨S1024x1024, .f32⟩
  | .local _ .vmem, ⟨12, _⟩ => ⟨S1024x1024, .f32⟩
  | .local _ .vmem, ⟨13, _⟩ => ⟨S32x1024, .bf16⟩
  | .local _ .vmem, ⟨14, _⟩ => ⟨S32x1024, .bf16⟩
  | .local _ .vmem, ⟨15, _⟩ => ⟨S32x4096, .bf16⟩
  | .local _ .vmem, ⟨16, _⟩ => ⟨S32x4096, .bf16⟩
  | .local _ .vmem, ⟨17, _⟩ => ⟨S128x1024, .bf16⟩
  | .local _ .vmem, ⟨18, _⟩ => ⟨S128x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpThirdReferenceIdeal.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x4096, .f32⟩
  | .hbm, ⟨24, _⟩ => ⟨S_, .f32⟩
  | .hbm, ⟨25, _⟩ => ⟨S16x2048x4096, .f32⟩
  | .hbm, ⟨26, _⟩ => ⟨S16x2048x4096, .f32⟩
  | .hbm, ⟨27, _⟩ => ⟨S16x2048x4096, .f32⟩
  | .hbm, ⟨28, _⟩ => ⟨S16x2048x1024, .f32⟩
  | .hbm, ⟨29, _⟩ => ⟨S16x2048x1024, .f32⟩
  | .hbm, ⟨30, _⟩ => ⟨S32768x1024, .f32⟩
  | .hbm, ⟨31, _⟩ => ⟨S1024x1024, .bf16⟩
  | .hbm, ⟨32, _⟩ => ⟨S1024x4096, .bf16⟩
  | .hbm, ⟨33, _⟩ => ⟨S4096x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.RowMath.lean ====
/- Row formulas shared by the value proofs, over the extended reals: the root-mean-square scaling of a row, and the
   squared-ReLU feed-forward layer of a row in one piece. -/
module

public import Idealize.ShloMosaic.Lib.Pointwise

@[expose] public section

noncomputable section

namespace Cert.RowMath

open Idealize.ShloMosaic

/-- The row `x` scaled by the reciprocal root of its mean square (plus a small constant) and by the gain `g`. -/
def rms (x g : Fin 1024 → EReal) (k : Fin 1024) : EReal :=
  x k * Ideal.rsqrt (Ideal.div (∑ l : Fin 1024, x l * x l) (Ideal.ofBits .f32 0x44800000#32)
    + Ideal.ofBits .f32 0x358637BD#32) * g k

/-- The square of the positive part. -/
def relu2 (a : EReal) : EReal := max a 0 * max a 0

/-- Hidden unit `e` of the feed-forward layer, before its activation. -/
def hid (x g : Fin 1024 → EReal) (wu : Fin 1024 → Fin 4096 → EReal) (e : Fin 4096) : EReal :=
  ∑ k : Fin 1024, rms x g k * wu k e

/-- The feed-forward layer with its residual. -/
def ffn (x g : Fin 1024 → EReal) (wu : Fin 1024 → Fin 4096 → EReal) (wd : Fin 4096 → Fin 1024 → EReal)
    (n : Fin 1024) : EReal :=
  x n + ∑ e : Fin 4096, relu2 (hid x g wu e) * wd e n

/-- The feed-forward layer's residual sum taken in four runs of 1024 hidden units is the whole sum. -/
theorem ffn_tiles (x g : Fin 1024 → EReal) (wu : Fin 1024 → Fin 4096 → EReal) (wd : Fin 4096 → Fin 1024 → EReal)
    (n : Fin 1024) :
    ffn x g wu wd n = x n
      + (∑ t : Fin 1024, relu2 (hid x g wu ⟨t.val, by omega⟩) * wd ⟨t.val, by omega⟩ n)
      + (∑ t : Fin 1024, relu2 (hid x g wu ⟨1024 + t.val, by omega⟩) * wd ⟨1024 + t.val, by omega⟩ n)
      + (∑ t : Fin 1024, relu2 (hid x g wu ⟨2048 + t.val, by omega⟩) * wd ⟨2048 + t.val, by omega⟩ n)
      + (∑ t : Fin 1024, relu2 (hid x g wu ⟨3072 + t.val, by omega⟩) * wd ⟨3072 + t.val, by omega⟩ n) := by
  unfold ffn
  rw [Fin.sum_univ_tiles 4 1024 rfl (fun e : Fin 4096 => relu2 (hid x g wu e) * wd e n), Fin.sum_univ_four]
  simp only [← add_assoc]
  refine congrArg₂ (· + ·) (congrArg₂ (· + ·) (congrArg₂ (· + ·) (congrArg₂ (· + ·) rfl ?_) ?_) ?_) ?_
  all_goals
    refine Finset.sum_congr rfl fun t _ => ?_
    congr 3 <;> first | (apply Fin.ext; simp; done) | simp

end Cert.RowMath

end
-- ==== Proof.MlpValue.lean ====
/- The feed-forward program's value: what each grid point stores, and the whole result array. -/
module

public import proofs.«01_k».proof.Proof.RowMath
public import proofs.«01_k».proof.Proof.Gen.MlpIdeal.Value
public import Idealize.ShloMosaic.Lib.Pipeline.ValueKit
public import proofs.«01_k».proof.Proof.Gen.MlpReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpIdeal.Block

open Cert.MlpIdeal Cert.MlpIdeal.Gen Cert.RowMath

/-- The narrowed scaled row. -/
theorem pay2_eq (v0 : Vec Ideal S1024x1024 .f32) (v2 : Vec Ideal S1x1024 .f32) (r k : Fin 1024) :
    k0_pay2 (F := Ideal) v0 v2 (ix2 r k) = rms (fun l => v0 (ix2 r l)) (fun l => v2 (ix2 0 l)) k := by
  pointwise [k0_pay2, k0_pay1, rms]

/-- The residual plus the first run of hidden units. -/
theorem pay3_eq (v0 : Vec Ideal S1024x1024 .f32) (v2 : Vec Ideal S1x1024 .f32) (a b : Vec Ideal S1024x1024 .bf16)
    (r n : Fin 1024) :
    k0_pay3 (F := Ideal) v0 v2 a b (ix2 r n) = v0 (ix2 r n)
      + ∑ t : Fin 1024, relu2 (∑ k : Fin 1024, k0_pay2 (F := Ideal) v0 v2 (ix2 r k) * a (ix2 k t)) * b (ix2 t n) := by
  generalize hp : k0_pay2 (F := Ideal) v0 v2 = p
  pointwise [k0_pay3, k0_pay1, relu2, hp]

/-- The second run of hidden units. -/
theorem pay4_eq (v0 : Vec Ideal S1024x1024 .f32) (v2 : Vec Ideal S1x1024 .f32) (a b : Vec Ideal S1024x1024 .bf16)
    (r n : Fin 1024) :
    k0_pay4 (F := Ideal) v0 v2 a b (ix2 r n) =
      ∑ t : Fin 1024, relu2 (∑ k : Fin 1024, k0_pay2 (F := Ideal) v0 v2 (ix2 r k) * a (ix2 k t)) * b (ix2 t n) := by
  generalize hp : k0_pay2 (F := Ideal) v0 v2 = p
  pointwise [k0_pay4, k0_pay1, relu2, hp]

/-- The last two runs added on, and the final scaling. -/
theorem pay5_eq (p : FVec Ideal S1024x1024 .bf16) (u v : FVec Ideal S1024x1024 .f32) (a b a' b' : Vec Ideal S1024x1024 .bf16)
    (g : Vec Ideal S1x1024 .f32) (r n : Fin 1024) :
    k0_pay5 (F := Ideal) p u v a b a' b' g (ix2 r n) =
      rms (fun n => u (ix2 r n) + v (ix2 r n)
        + (∑ t : Fin 1024, relu2 (∑ k : Fin 1024, p (ix2 r k) * a (ix2 k t)) * b (ix2 t n))
        + (∑ t : Fin 1024, relu2 (∑ k : Fin 1024, p (ix2 r k) * a' (ix2 k t)) * b' (ix2 t n)))
        (fun l => g (ix2 0 l)) n := by
  pointwise [k0_pay5, relu2, rms]

/-- A grid point's whole stored block: the feed-forward layer of each row, scaled by the last gain. -/
theorem block_eq (x0 : Vec Ideal S1024x1024 .f32) (x1 : Vec Ideal S1x1024 .f32) (x2 : Vec Ideal S1024x4096 .bf16)
    (x3 : Vec Ideal S4096x1024 .bf16) (x4 : Vec Ideal S1x1024 .f32) (r n : Fin 1024) :
    out0_5 (F := Ideal) x0 x1 x2 x3 x4 (ix2 r n) =
      rms (ffn (fun l => x0 (ix2 r l)) (fun l => x1 (ix2 0 l)) (fun k e => x2 (ix2 k e)) (fun e n => x3 (ix2 e n)))
        (fun l => x4 (ix2 0 l)) n := by
  unfold out0_5
  frame_out
  rw [pay5_eq]
  simp only [pay3_eq, pay4_eq, pay2_eq]
  refine congrArg (fun f => rms f _ n) (funext fun n => ?_)
  rw [ffn_tiles]
  pointwise [hid]

variable (m : (ℓ : Loc nD τ sig) → Buf (Elt Ideal) ℓ)

/-- The whole result as a function of the arguments: row `R` is row `R % 2048` of batch element `R / 2048`. -/
def OUT (X : FVec Ideal S16x2048x1024 .f32) (g : FVec Ideal S1024 .f32) (wu : FVec Ideal S1024x4096 .f32)
    (wd : FVec Ideal S4096x1024 .f32) (gf : FVec Ideal S1024 .f32) : FVec Ideal S32768x1024 .f32 := fun i =>
  rms (ffn (fun l => X (ix3 (⟨(i 0).val / 2048, Nat.div_lt_of_lt_mul (i 0).isLt⟩ : Fin 16) (⟨(i 0).val % 2048, Nat.mod_lt _ (by norm_num)⟩ : Fin 2048) l))
      (fun l => g (ix1 l)) (fun k e => wu (ix2 k e)) (fun e n => wd (ix2 e n))) (fun l => gf (ix1 l)) (i 1)

/-- The windows' block indices: the activations and the result move with the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The activation block of a grid point, read off the argument. -/
theorem blk0 (c : Dev nD) (t : Fin cfg0.N) (r l : Fin 1024) : iblk m c 0 t (ix2 r l)
    = (m ((c : Thread nD τ).loc main_arg0)) (ix3 (⟨(t.val * 1024 + r.val) / 2048, Nat.div_lt_of_lt_mul (by have := t.isLt; have := r.isLt; have : cfg0.N = 32 := rfl; omega)⟩ : Fin 16)
        (⟨(t.val * 1024 + r.val) % 2048, Nat.mod_lt _ (by norm_num)⟩ : Fin 2048) l) := by
  blk_point [iblk, V, idx t]

/-- The first gain. -/
theorem blk1 (c : Dev nD) (t : Fin cfg0.N) (l : Fin 1024) : iblk m c 1 t (ix2 0 l) = (m ((c : Thread nD τ).loc main_arg1)) (ix1 l) := by
  blk_point [iblk, V, idx t]

/-- The first weight matrix. -/
theorem blk2 (c : Dev nD) (t : Fin cfg0.N) (k : Fin 1024) (e : Fin 4096) : iblk m c 2 t (ix2 k e) = (m ((c : Thread nD τ).loc main_arg2)) (ix2 k e) := by
  blk_point [iblk, V, idx t]

/-- The second weight matrix. -/
theorem blk3 (c : Dev nD) (t : Fin cfg0.N) (e : Fin 4096) (n : Fin 1024) : iblk m c 3 t (ix2 e n) = (m ((c : Thread nD τ).loc main_arg3)) (ix2 e n) := by
  blk_point [iblk, V, idx t]

/-- The last gain. -/
theorem blk4 (c : Dev nD) (t : Fin cfg0.N) (l : Fin 1024) : iblk m c 4 t (ix2 0 l) = (m ((c : Thread nD τ).loc main_arg4)) (ix1 l) := by
  blk_point [iblk, V, idx t]

/-- What grid point `t` stores at block index `y` is the whole result at the array index `y` sits at. -/
theorem point (c : Dev nD) (t : Fin cfg0.N) (y : S1024x1024.Idx) :
    out0_5 (F := Ideal) (iblk m c 0 t) (iblk m c 1 t) (iblk m c 2 t) (iblk m c 3 t) (iblk m c 4 t) y
    = OUT (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  idx_vars y
  have he : ((cfg0.win 5).blk t).view.emb (ix2 y0 y1) = (ix2 (⟨t.val * 1024 + y0.val, by have := t.isLt; have := y0.isLt; have : cfg0.N = 32 := rfl; omega⟩ : Fin 32768) y1 : S32768x1024.Idx) := by
    blk_ext [idx t]
  rw [he]
  refine (block_eq _ _ _ _ _ y0 y1).trans ?_
  simp only [blk0, blk1, blk2, blk3, blk4]
  rfl

/-- The result array after the run. -/
theorem final (c : Dev nD) : (dats m 0 c).arrAt 5 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.MlpIdeal.Block

namespace Cert.MlpReferenceIdeal.Block

open Cert.MlpReferenceIdeal Cert.MlpReferenceIdeal.Gen Cert.MlpReferenceIdeal.Read Cert.RowMath

variable (x : FVec Ideal S16x2048x1024 .f32) (g : FVec Ideal S1024 .f32) (wu : FVec Ideal S1024x4096 .f32)
  (wd : FVec Ideal S4096x1024 .f32) (gf : FVec Ideal S1024 .f32)

/-- The reference's scaled input. -/
theorem v12_eq (b : Fin 16) (s : Fin 2048) (k : Fin 1024) :
    val_main_v12 (F := Ideal) x g (ix3 b s k) = rms (fun l => x (ix3 b s l)) (fun l => g (ix1 l)) k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, rms]
  try simp only [zero_add]

/-- The reference's feed-forward layer with its residual. -/
theorem v17_eq (b : Fin 16) (s : Fin 2048) (n : Fin 1024) :
    val_main_v17 (F := Ideal) x g wu wd (ix3 b s n)
      = ffn (fun l => x (ix3 b s l)) (fun l => g (ix1 l)) (fun k e => wu (ix2 k e)) (fun e n => wd (ix2 e n)) n := by
  pointwise [val_main_v17, val_main_v16, val_main_v15, val_main_v14, val_main_call0_v0, val_main_call0_cst, val_main_v13,
    v12_eq, ffn, relu2, hid]

/-- The reference's result before its last reshape. -/
theorem v30_eq (b : Fin 16) (s : Fin 2048) (n : Fin 1024) :
    val_main_v30 (F := Ideal) x g wu wd gf (ix3 b s n)
      = rms (ffn (fun l => x (ix3 b s l)) (fun l => g (ix1 l)) (fun k e => wu (ix2 k e)) (fun e n => wd (ix2 e n)))
          (fun l => gf (ix1 l)) n := by
  pointwise [val_main_v30, val_main_v29, val_main_v28, val_main_v27, val_main_v26, val_main_v25, val_main_v24, val_main_v23,
    val_main_cst_4, val_main_v22, val_main_v21, val_main_cst_3, val_main_v20, val_main_v19, val_main_cst_2, val_main_v18,
    v17_eq, rms]
  try simp only [zero_add]

/-- The reference's result, read at an index, is the same row formula as the kernel's. -/
theorem ref_eq : val_main_v31 (F := Ideal) x g wu wd gf = Cert.MlpIdeal.Block.OUT x g wu wd gf := by
  funext i
  idx_vars i
  pointwise [val_main_v31, v30_eq]
  rfl

end Cert.MlpReferenceIdeal.Block

end
-- ==== Proof.InnerValue.lean ====
/- The inner feed-forward program's values: the layer with its residual, and the next layer's narrowed weights. -/
module

public import proofs.«01_k».proof.Proof.RowMath
public import proofs.«01_k».proof.Proof.Gen.MlpInnerIdeal.Value
public import Idealize.ShloMosaic.Lib.Pipeline.ValueKit
public import proofs.«01_k».proof.Proof.Gen.MlpInnerReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpInnerIdeal.Block

open Cert.MlpInnerIdeal Cert.MlpInnerIdeal.Gen Cert.RowMath

/-- The narrowed scaled row. -/
theorem pay3_eq (v0 : Vec Ideal S1024x1024 .f32) (v2 : Vec Ideal S1x1024 .f32) (r k : Fin 1024) :
    k0_pay3 (F := Ideal) v0 v2 (ix2 r k) = rms (fun l => v0 (ix2 r l)) (fun l => v2 (ix2 0 l)) k := by
  pointwise [k0_pay3, k0_pay2, rms]

/-- The residual plus the first run of hidden units. -/
theorem pay4_eq (v0 : Vec Ideal S1024x1024 .f32) (v2 : Vec Ideal S1x1024 .f32) (a b : Vec Ideal S1024x1024 .bf16) (r n : Fin 1024) :
    k0_pay4 (F := Ideal) v0 v2 a b (ix2 r n) = v0 (ix2 r n)
      + ∑ t : Fin 1024, relu2 (∑ k : Fin 1024, k0_pay3 (F := Ideal) v0 v2 (ix2 r k) * a (ix2 k t)) * b (ix2 t n) := by
  generalize hp : k0_pay3 (F := Ideal) v0 v2 = p
  pointwise [k0_pay4, k0_pay2, relu2, hp]

/-- The second run of hidden units. -/
theorem pay5_eq (v0 : Vec Ideal S1024x1024 .f32) (v2 : Vec Ideal S1x1024 .f32) (a b : Vec Ideal S1024x1024 .bf16) (r n : Fin 1024) :
    k0_pay5 (F := Ideal) v0 v2 a b (ix2 r n) =
      ∑ t : Fin 1024, relu2 (∑ k : Fin 1024, k0_pay3 (F := Ideal) v0 v2 (ix2 r k) * a (ix2 k t)) * b (ix2 t n) := by
  generalize hp : k0_pay3 (F := Ideal) v0 v2 = p
  pointwise [k0_pay5, k0_pay2, relu2, hp]

/-- The last two runs added on. -/
theorem pay6_eq (p : FVec Ideal S1024x1024 .bf16) (u v : FVec Ideal S1024x1024 .f32) (a b a' b' : Vec Ideal S1024x1024 .bf16) (r n : Fin 1024) :
    k0_pay6 (F := Ideal) p u v a b a' b' (ix2 r n) = u (ix2 r n) + v (ix2 r n)
        + (∑ t : Fin 1024, relu2 (∑ k : Fin 1024, p (ix2 r k) * a (ix2 k t)) * b (ix2 t n))
        + (∑ t : Fin 1024, relu2 (∑ k : Fin 1024, p (ix2 r k) * a' (ix2 k t)) * b' (ix2 t n)) := by
  pointwise [k0_pay6, relu2]

section Stores
variable (x0 : Vec Ideal S1024x1024 .f32) (x1 : Vec Ideal S1x1024 .f32) (x2 : Vec Ideal S1024x4096 .bf16)
    (x3 : Vec Ideal S4096x1024 .bf16) (x4 : Vec Ideal S32x2048 .f32) (x5 : Vec Ideal S32x1024 .f32)
    (x6 : Vec Ideal S32x4096 .f32) (x7 : Vec Ideal S128x1024 .f32)

/-- A grid point's stored rows: the feed-forward layer of each row. -/
theorem block8 (r n : Fin 1024) : out0_8 (F := Ideal) x0 x1 x2 x3 x4 x5 x6 x7 (ix2 r n) =
      ffn (fun l => x0 (ix2 r l)) (fun l => x1 (ix2 0 l)) (fun k e => x2 (ix2 k e)) (fun e n => x3 (ix2 e n)) n := by
  unfold out0_8
  frame_out
  rw [pay6_eq]
  simp only [pay3_eq, pay4_eq, pay5_eq]
  rw [ffn_tiles]
  pointwise [hid]

/-- Which column of the weights a column of their paired copy holds: runs of 256 columns, values and gates in turn. -/
def src (q : Fin 2048) : Fin 2048 := ⟨q.val % 512 / 256 * 1024 + q.val / 512 * 256 + q.val % 256, by omega⟩

/-- A grid point's rows of the paired copy. -/
theorem block9 (r : Fin 32) (q : Fin 2048) : out0_9 (F := Ideal) x0 x1 x2 x3 x4 x5 x6 x7 (ix2 r q) = x4 (ix2 r (src q)) := by
  unfold out0_9
  canon_tiles x h
  all_goals change r.val = _ at h0
  all_goals change q.val = _ at h1
  all_goals refine congrArg x4 ?_
  all_goals refine funext fun a => Fin.ext ?_
  all_goals fin_cases a
  all_goals first
    | (change 0 + 1 * (x 0).val = r.val; omega)
    | (change 0 + 1 * (x 1).val = q.val % 512 / 256 * 1024 + q.val / 512 * 256 + q.val % 256; omega)
    | (change 256 + 1 * (x 1).val = q.val % 512 / 256 * 1024 + q.val / 512 * 256 + q.val % 256; omega)
    | (change 512 + 1 * (x 1).val = q.val % 512 / 256 * 1024 + q.val / 512 * 256 + q.val % 256; omega)
    | (change 768 + 1 * (x 1).val = q.val % 512 / 256 * 1024 + q.val / 512 * 256 + q.val % 256; omega)
    | (change 1024 + 1 * (x 1).val = q.val % 512 / 256 * 1024 + q.val / 512 * 256 + q.val % 256; omega)
    | (change 1280 + 1 * (x 1).val = q.val % 512 / 256 * 1024 + q.val / 512 * 256 + q.val % 256; omega)
    | (change 1536 + 1 * (x 1).val = q.val % 512 / 256 * 1024 + q.val / 512 * 256 + q.val % 256; omega)
    | (change 1792 + 1 * (x 1).val = q.val % 512 / 256 * 1024 + q.val / 512 * 256 + q.val % 256; omega)

/-- A grid point's rows of the second copy. -/
theorem block10 : out0_10 (F := Ideal) x0 x1 x2 x3 x4 x5 x6 x7 = x5 := by
  unfold out0_10
  frame_out
  rfl

/-- A grid point's rows of the third copy. -/
theorem block11 : out0_11 (F := Ideal) x0 x1 x2 x3 x4 x5 x6 x7 = x6 := by
  unfold out0_11
  frame_out
  rfl

/-- A grid point's rows of the fourth copy. -/
theorem block12 : out0_12 (F := Ideal) x0 x1 x2 x3 x4 x5 x6 x7 = x7 := by
  unfold out0_12
  frame_out
  rfl

end Stores

variable (m : (ℓ : Loc nD τ sig) → Buf (Elt Ideal) ℓ)

/-- The layer's whole result: row `R` is row `R % 2048` of batch element `R / 2048`. -/
def OUT (X : FVec Ideal S16x2048x1024 .f32) (g : FVec Ideal S1024 .f32) (wu : FVec Ideal S1024x4096 .f32)
    (wd : FVec Ideal S4096x1024 .f32) : FVec Ideal S32768x1024 .f32 := fun i =>
  ffn (fun l => X (ix3 (⟨(i 0).val / 2048, Nat.div_lt_of_lt_mul (i 0).isLt⟩ : Fin 16) (⟨(i 0).val % 2048, Nat.mod_lt _ (by norm_num)⟩ : Fin 2048) l))
      (fun l => g (ix1 l)) (fun k e => wu (ix2 k e)) (fun e n => wd (ix2 e n)) (i 1)

/-- The paired copy. -/
def PAIR (w : FVec Ideal S1024x2048 .f32) : FVec Ideal S1024x2048 .bf16 := fun i => w (ix2 (i 0) (src (i 1)))

/-- The windows' block indices: the rows move with the grid point, the weights of the layer stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The rows of a grid point, read off the argument. -/
theorem blk0 (c : Dev nD) (t : Fin cfg0.N) (r l : Fin 1024) : iblk m c 0 t (ix2 r l)
    = (m ((c : Thread nD τ).loc main_arg0)) (ix3 (⟨(t.val * 1024 + r.val) / 2048, Nat.div_lt_of_lt_mul (by have : t.val < 32 := t.isLt; have := r.isLt; omega)⟩ : Fin 16)
        (⟨(t.val * 1024 + r.val) % 2048, Nat.mod_lt _ (by norm_num)⟩ : Fin 2048) l) := by
  blk_point [iblk, V, idx t]

/-- The gain. -/
theorem blk1 (c : Dev nD) (t : Fin cfg0.N) (l : Fin 1024) : iblk m c 1 t (ix2 0 l) = (m ((c : Thread nD τ).loc main_arg1)) (ix1 l) := by
  blk_point [iblk, V, idx t]

/-- The first weight matrix. -/
theorem blk2 (c : Dev nD) (t : Fin cfg0.N) (k : Fin 1024) (e : Fin 4096) : iblk m c 2 t (ix2 k e) = (m ((c : Thread nD τ).loc main_arg2)) (ix2 k e) := by
  blk_point [iblk, V, idx t]

/-- The second weight matrix. -/
theorem blk3 (c : Dev nD) (t : Fin cfg0.N) (e : Fin 4096) (n : Fin 1024) : iblk m c 3 t (ix2 e n) = (m ((c : Thread nD τ).loc main_arg3)) (ix2 e n) := by
  blk_point [iblk, V, idx t]

/-- The rows of the next layer's input weights. -/
theorem blk4 (c : Dev nD) (t : Fin cfg0.N) (r : Fin 32) (l : Fin 2048) : iblk m c 4 t (ix2 r l)
    = (m ((c : Thread nD τ).loc main_arg4)) (ix2 (⟨t.val * 32 + r.val, by have : t.val < 32 := t.isLt; omega⟩ : Fin 1024) l) := by
  blk_point [iblk, V, idx t]

/-- The rows of the next layer's output weights. -/
theorem blk5 (c : Dev nD) (t : Fin cfg0.N) (r : Fin 32) (l : Fin 1024) : iblk m c 5 t (ix2 r l)
    = (m ((c : Thread nD τ).loc main_arg5)) (ix2 (⟨t.val * 32 + r.val, by have : t.val < 32 := t.isLt; omega⟩ : Fin 1024) l) := by
  blk_point [iblk, V, idx t]

/-- The rows of the next layer's first feed-forward matrix. -/
theorem blk6 (c : Dev nD) (t : Fin cfg0.N) (r : Fin 32) (l : Fin 4096) : iblk m c 6 t (ix2 r l)
    = (m ((c : Thread nD τ).loc main_arg6)) (ix2 (⟨t.val * 32 + r.val, by have : t.val < 32 := t.isLt; omega⟩ : Fin 1024) l) := by
  blk_point [iblk, V, idx t]

/-- The rows of the next layer's second feed-forward matrix. -/
theorem blk7 (c : Dev nD) (t : Fin cfg0.N) (r : Fin 128) (l : Fin 1024) : iblk m c 7 t (ix2 r l)
    = (m ((c : Thread nD τ).loc main_arg7)) (ix2 (⟨t.val * 128 + r.val, by have : t.val < 32 := t.isLt; omega⟩ : Fin 4096) l) := by
  blk_point [iblk, V, idx t]

/-- The layer's result after the run. -/
theorem final8 (c : Dev nD) : (dats m 0 c).arrAt 8 (cfgs 0).N
    = OUT (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]
  idx_vars y
  have he : ((cfg0.win 8).blk t).view.emb (ix2 y0 y1) = (ix2 (⟨t.val * 1024 + y0.val, by have : t.val < 32 := t.isLt; have := y0.isLt; omega⟩ : Fin 32768) y1 : S32768x1024.Idx) := by
    blk_ext [idx t]
  rw [he]
  refine (block8 _ _ _ _ _ _ _ _ y0 y1).trans ?_
  simp only [blk0, blk1, blk2, blk3]
  rfl

/-- The paired copy after the run. -/
theorem final9 (c : Dev nD) : (dats m 0 c).arrAt 9 (cfgs 0).N = PAIR (m ((c : Thread nD τ).loc main_arg4)) := by
  refine (dats m 0 c).arrAt_eq_of_covers 9 _ (by decide +kernel) fun t _ y => ?_
  blk_simp
  rw [after0_9]
  idx_vars y
  have he : ((cfg0.win 9).blk t).view.emb (ix2 y0 y1) = (ix2 (⟨t.val * 32 + y0.val, by have : t.val < 32 := t.isLt; have := y0.isLt; omega⟩ : Fin 1024) y1 : S1024x2048.Idx) := by
    blk_ext [idx t]
  rw [he]
  refine (block9 _ _ _ _ _ _ _ _ y0 y1).trans ?_
  rw [blk4]
  rfl

/-- The second copy after the run. -/
theorem final10 (c : Dev nD) : (dats m 0 c).arrAt 10 (cfgs 0).N = (m ((c : Thread nD τ).loc main_arg5) : FVec Ideal S1024x1024 .f32) := by
  refine (dats m 0 c).arrAt_eq_of_covers 10 _ (by decide +kernel) fun t _ y => ?_
  blk_simp
  rw [after0_10, block10]
  idx_vars y
  have he : ((cfg0.win 10).blk t).view.emb (ix2 y0 y1) = (ix2 (⟨t.val * 32 + y0.val, by have : t.val < 32 := t.isLt; have := y0.isLt; omega⟩ : Fin 1024) y1 : S1024x1024.Idx) := by
    blk_ext [idx t]
  rw [he]
  exact blk5 m c t y0 y1

/-- The third copy after the run. -/
theorem final11 (c : Dev nD) : (dats m 0 c).arrAt 11 (cfgs 0).N = (m ((c : Thread nD τ).loc main_arg6) : FVec Ideal S1024x4096 .f32) := by
  refine (dats m 0 c).arrAt_eq_of_covers 11 _ (by decide +kernel) fun t _ y => ?_
  blk_simp
  rw [after0_11, block11]
  idx_vars y
  have he : ((cfg0.win 11).blk t).view.emb (ix2 y0 y1) = (ix2 (⟨t.val * 32 + y0.val, by have : t.val < 32 := t.isLt; have := y0.isLt; omega⟩ : Fin 1024) y1 : S1024x4096.Idx) := by
    blk_ext [idx t]
  rw [he]
  exact blk6 m c t y0 y1

/-- The fourth copy after the run. -/
theorem final12 (c : Dev nD) : (dats m 0 c).arrAt 12 (cfgs 0).N = (m ((c : Thread nD τ).loc main_arg7) : FVec Ideal S4096x1024 .f32) := by
  refine (dats m 0 c).arrAt_eq_of_covers 12 _ (by decide +kernel) fun t _ y => ?_
  blk_simp
  rw [after0_12, block12]
  idx_vars y
  have he : ((cfg0.win 12).blk t).view.emb (ix2 y0 y1) = (ix2 (⟨t.val * 128 + y0.val, by have : t.val < 32 := t.isLt; have := y0.isLt; omega⟩ : Fin 4096) y1 : S4096x1024.Idx) := by
    blk_ext [idx t]
  rw [he]
  exact blk7 m c t y0 y1

end Cert.MlpInnerIdeal.Block

namespace Cert.MlpInnerReferenceIdeal.Block

open Cert.MlpInnerReferenceIdeal Cert.MlpInnerReferenceIdeal.Gen Cert.MlpInnerReferenceIdeal.Read Cert.RowMath

variable (x : FVec Ideal S16x2048x1024 .f32) (g : FVec Ideal S1024 .f32) (wu : FVec Ideal S1024x4096 .f32)
  (wd : FVec Ideal S4096x1024 .f32)

/-- The reference's scaled input. -/
theorem v12_eq (b : Fin 16) (s : Fin 2048) (k : Fin 1024) :
    val_main_v12 (F := Ideal) x g (ix3 b s k) = rms (fun l => x (ix3 b s l)) (fun l => g (ix1 l)) k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, rms]
  try simp only [zero_add]

/-- The reference's feed-forward layer with its residual. -/
theorem v17_eq (b : Fin 16) (s : Fin 2048) (n : Fin 1024) :
    val_main_v17 (F := Ideal) x g wu wd (ix3 b s n)
      = ffn (fun l => x (ix3 b s l)) (fun l => g (ix1 l)) (fun k e => wu (ix2 k e)) (fun e n => wd (ix2 e n)) n := by
  pointwise [val_main_v17, val_main_v16, val_main_v15, val_main_v14, val_main_call0_v0, val_main_call0_cst, val_main_v13,
    v12_eq, ffn, relu2, hid]

/-- The reference's layer result is the kernel's. -/
theorem layer_eq : val_main_v26 (F := Ideal) x g wu wd = Cert.MlpInnerIdeal.Block.OUT x g wu wd := by
  funext i
  idx_vars i
  pointwise [val_main_v26, v17_eq]
  rfl

/-- The reference's paired copy is the kernel's. -/
theorem pair_eq (w : FVec Ideal S1024x2048 .f32) : val_main_v27 (F := Ideal) w = Cert.MlpInnerIdeal.Block.PAIR w := by
  funext i
  idx_vars i
  pointwise [val_main_v27, val_main_v25, val_main_v24, val_main_v23, val_main_v22, val_main_v21, val_main_v20, val_main_v19, val_main_v18, Cert.MlpInnerIdeal.Block.PAIR, Cert.MlpInnerIdeal.Block.src]
  split
  · exact congrArg (fun q => w (ix2 i0 q)) (Fin.ext (by show _ = i1.val % 512 / 256 * 1024 + i1.val / 512 * 256 + i1.val % 256; dsimp only; omega))
  · exact congrArg (fun q => w (ix2 i0 q)) (Fin.ext (by show _ = i1.val % 512 / 256 * 1024 + i1.val / 512 * 256 + i1.val % 256; dsimp only; omega))

end Cert.MlpInnerReferenceIdeal.Block

end
-- ==== Proof.FourierValue.lean ====
/- The Fourier layer's input projection: the value of its kernel call and of its reference. -/
module

public import proofs.«01_k».proof.Proof.RowMath
public import proofs.«01_k».proof.Proof.Gen.FourierInIdeal.Value
public import Idealize.ShloMosaic.Lib.Pipeline.ValueKit
public import proofs.«01_k».proof.Proof.Gen.FourierInReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FourierInIdeal.Block

open Cert.FourierInIdeal Cert.FourierInIdeal.Gen Cert.RowMath

/-- One entry of the projection of a scaled row. -/
def proj (xr g : Fin 1024 → EReal) (w : Fin 1024 → Fin 1024 → EReal) (n : Fin 1024) : EReal := ∑ k : Fin 1024, rms xr g k * w k n

/-- The projection of a grid point's rows. -/
theorem pay4_eq (x0 : Vec Ideal S1x1024x1024 .f32) (x1 : Vec Ideal S1x1024 .f32) (x2 : Vec Ideal S1024x1024 .bf16) (r n : Fin 1024) :
    k0_pay4 (F := Ideal) x0 x1 x2 (ix2 r n) = proj (fun l => x0 (ix3 0 r l)) (fun l => x1 (ix2 0 l)) (fun k n => x2 (ix2 k n)) n := by
  pointwise [k0_pay4, rms, proj]

/-- The scratch buffer's contents: the projection with its columns in blocks of 128. -/
def slabs (p : FVec Ideal S1024x1024 .f32) : FVec Ideal S8x1024x128 .f32 := fun i =>
  p (ix2 (i 1) (⟨(i 0).val * 128 + (i 2).val, by have : (i 0).val < 8 := (i 0).isLt; have : (i 2).val < 128 := (i 2).isLt; omega⟩ : Fin 1024))

/-- Block 0 of the columns. -/
theorem part0 (x0 : Vec Ideal S1x1024x1024 .f32) (x1 : Vec Ideal S1x1024 .f32) (x2 : Vec Ideal S1024x1024 .bf16) (x : S1x1024x128.Idx) :
    k0_pay5 (F := Ideal) x0 x1 x2 x = slabs (k0_pay4 (F := Ideal) x0 x1 x2) (ix3 (0 : Fin 8) (x 1) (x 2)) := by
  generalize hp : k0_pay4 (F := Ideal) x0 x1 x2 = p
  idx_vars x
  pointwise [k0_pay5, slabs, hp]

/-- Block 1 of the columns. -/
theorem part1 (x0 : Vec Ideal S1x1024x1024 .f32) (x1 : Vec Ideal S1x1024 .f32) (x2 : Vec Ideal S1024x1024 .bf16) (x : S1x1024x128.Idx) :
    k0_pay6 (F := Ideal) x0 x1 x2 x = slabs (k0_pay4 (F := Ideal) x0 x1 x2) (ix3 (1 : Fin 8) (x 1) (x 2)) := by
  generalize hp : k0_pay4 (F := Ideal) x0 x1 x2 = p
  idx_vars x
  pointwise [k0_pay6, slabs, hp]

/-- Block 2 of the columns. -/
theorem part2 (x0 : Vec Ideal S1x1024x1024 .f32) (x1 : Vec Ideal S1x1024 .f32) (x2 : Vec Ideal S1024x1024 .bf16) (x : S1x1024x128.Idx) :
    k0_pay7 (F := Ideal) x0 x1 x2 x = slabs (k0_pay4 (F := Ideal) x0 x1 x2) (ix3 (2 : Fin 8) (x 1) (x 2)) := by
  generalize hp : k0_pay4 (F := Ideal) x0 x1 x2 = p
  idx_vars x
  pointwise [k0_pay7, slabs, hp]

/-- Block 3 of the columns. -/
theorem part3 (x0 : Vec Ideal S1x1024x1024 .f32) (x1 : Vec Ideal S1x1024 .f32) (x2 : Vec Ideal S1024x1024 .bf16) (x : S1x1024x128.Idx) :
    k0_pay9 (F := Ideal) (k0_pay8 (F := Ideal) x0 x1 x2) x = slabs (k0_pay4 (F := Ideal) x0 x1 x2) (ix3 (3 : Fin 8) (x 1) (x 2)) := by
  generalize hp : k0_pay4 (F := Ideal) x0 x1 x2 = p
  idx_vars x
  pointwise [k0_pay9, k0_pay8, slabs, hp]

/-- Block 4 of the columns. -/
theorem part4 (x0 : Vec Ideal S1x1024x1024 .f32) (x1 : Vec Ideal S1x1024 .f32) (x2 : Vec Ideal S1024x1024 .bf16) (x : S1x1024x128.Idx) :
    k0_pay10 (F := Ideal) (k0_pay4 (F := Ideal) x0 x1 x2) x = slabs (k0_pay4 (F := Ideal) x0 x1 x2) (ix3 (4 : Fin 8) (x 1) (x 2)) := by
  generalize hp : k0_pay4 (F := Ideal) x0 x1 x2 = p
  idx_vars x
  pointwise [k0_pay10, slabs, hp]

/-- Block 5 of the columns. -/
theorem part5 (x0 : Vec Ideal S1x1024x1024 .f32) (x1 : Vec Ideal S1x1024 .f32) (x2 : Vec Ideal S1024x1024 .bf16) (x : S1x1024x128.Idx) :
    k0_pay11 (F := Ideal) (k0_pay4 (F := Ideal) x0 x1 x2) x = slabs (k0_pay4 (F := Ideal) x0 x1 x2) (ix3 (5 : Fin 8) (x 1) (x 2)) := by
  generalize hp : k0_pay4 (F := Ideal) x0 x1 x2 = p
  idx_vars x
  pointwise [k0_pay11, slabs, hp]

/-- Block 6 of the columns. -/
theorem part6 (x0 : Vec Ideal S1x1024x1024 .f32) (x1 : Vec Ideal S1x1024 .f32) (x2 : Vec Ideal S1024x1024 .bf16) (x : S1x1024x128.Idx) :
    k0_pay12 (F := Ideal) (k0_pay4 (F := Ideal) x0 x1 x2) x = slabs (k0_pay4 (F := Ideal) x0 x1 x2) (ix3 (6 : Fin 8) (x 1) (x 2)) := by
  generalize hp : k0_pay4 (F := Ideal) x0 x1 x2 = p
  idx_vars x
  pointwise [k0_pay12, slabs, hp]

/-- Block 7 of the columns. -/
theorem part7 (x0 : Vec Ideal S1x1024x1024 .f32) (x1 : Vec Ideal S1x1024 .f32) (x2 : Vec Ideal S1024x1024 .bf16) (x : S1x1024x128.Idx) :
    k0_pay13 (F := Ideal) (k0_pay4 (F := Ideal) x0 x1 x2) x = slabs (k0_pay4 (F := Ideal) x0 x1 x2) (ix3 (7 : Fin 8) (x 1) (x 2)) := by
  generalize hp : k0_pay4 (F := Ideal) x0 x1 x2 = p
  idx_vars x
  pointwise [k0_pay13, slabs, hp]

/-- The scratch buffer read back: eight blocks of columns, each stored whole. -/
theorem back (v : View sig .tc .vmem S8x1024x128 .f32) (U : FVec Ideal S8x1024x128 .f32) (B : LoadRect S8x1024x128)
    (p0 p1 p2 p3 p4 p5 p6 p7 : Vec Ideal S1x1024x128 .f32)
    (q0 : ∀ x, p0 x = U (ix3 (0 : Fin 8) (x 1) (x 2)))
    (q1 : ∀ x, p1 x = U (ix3 (1 : Fin 8) (x 1) (x 2)))
    (q2 : ∀ x, p2 x = U (ix3 (2 : Fin 8) (x 1) (x 2)))
    (q3 : ∀ x, p3 x = U (ix3 (3 : Fin 8) (x 1) (x 2)))
    (q4 : ∀ x, p4 x = U (ix3 (4 : Fin 8) (x 1) (x 2)))
    (q5 : ∀ x, p5 x = U (ix3 (5 : Fin 8) (x 1) (x 2)))
    (q6 : ∀ x, p6 x = U (ix3 (6 : Fin 8) (x 1) (x 2)))
    (q7 : ∀ x, p7 x = U (ix3 (7 : Fin 8) (x 1) (x 2)))
    (j : B.shape.Idx) :
    v.readCov (Val := Elt Ideal) [⟨Rect.unit ![7, 0, 0] ![1, 1024, 128] inb_S8x1024x128_S1x1024x128_7_0_0, p7⟩,
      ⟨Rect.unit ![6, 0, 0] ![1, 1024, 128] inb_S8x1024x128_S1x1024x128_6_0_0, p6⟩,
      ⟨Rect.unit ![5, 0, 0] ![1, 1024, 128] inb_S8x1024x128_S1x1024x128_5_0_0, p5⟩,
      ⟨Rect.unit ![4, 0, 0] ![1, 1024, 128] inb_S8x1024x128_S1x1024x128_4_0_0, p4⟩,
      ⟨Rect.unit ![3, 0, 0] ![1, 1024, 128] inb_S8x1024x128_S1x1024x128_3_0_0, p3⟩,
      ⟨Rect.unit ![2, 0, 0] ![1, 1024, 128] inb_S8x1024x128_S1x1024x128_2_0_0, p2⟩,
      ⟨Rect.unit ![1, 0, 0] ![1, 1024, 128] inb_S8x1024x128_S1x1024x128_1_0_0, p1⟩,
      ⟨Rect.unit ![0, 0, 0] ![1, 1024, 128] inb_S8x1024x128_S1x1024x128_0_0_0, p0⟩] B j = U (B.idx j) := by
  refine (congrFun (View.readCov_eq_canon v _ B fun j => ?_) j).trans ?_
  · exact View.cover_of_tiled (s := S8x1024x128) _ S1x1024x128.size (by rfl) _
  · generalize B.idx j = y
    canon_tiles x e
    · exact (q7 x).trans (congrArg U (by blk_ext))
    · exact (q6 x).trans (congrArg U (by blk_ext))
    · exact (q5 x).trans (congrArg U (by blk_ext))
    · exact (q4 x).trans (congrArg U (by blk_ext))
    · exact (q3 x).trans (congrArg U (by blk_ext))
    · exact (q2 x).trans (congrArg U (by blk_ext))
    · exact (q1 x).trans (congrArg U (by blk_ext))
    · exact (q0 x).trans (congrArg U (by blk_ext))

/-- A stored block at an index. -/
theorem cast_at (z : Vec Ideal S1x128x128 .f32) (x : S1x1x128x128.Idx) : k0_pay3 (F := Ideal) z x = z (ix3 0 (x 2) (x 3)) := by
  idx_vars x
  pointwise [k0_pay3]

/-- The slab arrangement of a grid point's rows: place `r` of slab `s` is row `8 r + s`. -/
def rows8 (p : FVec Ideal S1024x1024 .f32) (y : S1x8x128x1024.Idx) : EReal :=
  p (ix2 (⟨(y 2).val * 8 + (y 1).val, by have : (y 2).val < 128 := (y 2).isLt; have : (y 1).val < 8 := (y 1).isLt; omega⟩ : Fin 1024) (y 3))

/-- A strided run of the scratch buffer holds the arrangement's entries. -/
theorem slab_at (p : FVec Ideal S1024x1024 .f32) (o s : ℕ) (inb) (x : S1x1x128x128.Idx) (y : S1x8x128x1024.Idx)
    (h1 : (y 1).val = s) (h2 : (y 2).val = (x 2).val) (h3 : (y 3).val = o * 128 + (x 3).val) :
    slabs p ((⟨![o, s, 0], ![1, 128, 128], ![1, 8, 1], inb⟩ : LoadRect S8x1024x128).idx (ix3 0 (x 2) (x 3))) = rows8 p y := by
  refine congrArg p (funext fun a => Fin.ext ?_)
  fin_cases a
  · change s + 8 * (x 2).val = (y 2).val * 8 + (y 1).val
    omega
  · change (o + 1 * 0) * 128 + (0 + 1 * (x 3).val) = (y 3).val
    omega

/-- A grid point's stored block: the projection of its rows, arranged by the remainder of the row by eight. -/
theorem point (m : (ℓ : Loc nD τ sig) → Buf (Elt Ideal) ℓ) (c : Dev nD) (t : Fin cfg0.N) (y : S1x8x128x1024.Idx) :
    outsAt0 m c t y = rows8 (k0_pay4 (F := Ideal) (iblk m c 0 t) (iblk m c 1 t) (iblk m c 2 t)) y := by
  unfold outsAt0
  frame_out
  canon_tiles x h
  all_goals
    refine (cast_at _ x).trans ?_
    refine (back _ (slabs (k0_pay4 (F := Ideal) (iblk m c 0 t) (iblk m c 1 t) (iblk m c 2 t))) _ _ _ _ _ _ _ _ _ (part0 _ _ _) (part1 _ _ _) (part2 _ _ _) (part3 _ _ _) (part4 _ _ _) (part5 _ _ _) (part6 _ _ _) (part7 _ _ _) _).trans ?_
    exact slab_at _ _ _ _ x y (by omega) (by omega) (by omega)

/-- The whole result: slab `s` of batch element `b` holds the projection of the positions with remainder `s` by eight. -/
def OUT (X : FVec Ideal S16x2048x1024 .f32) (g : FVec Ideal S1024 .f32) (w : FVec Ideal S1024x1024 .f32) : FVec Ideal S16x8x256x1024 .f32 := fun i =>
  proj (fun l => X (ix3 (i 0) (⟨(i 2).val * 8 + (i 1).val, by have : (i 2).val < 256 := (i 2).isLt; have : (i 1).val < 8 := (i 1).isLt; omega⟩ : Fin 2048) l))
    (fun l => g (ix1 l)) (fun k n => w (ix2 k n)) (i 3)

variable (m : (ℓ : Loc nD τ sig) → Buf (Elt Ideal) ℓ)

/-- The windows' block indices. -/
theorem idx : ∀ t : Fin cfg0.N, win0_0.index t = ![t.val / 2, t.val % 2, 0] ∧ win0_1.index t = ![0, 0] ∧ win0_2.index t = ![0, 0]
    ∧ win0_3.index t = ![t.val / 2, 0, t.val % 2, 0] :=
  (by decide +kernel : ∀ t : Fin grid0.N, _)

/-- The rows of a grid point, read off the argument. -/
theorem blk0 (c : Dev nD) (t : Fin cfg0.N) (r l : Fin 1024) : iblk m c 0 t (ix3 0 r l)
    = (m ((c : Thread nD τ).loc main_arg0)) (ix3 (⟨t.val / 2, by have : t.val < 32 := t.isLt; omega⟩ : Fin 16)
        (⟨t.val % 2 * 1024 + r.val, by have := r.isLt; omega⟩ : Fin 2048) l) := by
  blk_point [iblk, V, idx t]

/-- The gain. -/
theorem blk1 (c : Dev nD) (t : Fin cfg0.N) (l : Fin 1024) : iblk m c 1 t (ix2 0 l) = (m ((c : Thread nD τ).loc main_arg1)) (ix1 l) := by
  blk_point [iblk, V, idx t]

/-- The weights. -/
theorem blk2 (c : Dev nD) (t : Fin cfg0.N) (k n : Fin 1024) : iblk m c 2 t (ix2 k n) = (m ((c : Thread nD τ).loc main_arg2)) (ix2 k n) := by
  blk_point [iblk, V, idx t]

/-- The result after the run. -/
theorem final (c : Dev nD) : (dats m 0 c).arrAt 3 (cfgs 0).N
    = OUT (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, point]
  idx_vars y
  have ht : t.val < 32 := t.isLt
  have he : ((cfg0.win 3).blk t).view.emb (ix4 y0 y1 y2 y3) = (ix4 (⟨t.val / 2, by omega⟩ : Fin 16) y1
      (⟨t.val % 2 * 128 + y2.val, by have := y2.isLt; omega⟩ : Fin 256) y3 : S16x8x256x1024.Idx) := by
    blk_ext [idx t]
  rw [he]
  refine (pay4_eq _ _ _ _ _).trans ?_
  simp only [blk0, blk1, blk2]
  unfold OUT
  refine congrArg (fun f => proj f _ _ _) (funext fun l => ?_)
  blk_ext []

end Cert.FourierInIdeal.Block

namespace Cert.FourierInReferenceIdeal.Block

open Cert.FourierInReferenceIdeal Cert.FourierInReferenceIdeal.Gen Cert.FourierInReferenceIdeal.Read Cert.RowMath

variable (x : FVec Ideal S16x2048x1024 .f32) (g : FVec Ideal S1024 .f32) (w : FVec Ideal S1024x1024 .f32)

/-- The reference's scaled input. -/
theorem v12_eq (b : Fin 16) (s : Fin 2048) (k : Fin 1024) :
    val_main_v12 (F := Ideal) x g (ix3 b s k) = rms (fun l => x (ix3 b s l)) (fun l => g (ix1 l)) k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, rms]
  try simp only [zero_add]

/-- The reference's result is the kernel's. -/
theorem ref_eq : val_main_v16 (F := Ideal) x g w = Cert.FourierInIdeal.Block.OUT x g w := by
  funext i
  idx_vars i
  pointwise [val_main_v16, val_main_v15, val_main_v14, val_main_v13, v12_eq, Cert.FourierInIdeal.Block.OUT, Cert.FourierInIdeal.Block.proj]

end Cert.FourierInReferenceIdeal.Block

end
-- ==== Proof.PoolRun.lean ====
/- The pooling program's run with its result: the launch, ending with the result array's contents. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Pool

open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every weakly fair execution ends, nothing faulting, with the result array holding what the second region's points stored
    and with the arguments as launched. -/
theorem run : θ_run defs (onTc (τ := τ) (main (F := F))) ⟨m, fun _ => 0, ρ⟩ (fun r => ∀ c : Dev nD,
      r.2.mem ((c.tc : Thread nD τ).loc main_v4) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v4 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Pool
-- ==== Proof.PoolBlock.lean ====
/- The pooling program's blocks, index by index: what each payload of the two regions computes. -/
module

public import proofs.«01_k».proof.Proof.PoolRun
public import proofs.«01_k».proof.Proof.RowMath

@[expose] public section

set_option maxRecDepth 16384

noncomputable section

open Idealize.ShloMosaic Idealize.ShloMosaic.TcCoe Idealize.SL.Sem

namespace Cert.KernelIdeal.Pool

open Cert.KernelIdeal Cert.KernelIdeal.Gen Cert.RowMath

/-- The folded output weights of a group: its block matrix times its scaled rows of the output matrix. -/
theorem fold_eq (v0 : Vec Ideal S1x256x1 .f32) (v2 : Vec Ideal S256x1024 .f32) (v5 : Vec Ideal S1x256x256 .f32)
    (r : Fin 256) (n : Fin 1024) :
    k0_pay1 (F := Ideal) v0 v2 v5 (ix2 r n) = ∑ c : Fin 256, v5 (ix3 0 r c) * (v0 (ix3 0 c 0) * v2 (ix2 c n)) := by
  pointwise [k0_pay1]

/-- A tile's rows and a copy of them moved down by `n`, added. -/
def step (n : BitVec 32) (v : FVec Ideal S1040x256 .f32) : FVec Ideal S1040x256 .f32 :=
  addf v (dynamicRotate 0 n none v rotates_S1040x256_d0)

/-- A window sum over the window's length inside the sequence, minus the row itself, for the tile's own rows. -/
def half (h : BitVec 32) (pos : IVec S1024x1 32) (w u : FVec Ideal S1040x256 .f32) : FVec Ideal S1024x256 .bf16 :=
  truncf .bf16 (subf (divf (extractStridedSlice S1024x256 ![8, 0] w slices_S1040x256_o8_0_S1024x256)
    (broadcastTo S1024x256 (sitofp .f32 (subi (minsi (addi pos (broadcast S1024x1 h)) (broadcast S1024x1 2048#32))
      (maxsi (subi pos (broadcast S1024x1 h)) (broadcast S1024x1 0#32)))) broadcasts_S1024x1_S1024x256))
    (extractStridedSlice S1024x256 ![8, 0] u slices_S1040x256_o8_0_S1024x256)) bitsLt_bf16_f32

/-- The four groups side by side, through the folded weights, added to the tile's input. -/
def out4 (x : FVec Ideal S1024x1024 .f32) (a b c d : FVec Ideal S1024x256 .bf16) (w : Vec Ideal S1024x1024 .bf16) :
    FVec Ideal S1x1024x1024 .f32 :=
  shapeCast S1x1024x1024 (addf x (matmul (φ₁ := .bf16) (φ₂ := .bf16) dot_S1024x1024_S1024x1024_S1024x1024_1_0_0_1_n_n none
    (concatenate S1024x1024 1 [⟨S1024x256, a⟩, ⟨S1024x256, b⟩, ⟨S1024x256, c⟩, ⟨S1024x256, d⟩]
      concatenates_S1024x256_S1024x256_S1024x256_S1024x256_S1024x1024_d1)
    (shapeCast S1024x1024 w shapeCasts_S1024x1024_S1024x1024) (constant S1024x1024 .f32 0x00000000#32)))
    shapeCasts_S1024x1024_S1x1024x1024

/-- The columns of a group. -/
def cols0 (p : FVec Ideal S1040x1024 .f32) : FVec Ideal S1040x256 .f32 := extractStridedSlice S1040x256 ![0, 0] p slices_S1040x1024_o0_0_S1040x256
/-- The columns of a group. -/
def cols1 (p : FVec Ideal S1040x1024 .f32) : FVec Ideal S1040x256 .f32 := extractStridedSlice S1040x256 ![0, 256] p slices_S1040x1024_o0_256_S1040x256
/-- The columns of a group. -/
def cols2 (p : FVec Ideal S1040x1024 .f32) : FVec Ideal S1040x256 .f32 := extractStridedSlice S1040x256 ![0, 512] p slices_S1040x1024_o0_512_S1040x256
/-- The columns of a group. -/
def cols3 (p : FVec Ideal S1040x1024 .f32) : FVec Ideal S1040x256 .f32 := extractStridedSlice S1040x256 ![0, 768] p slices_S1040x1024_o0_768_S1040x256

/-- The column group read at an index. -/
theorem cols0_eq (p : FVec Ideal S1040x1024 .f32) (r : Fin 1040) (k : Fin 256) : cols0 p (ix2 r k) = p (ix2 r ⟨k.val, by omega⟩) := by
  pointwise [cols0]
/-- The column group read at an index. -/
theorem cols1_eq (p : FVec Ideal S1040x1024 .f32) (r : Fin 1040) (k : Fin 256) : cols1 p (ix2 r k) = p (ix2 r ⟨256 + k.val, by omega⟩) := by
  pointwise [cols1]
/-- The column group read at an index. -/
theorem cols2_eq (p : FVec Ideal S1040x1024 .f32) (r : Fin 1040) (k : Fin 256) : cols2 p (ix2 r k) = p (ix2 r ⟨512 + k.val, by omega⟩) := by
  pointwise [cols2]
/-- The column group read at an index. -/
theorem cols3_eq (p : FVec Ideal S1040x1024 .f32) (r : Fin 1040) (k : Fin 256) : cols3 p (ix2 r k) = p (ix2 r ⟨768 + k.val, by omega⟩) := by
  pointwise [cols3]

/-- A row and the row above it. -/
theorem step1_eq (v : FVec Ideal S1040x256 .f32) (r : Fin 1040) (k : Fin 256) : step 1#32 v (ix2 r k) = v (ix2 r k) + v (ix2 ⟨(r.val + 1040 - 1) % 1040, Nat.mod_lt _ (by norm_num)⟩ k) := by
  pointwise [step]
/-- A row and the row two above it. -/
theorem step2_eq (v : FVec Ideal S1040x256 .f32) (r : Fin 1040) (k : Fin 256) : step 2#32 v (ix2 r k) = v (ix2 r k) + v (ix2 ⟨(r.val + 1040 - 2) % 1040, Nat.mod_lt _ (by norm_num)⟩ k) := by
  pointwise [step]
/-- A row and the row four above it. -/
theorem step4_eq (v : FVec Ideal S1040x256 .f32) (r : Fin 1040) (k : Fin 256) : step 4#32 v (ix2 r k) = v (ix2 r k) + v (ix2 ⟨(r.val + 1040 - 4) % 1040, Nat.mod_lt _ (by norm_num)⟩ k) := by
  pointwise [step]
/-- A row and the row eight above it. -/
theorem step8_eq (v : FVec Ideal S1040x256 .f32) (r : Fin 1040) (k : Fin 256) : step 8#32 v (ix2 r k) = v (ix2 r k) + v (ix2 ⟨(r.val + 1040 - 8) % 1040, Nat.mod_lt _ (by norm_num)⟩ k) := by
  pointwise [step]
/-- A row and the row below it. -/
theorem step1039_eq (v : FVec Ideal S1040x256 .f32) (r : Fin 1040) (k : Fin 256) : step 1039#32 v (ix2 r k) = v (ix2 r k) + v (ix2 ⟨(r.val + 1040 - 1039) % 1040, Nat.mod_lt _ (by norm_num)⟩ k) := by
  pointwise [step]
/-- A row and the row two below it. -/
theorem step1038_eq (v : FVec Ideal S1040x256 .f32) (r : Fin 1040) (k : Fin 256) : step 1038#32 v (ix2 r k) = v (ix2 r k) + v (ix2 ⟨(r.val + 1040 - 1038) % 1040, Nat.mod_lt _ (by norm_num)⟩ k) := by
  pointwise [step]
/-- A row and the row four below it. -/
theorem step1036_eq (v : FVec Ideal S1040x256 .f32) (r : Fin 1040) (k : Fin 256) : step 1036#32 v (ix2 r k) = v (ix2 r k) + v (ix2 ⟨(r.val + 1040 - 1036) % 1040, Nat.mod_lt _ (by norm_num)⟩ k) := by
  pointwise [step]

/-- The window sum over the count, minus the row. -/
theorem half_eq (h : BitVec 32) (pos : IVec S1024x1 32) (w u : FVec Ideal S1040x256 .f32) (r : Fin 1024) (k : Fin 256) :
    half h pos w u (ix2 r k) = Ideal.div (w (ix2 ⟨8 + r.val, by omega⟩ k))
      (((IntOp.subi (IntOp.minsi (IntOp.addi (pos (ix2 r 0)) h) 2048#32) (IntOp.maxsi (IntOp.subi (pos (ix2 r 0)) h) 0#32)).toInt : ℝ) : EReal)
      - u (ix2 ⟨8 + r.val, by omega⟩ k) := by
  pointwise [half]
  rfl

/-- The tile's result from the four groups. -/
theorem out4_eq (x : FVec Ideal S1024x1024 .f32) (a b c d : FVec Ideal S1024x256 .bf16) (w : Vec Ideal S1024x1024 .bf16)
    (r n : Fin 1024) :
    out4 x a b c d w (ix3 0 r n) = x (ix2 r n) + ∑ k : Fin 1024, (if h : k.val < 256 then a (ix2 r ⟨k.val, h⟩)
      else if h : k.val - 256 < 256 then b (ix2 r ⟨k.val - 256, h⟩)
      else if h : k.val - 256 - 256 < 256 then c (ix2 r ⟨k.val - 256 - 256, h⟩)
      else d (ix2 r ⟨k.val - 256 - 256 - 256, by omega⟩)) * w (ix2 k n) := by
  pointwise [out4]

/-- The last payload in these terms. -/
theorem pay1_eq (v1 : FVec Ideal S1024x1024 .f32) (v63 : IVec S1024x1 32) (v82 v103 v126 : FVec Ideal S1024x256 .bf16)
    (v127 v129 : FVec Ideal S1040x256 .f32) (v153 : Vec Ideal S1024x1024 .bf16) :
    k1_pay1 (F := Ideal) v1 v63 v82 v103 v126 v127 v129 1038#32 v153
      = out4 v1 v82 v103 v126 (half 8#32 v63 (step 8#32 (step 1036#32 (step 1038#32 v129))) v127) v153 := rfl

/-- The first group in these terms. -/
theorem pay12_eq (a : BitVec 32) (v3 : FVec Ideal S1x1024 .f32) (v17 : FVec Ideal S8x1024 .f32) (v29 : FVec Ideal S1024x1024 .f32) (v31 : FVec Ideal S8x1024 .f32) (v36 : FVec Ideal S8x1 .f32) (v37 : FVec Ideal S8x1 .f32) (v46 : Vec Ideal S1024x1024 .bf16) :
    k1_pay12 (F := Ideal) a v3 v17 v29 v31 v36 v37 v46
      = half 1#32 (k1_pay11 a) (step 1#32 (cols0 (k1_pay10 (F := Ideal) a v3 v17 v29 v31 v36 v37 v46))) (cols0 (k1_pay10 (F := Ideal) a v3 v17 v29 v31 v36 v37 v46)) := rfl

/-- The second group's columns in these terms. -/
theorem pay13_eq (a : BitVec 32) (v3 : FVec Ideal S1x1024 .f32) (v17 : FVec Ideal S8x1024 .f32) (v29 : FVec Ideal S1024x1024 .f32) (v31 : FVec Ideal S8x1024 .f32) (v36 : FVec Ideal S8x1 .f32) (v37 : FVec Ideal S8x1 .f32) (v46 : Vec Ideal S1024x1024 .bf16) :
    k1_pay13 (F := Ideal) a v3 v17 v29 v31 v36 v37 v46 = cols1 (k1_pay10 (F := Ideal) a v3 v17 v29 v31 v36 v37 v46) := rfl

/-- The second group in these terms. -/
theorem pay14_eq (v63 : IVec S1024x1 32) (v83 : FVec Ideal S1040x256 .f32) :
    k1_pay14 (F := Ideal) v63 v83 1039#32 = half 2#32 v63 (step 2#32 (step 1039#32 v83)) v83 := rfl

/-- The third group in these terms. -/
theorem pay15_eq (p : FVec Ideal S1040x1024 .f32) (v63 : IVec S1024x1 32) :
    k1_pay15 (F := Ideal) p v63 = half 4#32 v63 (step 4#32 (step 1038#32 (step 1039#32 (cols2 p)))) (cols2 p) := rfl

/-- The fourth group's first sum in these terms. -/
theorem pay17_eq (p : FVec Ideal S1040x1024 .f32) : k1_pay17 (F := Ideal) p = step 1039#32 (cols3 p) := rfl

/-- The fourth group's columns in these terms. -/
theorem pay16_eq (p : FVec Ideal S1040x1024 .f32) : k1_pay16 (F := Ideal) p = cols3 p := rfl

/-- The scaled rows before the tile. -/
theorem pay4_eq (v2 : Vec Ideal S1x1024 .f32) (v4 : Vec Ideal S1x8x1024 .f32) (r : Fin 8) (k : Fin 1024) :
    k1_pay4 (F := Ideal) v2 v4 (ix2 r k) = rms (fun l => v4 (ix3 0 r l)) (fun l => v2 (ix2 0 l)) k := by
  pointwise [k1_pay4, k1_pay3, rms]

/-- The scaled rows of the tile. -/
theorem pay5_eq (v0 : Vec Ideal S1x1024x1024 .f32) (v2 : Vec Ideal S1x1024 .f32) (r k : Fin 1024) :
    k1_pay5 (F := Ideal) v0 v2 (ix2 r k) = rms (fun l => v0 (ix3 0 r l)) (fun l => v2 (ix2 0 l)) k := by
  pointwise [k1_pay5, k1_pay3, k1_pay2, rms]

/-- The product of the scaled rows with the input weights, zero on the rows outside the sequence, from the parts it is given. -/
theorem pay10_raw (a : BitVec 32) (v3 : FVec Ideal S1x1024 .f32) (v17 : FVec Ideal S8x1024 .f32) (v29 : FVec Ideal S1024x1024 .f32) (v31 : FVec Ideal S8x1024 .f32) (v36 : FVec Ideal S8x1 .f32) (v37 : FVec Ideal S8x1 .f32) (v46 : Vec Ideal S1024x1024 .bf16) (r : Fin 1040) (k : Fin 1024) :
    k1_pay10 (F := Ideal) a v3 v17 v29 v31 v36 v37 v46 (ix2 r k) =
    Scalar.select (IntOp.andi
        (IntOp.cmpi .sge (IntOp.addi (Scalar.subi (Scalar.muli a 1024#32) 8#32) (BitVec.ofNat 32 r.val)) 0#32)
        (IntOp.cmpi .slt (IntOp.addi (Scalar.subi (Scalar.muli a 1024#32) 8#32) (BitVec.ofNat 32 r.val)) 2048#32))
      (∑ l : Fin 1024, (if h : r.val < 8 then v17 (ix2 ⟨r.val, h⟩ l)
          else if h : r.val - 8 < 1024 then v29 (ix2 ⟨r.val - 8, h⟩ l)
          else v31 (ix2 ⟨r.val - 8 - 1024, by omega⟩ l) * Ideal.rsqrt (v36 (ix2 ⟨r.val - 8 - 1024, by omega⟩ 0)
            + v37 (ix2 ⟨r.val - 8 - 1024, by omega⟩ 0)) * v3 (ix2 0 l)) * v46 (ix2 l k)) (0 : EReal) := by
  pointwise [k1_pay10, k1_pay9]

/-- The scaled rows after the tile. -/
theorem halo_eq (v2 : Vec Ideal S1x1024 .f32) (v30 : Vec Ideal S1x8x1024 .f32) (r : Fin 8) (k : Fin 1024) :
    k1_pay6 (F := Ideal) v30 (ix2 r k) * Ideal.rsqrt (k1_pay7 (F := Ideal) v30 (ix2 r 0) + k1_pay8 (F := Ideal) (ix2 r 0)) * k1_pay3 (F := Ideal) v2 (ix2 0 k)
      = rms (fun l => v30 (ix3 0 r l)) (fun l => v2 (ix2 0 l)) k := by
  pointwise [k1_pay6, k1_pay7, k1_pay8, k1_pay3, rms]

/-- The product of the scaled rows with the input weights, zero on the rows outside the sequence. -/
theorem pay10_eq (a : BitVec 32) (v2 : Vec Ideal S1x1024 .f32) (v4 : Vec Ideal S1x8x1024 .f32) (v0 : Vec Ideal S1x1024x1024 .f32)
    (v30 : Vec Ideal S1x8x1024 .f32) (v46 : Vec Ideal S1024x1024 .bf16) (r : Fin 1040) (k : Fin 1024) :
    k1_pay10 (F := Ideal) a (k1_pay3 (F := Ideal) v2) (k1_pay4 (F := Ideal) v2 v4) (k1_pay5 (F := Ideal) v0 v2) (k1_pay6 (F := Ideal) v30)
      (k1_pay7 (F := Ideal) v30) (k1_pay8 (F := Ideal)) v46 (ix2 r k) =
    Scalar.select (IntOp.andi
        (IntOp.cmpi .sge (IntOp.addi (Scalar.subi (Scalar.muli a 1024#32) 8#32) (BitVec.ofNat 32 r.val)) 0#32)
        (IntOp.cmpi .slt (IntOp.addi (Scalar.subi (Scalar.muli a 1024#32) 8#32) (BitVec.ofNat 32 r.val)) 2048#32))
      (∑ l : Fin 1024, rms (fun l => if h : r.val < 8 then v4 (ix3 0 ⟨r.val, h⟩ l)
          else if h : r.val - 8 < 1024 then v0 (ix3 0 ⟨r.val - 8, h⟩ l)
          else v30 (ix3 0 ⟨r.val - 8 - 1024, by omega⟩ l)) (fun l => v2 (ix2 0 l)) l * v46 (ix2 l k)) (0 : EReal) := by
  rw [pay10_raw]
  simp only [pay4_eq, pay5_eq, halo_eq]
  congr 1
  refine Finset.sum_congr rfl fun l _ => congrArg (· * _) ?_
  by_cases h : r.val < 8
  · simp only [h, dite_true]
  · by_cases h' : r.val - 8 < 1024
    · simp only [h, h', dite_true, dite_false]
    · simp only [h, h', dite_false]

/-- The tile rows' positions. -/
theorem pay11_eq (a : BitVec 32) (r : Fin 1024) :
    k1_pay11 a (ix2 r 0) = IntOp.addi (Scalar.subi (Scalar.muli a 1024#32) 8#32) (BitVec.ofNat 32 (8 + r.val)) := by
  pointwise [k1_pay11, k1_pay9]

end Cert.KernelIdeal.Pool
-- ==== Proof.PoolMath.lean ====
/- The pooling mixer's arithmetic over the extended reals: window sums by doubling against differences of running sums, and
   the output weights folded into the group matrices against the two products one after the other. -/
module

public import proofs.«01_k».proof.Proof.RowMath

@[expose] public section

noncomputable section

namespace Cert.RowMath

open Idealize.ShloMosaic

/-- A finite sum of real numbers is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def Real? (x : EReal) : Prop := ∃ r : ℝ, x = (r : EReal)

/-- A sum of real numbers is real. -/
theorem real_sum {ι : Type} (s : Finset ι) (f : ι → EReal) (h : ∀ i ∈ s, Real? (f i)) : Real? (∑ i ∈ s, f i) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A product of real numbers is real. -/
theorem real_mul {x y : EReal} (hx : Real? x) (hy : Real? y) : Real? (x * y) := by
  obtain ⟨a, rfl⟩ := hx; obtain ⟨b, rfl⟩ := hy; exact ⟨a * b, by rw [EReal.coe_mul]⟩

/-- A difference of real numbers is real. -/
theorem real_sub {x y : EReal} (hx : Real? x) (hy : Real? y) : Real? (x - y) := by
  obtain ⟨a, rfl⟩ := hx; obtain ⟨b, rfl⟩ := hy; exact ⟨a - b, by rw [EReal.coe_sub]⟩

/-- The single-precision pattern of 1024. -/
theorem c1024 : Ideal.ofBits .f32 0x44800000#32 = ((1024 : ℝ) : EReal) := by
  simp [Ideal.ofBits, Ideal.ieee, -EReal.coe_mul]; norm_num

/-- The small constant under the root is a positive real number. -/
theorem ceps : ∃ e : ℝ, 0 < e ∧ Ideal.ofBits .f32 0x358637BD#32 = (e : EReal) := by
  refine ⟨_, ?_, by simp [Ideal.ofBits, Ideal.ieee, -EReal.coe_mul]; rfl⟩
  norm_num

/-- A square among the extended reals is not negative. -/
theorem sq_nonneg' (x : EReal) : 0 ≤ x * x := by
  induction x with
  | bot => simp
  | top => simp
  | coe r => rw [← EReal.coe_mul]; exact EReal.coe_nonneg.mpr (mul_self_nonneg r)

/-- The scaled row is real whatever the row: an infinite entry makes the scaling factor zero. -/
theorem real_rms (x g : Fin 1024 → EReal) (hg : ∀ k, Real? (g k)) (k : Fin 1024) : Real? (rms x g k) := by
  unfold rms
  refine real_mul ?_ (hg k)
  obtain ⟨e, he, hE⟩ := ceps
  rw [c1024, hE, Ideal.div_coe (by norm_num : (1024 : ℝ) ≠ 0)]
  have hpos : ∀ l : Fin 1024, 0 ≤ x l * x l := fun l => sq_nonneg' _
  have h0 : 0 ≤ ∑ l : Fin 1024, x l * x l := Finset.sum_nonneg fun l _ => hpos l
  have hle : x k * x k ≤ ∑ l : Fin 1024, x l * x l := Finset.single_le_sum (fun l _ => hpos l) (Finset.mem_univ k)
  generalize ∑ l : Fin 1024, x l * x l = S at h0 hle
  induction S with
  | bot => exact absurd h0 (by simp)
  | top =>
    refine ⟨0, ?_⟩
    rw [EReal.top_mul_of_pos (EReal.coe_pos.mpr (by norm_num)), EReal.top_add_coe, Ideal.rsqrt_top]
    simp
  | coe s =>
    have hs : 0 ≤ s := EReal.coe_nonneg.mp h0
    have hq : 0 < s * (1 / 1024) + e := by positivity
    rw [← EReal.coe_mul, ← EReal.coe_add, Ideal.rsqrt_coe, if_neg (not_lt.mpr hq.le), if_neg hq.ne']
    refine real_mul ?_ ⟨_, rfl⟩
    generalize x k = a at hle
    induction a with
    | bot => simp at hle
    | top => simp at hle
    | coe a => exact ⟨a, rfl⟩

/-- A sequence laid out from place 8 on, zero elsewhere. -/
def ext (u : Fin 2048 → EReal) (q : ℕ) : EReal := if h : 8 ≤ q ∧ q < 2056 then u ⟨q - 8, by omega⟩ else 0

/-- Each place and the place `n` after it. -/
def up (n : ℕ) (f : ℕ → EReal) (q : ℕ) : EReal := f q + f (q + n)
/-- Each place and the place `n` before it. -/
def dn (n : ℕ) (f : ℕ → EReal) (q : ℕ) : EReal := f q + f (q - n)

/-- The window sums of the four groups by doubling. -/
def win (g : Fin 4) (f : ℕ → EReal) : ℕ → EReal :=
  match g with
  | 0 => dn 1 f
  | 1 => dn 2 (up 1 f)
  | 2 => dn 4 (up 2 (up 1 f))
  | 3 => dn 8 (up 4 (up 2 (up 1 f)))

/-- Half the window of each group. -/
def hw (g : Fin 4) : ℕ := match g with | 0 => 1 | 1 => 2 | 2 => 4 | 3 => 8

/-- The first place of the window. -/
def lo (g : Fin 4) (s : Fin 2048) : ℕ := s.val - hw g
/-- The place after the window. -/
def hi (g : Fin 4) (s : Fin 2048) : ℕ := min (s.val + hw g) 2048

/-- The number of places of the window inside the sequence. -/
def cnt (g : Fin 4) (s : Fin 2048) : ℝ := (((hi g s : ℤ) - (lo g s : ℤ) : ℤ) : ℝ)

/-- The running sum of the places before `j`. -/
def csum (u : Fin 2048 → EReal) (j : ℕ) : EReal := ∑ p : Fin 2048, if p.val < j then u p else 0

/-- The pooled sequence by window sums. -/
def poolK (u : Fin 2048 → EReal) (g : Fin 4) (s : Fin 2048) : EReal :=
  Ideal.div (win g (ext u) (s.val + 8)) (cnt g s : EReal) - u s

/-- The pooled sequence by differences of running sums. -/
def poolR (u : Fin 2048 → EReal) (g : Fin 4) (s : Fin 2048) : EReal :=
  Ideal.div (csum u (hi g s) - csum u (lo g s)) (cnt g s : EReal) - u s

/-- The window is not empty. -/
theorem cnt_ne (g : Fin 4) (s : Fin 2048) : cnt g s ≠ 0 := by
  unfold cnt
  have : lo g s < hi g s := by
    have := s.isLt
    unfold lo hi hw
    split <;> omega
  exact_mod_cast (by omega : ((hi g s : ℤ) - (lo g s : ℤ) : ℤ) ≠ 0)

/-- A run of the extended sequence is a difference of running sums (over the real numbers). -/
theorem run_eq (F : ℕ → ℝ) (h8 : ∀ q, q < 8 → F q = 0) (hE : ∀ q, 2056 ≤ q → F q = 0) (h s : ℕ) (hh : h ≤ 8) (hs : s < 2048) :
    ∑ j ∈ Finset.range (2 * h), F (s + 8 - h + j)
      = ∑ p ∈ Finset.range (min (s + h) 2048), F (p + 8) - ∑ p ∈ Finset.range (s - h), F (p + 8) := by
  have hA : ∀ n, ∑ q ∈ Finset.range (8 + n), F q = ∑ p ∈ Finset.range n, F (p + 8) := by
    intro n
    rw [Finset.sum_range_add, Finset.sum_eq_zero (fun q hq => h8 q (Finset.mem_range.mp hq)), zero_add]
    exact Finset.sum_congr rfl fun p _ => by rw [add_comm]
  have hR : ∑ j ∈ Finset.range (2 * h), F (s + 8 - h + j)
      = ∑ q ∈ Finset.range (s + 8 - h + 2 * h), F q - ∑ q ∈ Finset.range (s + 8 - h), F q := by
    rw [Finset.sum_range_add]; ring
  have hT : ∑ q ∈ Finset.range (s + 8 - h + 2 * h), F q = ∑ p ∈ Finset.range (min (s + h) 2048), F (p + 8) := by
    rw [show s + 8 - h + 2 * h = 8 + (s + h) by omega, hA]
    by_cases hc : s + h ≤ 2048
    · rw [Nat.min_eq_left hc]
    · rw [Nat.min_eq_right (by omega), show s + h = 2048 + (s + h - 2048) by omega, Finset.sum_range_add]
      rw [Finset.sum_eq_zero (s := Finset.range (s + h - 2048)) (fun q _ => hE _ (by omega)), add_zero]
  have hL : ∑ q ∈ Finset.range (s + 8 - h), F q = ∑ p ∈ Finset.range (s - h), F (p + 8) := by
    by_cases hc : h ≤ s
    · rw [show s + 8 - h = 8 + (s - h) by omega, hA]
    · rw [show s - h = 0 by omega, Finset.range_zero, Finset.sum_empty]
      exact Finset.sum_eq_zero fun q hq => h8 q (by have := Finset.mem_range.mp hq; omega)
  rw [hR, hT, hL]

/-- The doubled window sum of real numbers as one run. -/
theorem win_real (F : ℕ → ℝ) (g : Fin 4) (s : ℕ) :
    win g (fun q => (F q : EReal)) (s + 8) = ((∑ j ∈ Finset.range (2 * hw g), F (s + 8 - hw g + j) : ℝ) : EReal) := by
  match g with
  | 0 =>
    simp only [win, hw, dn, up, ← EReal.coe_add, Finset.sum_range_succ, Finset.sum_range_zero, Nat.reduceMul]
    refine congrArg _ ?_
    rw [show s + 8 - 1 + 1 = s + 8 by omega]
    ring_nf
  | 1 =>
    simp only [win, hw, dn, up, ← EReal.coe_add, Finset.sum_range_succ, Finset.sum_range_zero, Nat.reduceMul]
    refine congrArg _ ?_
    rw [show s + 8 - 2 + 2 = s + 8 by omega, show s + 8 - 2 + 3 = s + 8 + 1 by omega]
    simp only [Nat.add_zero]
    ring_nf
  | 2 =>
    simp only [win, hw, dn, up, ← EReal.coe_add, Finset.sum_range_succ, Finset.sum_range_zero, Nat.reduceMul]
    refine congrArg _ ?_
    simp only [Nat.add_zero, Nat.add_sub_cancel, Nat.add_assoc, Nat.reduceAdd, Nat.reduceSubDiff,
      show s + 8 - 4 = s + 4 by omega, zero_add]
    ring_nf
  | 3 =>
    simp only [win, hw, dn, up, ← EReal.coe_add, Finset.sum_range_succ, Finset.sum_range_zero, Nat.reduceMul]
    refine congrArg _ ?_
    simp only [Nat.add_zero, Nat.add_assoc, Nat.reduceAdd, show s + 8 - 8 = s by omega, zero_add]
    ring_nf

/-- The running sum of real numbers as a sum over an initial run of the extended sequence. -/
theorem csum_real (v : Fin 2048 → ℝ) (F : ℕ → ℝ) (hF : ∀ p : Fin 2048, F (p.val + 8) = v p) (j : ℕ) (hj : j ≤ 2048) :
    csum (fun p => (v p : EReal)) j = ((∑ p ∈ Finset.range j, F (p + 8) : ℝ) : EReal) := by
  unfold csum
  have h1 : ∀ p : Fin 2048, (if p.val < j then (v p : EReal) else 0) = ((if p.val < j then F (p.val + 8) else 0 : ℝ) : EReal) := by
    intro p; rw [hF]; split <;> simp
  simp only [h1]
  rw [← coe_sum, Fin.sum_univ_eq_sum_range (fun p => if p < j then F (p + 8) else 0) 2048, ← Finset.sum_filter]
  refine congrArg _ (Finset.sum_congr ?_ fun _ _ => rfl)
  ext p; simp only [Finset.mem_filter, Finset.mem_range]; omega

/-- For a real sequence the two ways of pooling agree. -/
theorem pool_eq (u : Fin 2048 → EReal) (hu : ∀ s, Real? (u s)) (g : Fin 4) (s : Fin 2048) : poolK u g s = poolR u g s := by
  choose v hv using hu
  obtain rfl : u = fun s => (v s : EReal) := funext hv
  let F : ℕ → ℝ := fun q => if h : 8 ≤ q ∧ q < 2056 then v ⟨q - 8, by omega⟩ else 0
  have hx : ext (fun s => (v s : EReal)) = fun q => (F q : EReal) := by
    funext q; unfold ext; simp only [F]; split <;> rfl
  have hF : ∀ p : Fin 2048, F (p.val + 8) = v p := fun p => by
    have := p.isLt
    simp only [F]; rw [dif_pos (by omega)]; rfl
  have hg : hw g ≤ 8 := by unfold hw; split <;> omega
  unfold poolK poolR
  rw [hx, win_real, csum_real v F hF _ (by unfold hi; omega), csum_real v F hF _ (by unfold lo; have := s.isLt; omega), ← EReal.coe_sub,
    run_eq F (fun q hq => dif_neg (by omega)) (fun q hq => dif_neg (by omega)) _ _ hg s.isLt]
  rfl

/-- The pooled sequence of a real sequence is real. -/
theorem real_pool (u : Fin 2048 → EReal) (hu : ∀ s, Real? (u s)) (g : Fin 4) (s : Fin 2048) : Real? (poolR u g s) := by
  unfold poolR
  rw [Ideal.div_coe (cnt_ne g s)]
  refine real_sub (real_mul (real_sub ?_ ?_) ⟨_, rfl⟩) (hu s)
  all_goals
    exact real_sum _ _ fun p _ => by split; · exact hu p
                                     · exact ⟨0, by simp⟩

/-- The group of a column. -/
def grp (k : Fin 1024) : Fin 4 := ⟨k.val / 256, by omega⟩
/-- A column's place in its group. -/
def plc (k : Fin 1024) : Fin 256 := ⟨k.val % 256, by omega⟩
/-- The column of a group and a place. -/
def col (g : Fin 4) (c : Fin 256) : Fin 1024 := ⟨g.val * 256 + c.val, by omega⟩

/-- Folding the output weights into the group matrices first gives the same as the two products one after the other, for
    real entries. -/
theorem fold_real (p : Fin 1024 → ℝ) (W : Fin 4 → Fin 256 → Fin 256 → ℝ) (sc wo : Fin 1024 → ℝ) :
    ∑ k : Fin 1024, p k * ∑ c : Fin 256, W (grp k) (plc k) c * (sc (col (grp k) c) * wo (col (grp k) c))
      = ∑ j : Fin 1024, ((∑ c : Fin 256, W (grp j) c (plc j) * p (col (grp j) c)) * sc j) * wo j := by
  have hg : ∀ (g : Fin 4) (c : Fin 256) (h : g.val * 256 + c.val < 1024), grp ⟨g.val * 256 + c.val, h⟩ = g :=
    fun g c h => Fin.ext (by show (g.val * 256 + c.val) / 256 = g.val; omega)
  have hp : ∀ (g : Fin 4) (c : Fin 256) (h : g.val * 256 + c.val < 1024), plc ⟨g.val * 256 + c.val, h⟩ = c :=
    fun g c h => Fin.ext (by show (g.val * 256 + c.val) % 256 = c.val; omega)
  rw [Fin.sum_univ_tiles 4 256 rfl, Fin.sum_univ_tiles 4 256 rfl]
  refine Finset.sum_congr rfl fun g _ => ?_
  simp only [hg, hp]
  simp only [Finset.mul_sum, Finset.sum_mul]
  rw [Finset.sum_comm]
  refine Finset.sum_congr rfl fun c _ => Finset.sum_congr rfl fun d _ => ?_
  unfold col
  ring_nf

/-- The same among the extended reals, for entries that are real. -/
theorem fold_eq (p : Fin 1024 → EReal) (W : Fin 4 → Fin 256 → Fin 256 → EReal) (sc wo : Fin 1024 → EReal)
    (hp : ∀ k, Real? (p k)) (hW : ∀ g c d, Real? (W g c d)) (hs : ∀ k, Real? (sc k)) (hw : ∀ k, Real? (wo k)) :
    ∑ k : Fin 1024, p k * ∑ c : Fin 256, W (grp k) (plc k) c * (sc (col (grp k) c) * wo (col (grp k) c))
      = ∑ j : Fin 1024, ((∑ c : Fin 256, W (grp j) c (plc j) * p (col (grp j) c)) * sc j) * wo j := by
  choose p' hp' using hp
  choose W' hW' using hW
  choose s' hs' using hs
  choose w' hw' using hw
  simp only [hp', hW', hs', hw', ← EReal.coe_mul, ← coe_sum]
  exact congrArg _ (fold_real p' W' s' w')

end Cert.RowMath

end
-- ==== Proof.PoolFinal.lean ====
/- The pooling program's value: what each grid point of the two regions stores, and the whole result array. -/
module

public import proofs.«01_k».proof.Proof.PoolBlock
public import proofs.«01_k».proof.Proof.PoolMath

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen Cert.RowMath

/-- The machine word of row `r`'s position in tile `i`. -/
def posw (i r : ℕ) : BitVec 32 := IntOp.addi (Scalar.subi (Scalar.muli (BitVec.ofNat 32 i) 1024#32) 8#32) (BitVec.ofNat 32 r)

/-- The machine word of the window's length at position `x`, half the window being `h`. -/
def cntw (x h : BitVec 32) : BitVec 32 := IntOp.subi (IntOp.minsi (IntOp.addi x h) 2048#32) (IntOp.maxsi (IntOp.subi x h) 0#32)

/-- The mask is one on the rows inside the sequence. -/
theorem mask_eq : ∀ (i : Fin 2) (r : Fin 1040), IntOp.andi (IntOp.cmpi .sge (posw i.val r.val) 0#32) (IntOp.cmpi .slt (posw i.val r.val) 2048#32)
    = if 8 ≤ i.val * 1024 + r.val ∧ i.val * 1024 + r.val < 2056 then 1#1 else 0#1 := by decide +kernel

/-- The window's length in the first group. -/
theorem cnt0 : ∀ (i : Fin 2) (r : Fin 1024), (cntw (posw i.val (8 + r.val)) 1#32).toInt
    = ((min (i.val * 1024 + r.val + 1) 2048 : ℕ) : ℤ) - ((i.val * 1024 + r.val - 1 : ℕ) : ℤ) := by decide +kernel
/-- The window's length in the second group. -/
theorem cnt1 : ∀ (i : Fin 2) (r : Fin 1024), (cntw (posw i.val (8 + r.val)) 2#32).toInt
    = ((min (i.val * 1024 + r.val + 2) 2048 : ℕ) : ℤ) - ((i.val * 1024 + r.val - 2 : ℕ) : ℤ) := by decide +kernel
/-- The window's length in the third group. -/
theorem cnt2 : ∀ (i : Fin 2) (r : Fin 1024), (cntw (posw i.val (8 + r.val)) 4#32).toInt
    = ((min (i.val * 1024 + r.val + 4) 2048 : ℕ) : ℤ) - ((i.val * 1024 + r.val - 4 : ℕ) : ℤ) := by decide +kernel
/-- The window's length in the fourth group. -/
theorem cnt3 : ∀ (i : Fin 2) (r : Fin 1024), (cntw (posw i.val (8 + r.val)) 8#32).toInt
    = ((min (i.val * 1024 + r.val + 8) 2048 : ℕ) : ℤ) - ((i.val * 1024 + r.val - 8 : ℕ) : ℤ) := by decide +kernel

/-- Row `r` of tile `i` as a place of the sequence. -/
def place (i : Fin 2) (r : Fin 1024) : Fin 2048 := ⟨i.val * 1024 + r.val, by omega⟩

/-- Sums of equal terms are equal. -/
theorem add_eq {a b c d : EReal} (h : a = b) (h' : c = d) : a + c = b + d := by rw [h, h']

section Groups
variable (i : Fin 2) (u : Fin 2048 → EReal) (v : FVec Ideal S1040x256 .f32) (k : Fin 256)
  (hv : ∀ r : Fin 1040, v (ix2 r k) = ext u (i.val * 1024 + r.val)) (pos : IVec S1024x1 32)
  (hpos : ∀ r : Fin 1024, pos (ix2 r 0) = posw i.val (8 + r.val)) (r : Fin 1024)

include hv in
/-- The tile's own row of the product. -/
theorem own : v (ix2 ⟨8 + r.val, by omega⟩ k) = u (place i r) := by
  rw [hv]; unfold ext place
  rw [dif_pos (by dsimp only; omega)]
  exact congrArg u (Fin.ext (by dsimp only; omega))

include hv hpos in
/-- The first group's pooled row. -/
theorem group0 : half 1#32 pos (step 1#32 v) v (ix2 r k) = poolK u 0 (place i r) := by
  rw [half_eq, own i u v k hv, hpos]
  unfold poolK
  refine congrArg (· - _) (congrArg₂ Ideal.div ?_ (congrArg (fun z : ℤ => ((z : ℝ) : EReal)) (cnt0 i r)))
  simp only [step1_eq, hv, win, dn, up, place]
  repeat' with_reducible apply add_eq
  all_goals exact congrArg (ext u) (by omega)

include hv hpos in
/-- The second group's pooled row. -/
theorem group1 : half 2#32 pos (step 2#32 (step 1039#32 v)) v (ix2 r k) = poolK u 1 (place i r) := by
  rw [half_eq, own i u v k hv, hpos]
  unfold poolK
  refine congrArg (· - _) (congrArg₂ Ideal.div ?_ (congrArg (fun z : ℤ => ((z : ℝ) : EReal)) (cnt1 i r)))
  simp only [step2_eq, step1039_eq, hv, win, dn, up, place]
  repeat' with_reducible apply add_eq
  all_goals exact congrArg (ext u) (by omega)

include hv hpos in
/-- The third group's pooled row. -/
theorem group2 : half 4#32 pos (step 4#32 (step 1038#32 (step 1039#32 v))) v (ix2 r k) = poolK u 2 (place i r) := by
  rw [half_eq, own i u v k hv, hpos]
  unfold poolK
  refine congrArg (· - _) (congrArg₂ Ideal.div ?_ (congrArg (fun z : ℤ => ((z : ℝ) : EReal)) (cnt2 i r)))
  simp only [step4_eq, step1038_eq, step1039_eq, hv, win, dn, up, place]
  repeat' with_reducible apply add_eq
  all_goals exact congrArg (ext u) (by omega)

include hv hpos in
/-- The fourth group's pooled row. -/
theorem group3 : half 8#32 pos (step 8#32 (step 1036#32 (step 1038#32 (step 1039#32 v)))) v (ix2 r k) = poolK u 3 (place i r) := by
  rw [half_eq, own i u v k hv, hpos]
  unfold poolK
  refine congrArg (· - _) (congrArg₂ Ideal.div ?_ (congrArg (fun z : ℤ => ((z : ℝ) : EReal)) (cnt3 i r)))
  simp only [step8_eq, step1036_eq, step1038_eq, step1039_eq, hv, win, dn, up, place]
  repeat' with_reducible apply add_eq
  all_goals exact congrArg (ext u) (by omega)

end Groups

/-- A grid point's whole stored block, from the masked product's rows: the input plus the pooled rows through the folded
    weights. -/
theorem block_eq (i : grid1.Coords) (x0 : Vec Ideal S1x8x1024 .f32) (x1 : Vec Ideal S1x1024x1024 .f32) (x2 : Vec Ideal S1x8x1024 .f32)
    (x3 : Vec Ideal S1x1024 .f32) (x4 x5 : Vec Ideal S1024x1024 .bf16) (j : Fin 2) (hj : (i 1).val = j.val)
    (u : Fin 1024 → Fin 2048 → EReal)
    (hp : ∀ (r : Fin 1040) (k : Fin 1024), k1_pay10 (F := Ideal) (BitVec.ofNat 32 j.val) (k1_pay3 (F := Ideal) x3) (k1_pay4 (F := Ideal) x3 x0) (k1_pay5 (F := Ideal) x1 x3) (k1_pay6 (F := Ideal) x2)
      (k1_pay7 (F := Ideal) x2) (k1_pay8 (F := Ideal)) x4 (ix2 r k) = ext (u k) (j.val * 1024 + r.val)) (r n : Fin 1024) :
    out1_6 (F := Ideal) i x0 x1 x2 x3 x4 x5 (ix3 0 r n) = x1 (ix3 0 r n) + ∑ k : Fin 1024, poolK (u k) (grp k) (place j r) * x5 (ix2 k n) := by
  unfold_out out1_6
  frame_out
  rw [hj, pay1_eq, out4_eq, pay12_eq, pay13_eq, pay14_eq, pay15_eq, pay16_eq, pay17_eq]
  generalize k1_pay10 (F := Ideal) (BitVec.ofNat 32 j.val) (k1_pay3 (F := Ideal) x3) (k1_pay4 (F := Ideal) x3 x0) (k1_pay5 (F := Ideal) x1 x3) (k1_pay6 (F := Ideal) x2)
      (k1_pay7 (F := Ideal) x2) (k1_pay8 (F := Ideal)) x4 = p at hp ⊢
  have hpos : ∀ r : Fin 1024, k1_pay11 (BitVec.ofNat 32 j.val) (ix2 r 0) = posw j.val (8 + r.val) := fun r => pay11_eq _ r
  generalize k1_pay11 (BitVec.ofNat 32 j.val) = pos at hpos ⊢
  refine add_eq (by pointwise [k1_pay2]) (Finset.sum_congr rfl fun k _ => congrArg (· * _) ?_)
  have hk := k.isLt
  by_cases h0 : k.val < 256
  · rw [dif_pos h0, group0 j (u k) _ _ (fun r => (cols0_eq p r _).trans (hp r k)) pos hpos]
    exact congrArg (fun g => poolK (u k) g _) (Fin.ext (by show 0 = k.val / 256; omega))
  rw [dif_neg h0]
  by_cases h1 : k.val - 256 < 256
  · have e : (⟨256 + (k.val - 256), by omega⟩ : Fin 1024) = k := Fin.ext (by dsimp only; omega)
    rw [dif_pos h1, group1 j (u k) _ _ (fun r => (cols1_eq p r _).trans (by rw [← hp r k]; exact congrArg (fun k => p (ix2 r k)) e)) pos hpos]
    exact congrArg (fun g => poolK (u k) g _) (Fin.ext (by show 1 = k.val / 256; omega))
  rw [dif_neg h1]
  by_cases h2 : k.val - 256 - 256 < 256
  · have e : (⟨512 + (k.val - 256 - 256), by omega⟩ : Fin 1024) = k := Fin.ext (by dsimp only; omega)
    rw [dif_pos h2, group2 j (u k) _ _ (fun r => (cols2_eq p r _).trans (by rw [← hp r k]; exact congrArg (fun k => p (ix2 r k)) e)) pos hpos]
    exact congrArg (fun g => poolK (u k) g _) (Fin.ext (by show 2 = k.val / 256; omega))
  rw [dif_neg h2]
  have e : (⟨768 + (k.val - 256 - 256 - 256), by omega⟩ : Fin 1024) = k := Fin.ext (by dsimp only; omega)
  rw [group3 j (u k) _ _ (fun r => (cols3_eq p r _).trans (by rw [← hp r k]; exact congrArg (fun k => p (ix2 r k)) e)) pos hpos]
  exact congrArg (fun g => poolK (u k) g _) (Fin.ext (by show 3 = k.val / 256; omega))

end Cert.KernelIdeal.Pool
-- ==== Proof.PoolValue.lean ====
/- The pooling program's result array as a function of its arguments. -/
module

public import proofs.«01_k».proof.Proof.PoolFinal

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen Cert.RowMath

/-- The products of the scaled rows of a batch element with column `k` of the input weights. -/
def prod (X : FVec Ideal S16x2048x1024 .f32) (g : FVec Ideal S1024 .f32) (wi : FVec Ideal S1024x1024 .f32) (b : Fin 16)
    (k : Fin 1024) (s : Fin 2048) : EReal :=
  ∑ l : Fin 1024, rms (fun l => X (ix3 b s l)) (fun l => g (ix1 l)) l * wi (ix2 l k)

/-- The output weights folded into the group matrices. -/
def fold (wg : FVec Ideal S4x256x256 .f32) (sc : FVec Ideal S1024 .f32) (wo : FVec Ideal S1024x1024 .f32) (k n : Fin 1024) : EReal :=
  ∑ c : Fin 256, wg (ix3 (grp k) (plc k) c) * (sc (ix1 (col (grp k) c)) * wo (ix2 (col (grp k) c) n))

/-- The whole result as a function of the arguments. -/
def OUT (X : FVec Ideal S16x2048x1024 .f32) (g : FVec Ideal S1024 .f32) (wi : FVec Ideal S1024x1024 .f32)
    (wg : FVec Ideal S4x256x256 .f32) (sc : FVec Ideal S1024 .f32) (wo : FVec Ideal S1024x1024 .f32) : FVec Ideal S16x2048x1024 .f32 := fun y =>
  X y + ∑ k : Fin 1024, poolK (prod X g wi (y 0) k) (grp k) (y 1) * fold wg sc wo k (y 2)

/-- The first region's block indices. -/
theorem idx0 : ∀ t : Fin cfg0.N, win0_0.index t = ![t.val, 0, 0] ∧ win0_1.index t = ![t.val, 0, 0] ∧ win0_2.index t = ![t.val, 0]
    ∧ win0_3.index t = ![t.val, 0] :=
  (by decide +kernel : ∀ t : Fin grid0.N, _)

/-- The second region's block indices: a batch element and a half of its sequence, with the eight rows before and after. -/
theorem idx1 : ∀ t : Fin cfg1.N, win1_0.index t = ![t.val / 2, t.val % 2 * 128 - 1, 0] ∧ win1_1.index t = ![t.val / 2, t.val % 2, 0]
    ∧ win1_2.index t = ![t.val / 2, min ((t.val % 2 + 1) * 128) 255, 0] ∧ win1_3.index t = ![0, 0] ∧ win1_4.index t = ![0, 0]
    ∧ win1_5.index t = ![0, 0] ∧ win1_6.index t = ![t.val / 2, t.val % 2, 0] ∧ ((grid1.coords t) 1).val = t.val % 2 :=
  (by decide +kernel : ∀ t : Fin grid1.N, _)

section Blocks
variable (V : (c : Dev nD) → (b : Ref sig .tc) → Buf (Elt Ideal) ((c : Thread nD τ).loc b)) (c : Dev nD)

/-- The group matrix of a point of the first region. -/
theorem blk0_0 (t : Fin cfg0.N) (r d : Fin 256) : iblk0 V c 0 t (ix3 0 r d)
    = (V c main_arg3) (ix3 (⟨t.val, t.isLt⟩ : Fin 4) r d) := by
  blk_point [iblk0, idx0 t]

/-- The scale column of a point of the first region. -/
theorem blk0_1 (t : Fin cfg0.N) (r : Fin 256) : iblk0 V c 1 t (ix3 0 r 0)
    = (V c main_v2) (ix3 (⟨t.val, t.isLt⟩ : Fin 4) r 0) := by
  blk_point [iblk0, idx0 t]

/-- The output rows of a point of the first region. -/
theorem blk0_2 (t : Fin cfg0.N) (r : Fin 256) (n : Fin 1024) : iblk0 V c 2 t (ix2 r n)
    = (V c main_arg5) (ix2 (col ⟨t.val, t.isLt⟩ r) n) := by
  blk_point [iblk0, idx0 t, col]

/-- The rows before a tile. -/
theorem blk1_0 (t : Fin cfg1.N) (r : Fin 8) (l : Fin 1024) : iblk1 V c 0 t (ix3 0 r l)
    = (V c main_arg0) (ix3 (⟨t.val / 2, by have := t.isLt; have : cfg1.N = 32 := rfl; omega⟩ : Fin 16)
        (⟨(t.val % 2 * 128 - 1) * 8 + r.val, by omega⟩ : Fin 2048) l) := by
  blk_point [iblk1, idx1 t]

/-- The rows of a tile. -/
theorem blk1_1 (t : Fin cfg1.N) (r l : Fin 1024) : iblk1 V c 1 t (ix3 0 r l)
    = (V c main_arg0) (ix3 (⟨t.val / 2, by have := t.isLt; have : cfg1.N = 32 := rfl; omega⟩ : Fin 16)
        (⟨t.val % 2 * 1024 + r.val, by omega⟩ : Fin 2048) l) := by
  blk_point [iblk1, idx1 t]

/-- The rows after a tile. -/
theorem blk1_2 (t : Fin cfg1.N) (r : Fin 8) (l : Fin 1024) : iblk1 V c 2 t (ix3 0 r l)
    = (V c main_arg0) (ix3 (⟨t.val / 2, by have := t.isLt; have : cfg1.N = 32 := rfl; omega⟩ : Fin 16)
        (⟨min ((t.val % 2 + 1) * 128) 255 * 8 + r.val, by omega⟩ : Fin 2048) l) := by
  blk_point [iblk1, idx1 t]

/-- The gain. -/
theorem blk1_3 (t : Fin cfg1.N) (l : Fin 1024) : iblk1 V c 3 t (ix2 0 l) = (V c main_v0) (ix2 0 l) := by
  blk_point [iblk1, idx1 t]

/-- The input weights. -/
theorem blk1_4 (t : Fin cfg1.N) (k l : Fin 1024) : iblk1 V c 4 t (ix2 k l) = (V c main_v1) (ix2 k l) := by
  blk_point [iblk1, idx1 t]

/-- The folded output weights. -/
theorem blk1_5 (t : Fin cfg1.N) (k l : Fin 1024) : iblk1 V c 5 t (ix2 k l) = (V c main_v3) (ix2 k l) := by
  blk_point [iblk1, idx1 t]

/-- The first region's result array: the folded weights. -/
theorem final0 (sc : FVec Ideal S1024 .f32) (hs : ∀ (g : Fin 4) (r : Fin 256), (V c main_v2) (ix3 g r 0) = sc (ix1 (col g r))) :
    (dat0 V c).arrAt 3 cfg0.N = ((fun y => fold (V c main_arg3) sc (V c main_arg5) (y 0) (y 1)) : FVec Ideal S1024x1024 .bf16) := by
  refine (dat0 V c).arrAt_eq_of_covers 3 _ (by decide +kernel) fun t _ y => ?_
  blk_simp
  rw [after0_3]
  have ht : t.val < 4 := t.isLt
  idx_vars y
  have he : ((cfg0.win 3).blk t).view.emb (ix2 y0 y1) = (ix2 (⟨t.val * 256 + y0.val, by have := y0.isLt; omega⟩ : Fin 1024) y1 : S1024x1024.Idx) := by
    blk_ext [idx0 t]
  rw [he]
  show out0_3 (F := Ideal) (iblk0 V c 0 t) (iblk0 V c 1 t) (iblk0 V c 2 t) (ix2 y0 y1) = _
  unfold out0_3
  frame_out
  refine (fold_eq _ _ _ y0 y1).trans ?_
  have hg : grp ⟨t.val * 256 + y0.val, by have := y0.isLt; omega⟩ = ⟨t.val, ht⟩ := Fin.ext (by have := y0.isLt; show (t.val * 256 + y0.val) / 256 = t.val; omega)
  have hq : plc ⟨t.val * 256 + y0.val, by have := y0.isLt; omega⟩ = y0 := Fin.ext (by have := y0.isLt; show (t.val * 256 + y0.val) % 256 = y0.val; omega)
  simp only [blk0_0, blk0_1, blk0_2, hs]
  show _ = fold _ _ _ ⟨t.val * 256 + y0.val, _⟩ y1
  unfold fold
  rw [hg, hq]

/-- A tile's masked product, as the extended sequence of its batch element's products. -/
theorem masked (t : Fin cfg1.N) (r : Fin 1040) (k : Fin 1024) (g : FVec Ideal S1024 .f32) (wi : FVec Ideal S1024x1024 .f32)
    (hg : ∀ l : Fin 1024, (V c main_v0) (ix2 0 l) = g (ix1 l)) (hw : ∀ k l : Fin 1024, (V c main_v1) (ix2 k l) = wi (ix2 k l)) :
    k1_pay10 (F := Ideal) (BitVec.ofNat 32 (t.val % 2)) (k1_pay3 (F := Ideal) (iblk1 V c 3 t)) (k1_pay4 (F := Ideal) (iblk1 V c 3 t) (iblk1 V c 0 t))
      (k1_pay5 (F := Ideal) (iblk1 V c 1 t) (iblk1 V c 3 t)) (k1_pay6 (F := Ideal) (iblk1 V c 2 t))
      (k1_pay7 (F := Ideal) (iblk1 V c 2 t)) (k1_pay8 (F := Ideal)) (iblk1 V c 4 t) (ix2 r k)
      = ext (prod (V c main_arg0) g wi ⟨t.val / 2, by have := t.isLt; have : cfg1.N = 32 := rfl; omega⟩ k) (t.val % 2 * 1024 + r.val) := by
  refine (pay10_eq _ _ _ _ _ _ r k).trans ?_
  have hm := mask_eq ⟨t.val % 2, Nat.mod_lt _ (by norm_num)⟩ r
  unfold posw at hm
  dsimp only at hm
  rw [hm]
  unfold ext
  by_cases hc : 8 ≤ t.val % 2 * 1024 + r.val ∧ t.val % 2 * 1024 + r.val < 2056
  · rw [if_pos hc, dif_pos hc, show ∀ a b : EReal, Scalar.select 1#1 a b = a from fun _ _ => rfl]
    unfold prod
    refine Finset.sum_congr rfl fun l _ => ?_
    refine congrArg₂ (· * ·) ?_ ((blk1_4 V c t l k).trans (hw l k))
    refine congrArg₂ (fun a b : Fin 1024 → EReal => rms a b l) (funext fun l => ?_) (funext fun l => (blk1_3 V c t l).trans (hg l))
    by_cases h : r.val < 8
    · rw [dif_pos h, blk1_0]
      exact congrArg (fun s => (V c main_arg0) (ix3 _ s l)) (Fin.ext (by dsimp only; omega))
    rw [dif_neg h]
    by_cases h' : r.val - 8 < 1024
    · rw [dif_pos h', blk1_1]
      exact congrArg (fun s => (V c main_arg0) (ix3 _ s l)) (Fin.ext (by dsimp only; omega))
    rw [dif_neg h', blk1_2]
    exact congrArg (fun s => (V c main_arg0) (ix3 _ s l)) (Fin.ext (by dsimp only; omega))
  · rw [if_neg hc, dif_neg hc]
    rfl

/-- The second region's result array from the folded weights it finds. -/
theorem final1 (g : FVec Ideal S1024 .f32) (wi : FVec Ideal S1024x1024 .f32) (wg : FVec Ideal S4x256x256 .f32) (sc : FVec Ideal S1024 .f32)
    (wo : FVec Ideal S1024x1024 .f32)
    (hg : ∀ l : Fin 1024, (V c main_v0) (ix2 0 l) = g (ix1 l)) (hw : ∀ k l : Fin 1024, (V c main_v1) (ix2 k l) = wi (ix2 k l))
    (hf : ∀ k n : Fin 1024, (V c main_v3) (ix2 k n) = fold wg sc wo k n) :
    (dat1 V c).arrAt 6 cfg1.N = OUT (V c main_arg0) g wi wg sc wo := by
  refine (dat1 V c).arrAt_eq_of_covers 6 _ (by decide +kernel) fun t _ y => ?_
  blk_simp
  rw [after1_6]
  have ht : t.val < 32 := t.isLt
  idx_vars y
  obtain rfl : y0 = 0 := Subsingleton.elim _ _
  have he : ((cfg1.win 6).blk t).view.emb (ix3 0 y1 y2) = (ix3 (⟨t.val / 2, by omega⟩ : Fin 16) (⟨t.val % 2 * 1024 + y1.val, by have := y1.isLt; omega⟩ : Fin 2048) y2 : S16x2048x1024.Idx) := by
    blk_ext [idx1 t]
  rw [he]
  refine (block_eq _ _ _ _ _ _ _ ⟨t.val % 2, Nat.mod_lt _ (by norm_num)⟩ (idx1 t).2.2.2.2.2.2.2
    (fun k => prod (V c main_arg0) g wi ⟨t.val / 2, by omega⟩ k) (fun r k => masked V c t r k g wi hg hw) y1 y2).trans ?_
  rw [blk1_1]
  simp only [blk1_5, hf]
  rfl

end Blocks

variable (m : (ℓ : Loc nD τ sig) → Buf (Elt Ideal) ℓ) (ρ : Dev nD → PrngReg)

/-- The gain as the second region finds it. -/
theorem host0 (c : Dev nD) (l : Fin 1024) : V1 m ρ c main_v0 (ix2 0 l) = m ((c : Thread nD τ).loc main_arg1) (ix1 l) := by
  blk_point [V1, W1]

/-- The input weights as the second region finds them. -/
theorem host1 (c : Dev nD) (k l : Fin 1024) : V1 m ρ c main_v1 (ix2 k l) = m ((c : Thread nD τ).loc main_arg2) (ix2 k l) := by
  blk_point [V1, W1]

/-- The scale columns as the first region finds them. -/
theorem host2 (c : Dev nD) (g : Fin 4) (r : Fin 256) : V1 m ρ c main_v2 (ix3 g r 0) = m ((c : Thread nD τ).loc main_arg4) (ix1 (col g r)) := by
  blk_point [V1, W1, col]

/-- The result array after the run, as a function of the arguments. -/
theorem final (c : Dev nD) : (dat1 (V2 m ρ) c).arrAt 6 cfg1.N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have a0 : V2 m ρ c main_arg0 = m ((c : Thread nD τ).loc main_arg0) := W2_args m ρ c main_arg0 (by decide)
  have a3 : V1 m ρ c main_arg3 = m ((c : Thread nD τ).loc main_arg3) := W1_args m ρ c main_arg3 (by decide)
  have a5 : V1 m ρ c main_arg5 = m ((c : Thread nD τ).loc main_arg5) := W1_args m ρ c main_arg5 (by decide)
  have v0 : V2 m ρ c main_v0 = V1 m ρ c main_v0 := W2_of m ρ c main_v0 (by decide)
  have v1 : V2 m ρ c main_v1 = V1 m ρ c main_v1 := W2_of m ρ c main_v1 (by decide)
  have v3 : V2 m ρ c main_v3 = (dat0 (V1 m ρ) c).arrAt 3 cfg0.N := W2_arr m ρ c 3
  rw [← a0]
  refine final1 (V2 m ρ) c _ _ _ _ _ (fun l => by rw [v0, host0]) (fun k l => by rw [v1, host1]) (fun k n => ?_)
  rw [v3, final0 (V1 m ρ) c (m ((c : Thread nD τ).loc main_arg4)) (fun g r => host2 m ρ c g r), a3, a5]
  rfl

end Cert.KernelIdeal.Pool
-- ==== Proof.PoolReference.lean ====
/- The pooling reference's reading, index by index: the scaled rows, the running sums, the window's ends and lengths, the
   pooled groups, and the output product. -/
module

public import proofs.«01_k».proof.Proof.PoolMath
public import proofs.«01_k».proof.Proof.Gen.ReferenceIdeal.Run
public import proofs.«01_k».proof.Proof.Gen.ReferenceIdeal.Read
public import Idealize.ShloMosaic.Lib.Claim

@[expose] public section

set_option maxRecDepth 16384

noncomputable section

open Idealize.ShloMosaic Idealize.ShloMosaic.TcCoe Idealize.SL.Sem

namespace Cert.ReferenceIdeal.Pool

open Cert.ReferenceIdeal Cert.ReferenceIdeal.Gen Cert.ReferenceIdeal.Read Cert.RowMath

/-! ## The running sum -/

/-- A left fold of additions is a start and a sum. -/
theorem foldl_add {ι : Type} (l : List ι) (f : ι → EReal) (z : EReal) : l.foldl (fun r a => r + f a) z = z + (l.map f).sum := by
  induction l generalizing z with
  | nil => simp
  | cons a l ih => rw [List.foldl_cons, ih, List.map_cons, List.sum_cons, add_assoc]

/-- Of a window of the whole length ending at place `s`, only the places up to `s` count. -/
theorem window_sum (u : Fin 2048 → EReal) (s : Fin 2048) :
    ∑ n : Fin 2048, (if h : 2047 ≤ s.val + n.val then u ⟨s.val + n.val - 2047, by omega⟩ else 0) = csum u (s.val + 1) := by
  let f : ℕ → EReal := fun p => if h : p < 2048 then u ⟨p, h⟩ else 0
  have hs := s.isLt
  have h1 : ∀ n : Fin 2048, (if h : 2047 ≤ s.val + n.val then u ⟨s.val + n.val - 2047, by omega⟩ else 0)
      = (fun n : ℕ => if 2047 ≤ s.val + n then f (s.val + n - 2047) else 0) n.val := fun n => by
    have := n.isLt
    dsimp only [f]
    by_cases h : 2047 ≤ s.val + n.val
    · rw [dif_pos h, if_pos h, dif_pos (by omega)]
    · rw [dif_neg h, if_neg h]
  have h2 : ∀ p : Fin 2048, (if p.val < s.val + 1 then u p else 0) = (fun p : ℕ => if p < s.val + 1 then f p else 0) p.val := fun p => by
    dsimp only [f]
    rw [dif_pos p.isLt]
  unfold csum
  rw [Finset.sum_congr rfl fun n _ => h1 n, Finset.sum_congr rfl fun p _ => h2 p,
    Fin.sum_univ_eq_sum_range (fun n : ℕ => if 2047 ≤ s.val + n then f (s.val + n - 2047) else 0) 2048,
    Fin.sum_univ_eq_sum_range (fun p : ℕ => if p < s.val + 1 then f p else 0) 2048]
  have e1 : Finset.range 2048 = Finset.range (2047 - s.val + (s.val + 1)) := by congr 1; omega
  have e2 : Finset.range 2048 = Finset.range (s.val + 1 + (2047 - s.val)) := by congr 1; omega
  conv_lhs => rw [e1, Finset.sum_range_add]
  conv_rhs => rw [e2, Finset.sum_range_add]
  rw [Finset.sum_eq_zero (s := Finset.range (2047 - s.val)) (fun n hn => if_neg (by have := Finset.mem_range.mp hn; omega)), zero_add,
    Finset.sum_eq_zero (s := Finset.range (2047 - s.val)) (fun n hn => if_neg (by omega)), add_zero]
  refine Finset.sum_congr rfl fun n hn => ?_
  have := Finset.mem_range.mp hn
  rw [if_pos (by omega), if_pos this]
  exact congrArg f (by omega)

/-- The window's shape. -/
abbrev Win : Shape := ⟨4, ![1, 2048, 1, 1]⟩

/-- The number of places of the window. -/
theorem numelWin : Win.numel = 2048 := by decide

/-- The window's places along the sequence are its places in order. -/
theorem symmWin (n : Fin Win.numel) : Win.rowMajor.symm n = ix4 (0 : Fin 1) (n.cast numelWin) (0 : Fin 1) (0 : Fin 1) := by
  rw [Equiv.symm_apply_eq]
  refine Fin.ext ?_
  rw [Shape.rowMajor_val_four]
  show n.val = _
  simp

/-- The running sum over the sequence, read at an index. -/
theorem cum_eq (y : FVec Ideal S16x2048x4x256 .f32) (z : FVec Ideal S_ .f32) (hz : z (Shape.Idx.first h_S_) = 0)
    (b : Fin 16) (s : Fin 2048) (g : Fin 4) (c : Fin 256) :
    Host.reduceWindowAdd (F := Ideal) ![1, 2048, 1, 1] ![1, 1, 1, 1] ![0, 2047, 0, 0] ![0, 0, 0, 0] y z
      reduceWindows_S16x2048x4x256_S16x2048x4x256_w1s1p0_0_w2048s1p2047_0_w1s1p0_0_w1s1p0_0 h_S_ (ix4 b s g c)
      = csum (fun p => y (ix4 b p g c)) (s.val + 1) := by
  refine (congrFun (Ideal.hostReduceWindowAdd_def ..) _).trans ?_
  unfold Ideal.hostReduceWindowAdd Host.reduceWindow
  refine (foldl_add _ _ _).trans ?_
  rw [hz, zero_add, ← List.ofFn_eq_map, List.sum_ofFn, ← window_sum]
  refine Fintype.sum_equiv (finCongr numelWin) _ _ fun n => ?_
  have w0 : (Win.rowMajor.symm n 0).val = 0 := by rw [symmWin]; rfl
  have w1 : (Win.rowMajor.symm n 1).val = n.val := by rw [symmWin]; rfl
  have w2 : (Win.rowMajor.symm n 2).val = 0 := by rw [symmWin]; rfl
  have w3 : (Win.rowMajor.symm n 3).val = 0 := by rw [symmWin]; rfl
  have hn : n.val < 2048 := (n.cast numelWin).isLt
  have hb := b.isLt
  have hs := s.isLt
  have hg := g.isLt
  have hc := c.isLt
  show _ = if h : 2047 ≤ s.val + n.val then y (ix4 b ⟨s.val + n.val - 2047, _⟩ g c) else 0
  dsimp only
  split
  · next hin =>
    have k1 := hin 1
    change 2047 ≤ s.val * 1 + (Win.rowMajor.symm n 1).val ∧ s.val * 1 + (Win.rowMajor.symm n 1).val - 2047 < 2048 at k1
    rw [w1] at k1
    rw [dif_pos (by omega)]
    refine congrArg y (funext fun a => Fin.ext ?_)
    match a with
    | ⟨0, _⟩ =>
      show b.val * 1 + (Win.rowMajor.symm n 0).val - 0 = b.val
      rw [w0]; omega
    | ⟨1, _⟩ =>
      show s.val * 1 + (Win.rowMajor.symm n 1).val - 2047 = s.val + n.val - 2047
      rw [w1]; omega
    | ⟨2, _⟩ =>
      show g.val * 1 + (Win.rowMajor.symm n 2).val - 0 = g.val
      rw [w2]; omega
    | ⟨3, _⟩ =>
      show c.val * 1 + (Win.rowMajor.symm n 3).val - 0 = c.val
      rw [w3]; omega
  · next hin =>
    rw [dif_neg fun hle => hin fun a => by
      match a with
      | ⟨0, _⟩ =>
        show 0 ≤ b.val * 1 + (Win.rowMajor.symm n 0).val ∧ b.val * 1 + (Win.rowMajor.symm n 0).val - 0 < 16
        rw [w0]; omega
      | ⟨1, _⟩ =>
        show 2047 ≤ s.val * 1 + (Win.rowMajor.symm n 1).val ∧ s.val * 1 + (Win.rowMajor.symm n 1).val - 2047 < 2048
        rw [w1]; omega
      | ⟨2, _⟩ =>
        show 0 ≤ g.val * 1 + (Win.rowMajor.symm n 2).val ∧ g.val * 1 + (Win.rowMajor.symm n 2).val - 0 < 4
        rw [w2]; omega
      | ⟨3, _⟩ =>
        show 0 ≤ c.val * 1 + (Win.rowMajor.symm n 3).val ∧ c.val * 1 + (Win.rowMajor.symm n 3).val - 0 < 256
        rw [w3]; omega]

variable (x : FVec Ideal S16x2048x1024 .f32) (g : FVec Ideal S1024 .f32) (wi : FVec Ideal S1024x1024 .f32)
  (wg : FVec Ideal S4x256x256 .f32) (sc : FVec Ideal S1024 .f32) (wo : FVec Ideal S1024x1024 .f32)

/-- The products of the scaled rows of a batch element with column `k` of the input weights. -/
def prod (b : Fin 16) (k : Fin 1024) (s : Fin 2048) : EReal :=
  ∑ l : Fin 1024, rms (fun l => x (ix3 b s l)) (fun l => g (ix1 l)) l * wi (ix2 l k)

/-- The reference's scaled input. -/
theorem v12_eq (b : Fin 16) (s : Fin 2048) (k : Fin 1024) :
    val_main_v12 (F := Ideal) x g (ix3 b s k) = rms (fun l => x (ix3 b s l)) (fun l => g (ix1 l)) k := by
  pointwise [val_main_v12, val_main_v9, val_main_v8, val_main_v7, val_main_v6, val_main_v4, val_main_v2, val_main_v1, val_main_v0, val_main_cst, val_main_v3, val_main_cst_0, val_main_v5, val_main_cst_1, val_main_v11, val_main_v10, rms]
  try simp only [zero_add]

/-- The reference's product with the input weights, its columns in groups. -/
theorem v14_eq (b : Fin 16) (s : Fin 2048) (j : Fin 4) (c : Fin 256) :
    val_main_v14 (F := Ideal) x g wi (ix4 b s j c) = prod x g wi b (col j c) s := by
  pointwise [val_main_v14, val_main_v13, v12_eq, prod, col]

/-- The running sums with a zero before them. -/
theorem v16_eq (b : Fin 16) (q : Fin 2049) (j : Fin 4) (c : Fin 256) :
    val_main_v16 (F := Ideal) x g wi (ix4 b q j c) = csum (prod x g wi b (col j c)) q.val := by
  have h15 : ∀ s : Fin 2048, val_main_v15 (F := Ideal) x g wi (ix4 b s j c) = csum (prod x g wi b (col j c)) (s.val + 1) := fun s => by
    unfold val_main_v15
    refine (cum_eq _ _ ?_ b s j c).trans ?_
    · pointwise [val_main_call0_call0_v0, val_main_call0_call0_cst]
    · exact congrArg (fun u => csum u (s.val + 1)) (funext fun p => v14_eq x g wi b p j c)
  generalize hp : val_main_v15 (F := Ideal) x g wi = p at h15
  pointwise [val_main_v16, hp]
  have hq := q.isLt
  by_cases h : 1 ≤ q.val ∧ q.val - 1 < 2048
  · rw [dif_pos h, h15]
    exact congrArg (csum _) (by dsimp only; omega)
  · rw [dif_neg h, show q.val = 0 by omega]
    refine Eq.trans ?_ (show (0 : EReal) = csum _ 0 from (Finset.sum_eq_zero fun p _ => if_neg (Nat.not_lt_zero _)).symm)
    pointwise [val_main_call1_v0, val_main_c]
    exact (by norm_num : (((0#32 : BitVec 32).toInt : ℝ) : EReal) = 0)

/-- Running sums picked along the sequence, one place and one group per row of an index table, read at an index. -/
theorem pick_eq (y : FVec Ideal S16x2049x4x256 .f32) (ix : IVec S2048x2 32) (b : Fin 16) (s : Fin 2048) (c : Fin 256) :
    Host.gather gather_S16x2049x4x256_S2048x2_S16x2048x256_02_12_n_n_12_1_1611256 y ix (ix3 b s c)
      = y (ix4 b (⟨min (ix (ix2 s 0)).toInt.toNat 2048, by omega⟩ : Fin 2049) (⟨min (ix (ix2 s 1)).toInt.toNat 3, by omega⟩ : Fin 4) c) := by
  have h0 : GatherDims.siIdx gather_S16x2049x4x256_S2048x2_S16x2048x256_02_12_n_n_12_1_1611256 (ix3 b s c) ⟨0, by decide⟩ = ix2 s 0 := by
    funext a; refine Fin.ext ?_
    match a with
    | ⟨0, _⟩ => rfl
    | ⟨1, _⟩ => rfl
  have h1 : GatherDims.siIdx gather_S16x2049x4x256_S2048x2_S16x2048x256_02_12_n_n_12_1_1611256 (ix3 b s c) ⟨1, by decide⟩ = ix2 s 1 := by
    funext a; refine Fin.ext ?_
    match a with
    | ⟨0, _⟩ => rfl
    | ⟨1, _⟩ => rfl
  unfold Host.gather
  congr 1
  funext a
  refine Fin.ext ?_
  match a with
  | ⟨0, _⟩ => exact Nat.zero_add b.val
  | ⟨1, _⟩ => exact congrArg (fun i => min (ix i).toInt.toNat 2048) h0
  | ⟨2, _⟩ => exact congrArg (fun i => min (ix i).toInt.toNat 3) h1
  | ⟨3, _⟩ => exact Nat.zero_add c.val

/-- A position word clipped to the sequence. -/
def clipw (w : BitVec 32) : BitVec 32 := IntOp.minsi 2048#32 (IntOp.maxsi 0#32 w)
/-- A clipped position word counted from the end where it is negative. -/
def wrapw (w : BitVec 32) : BitVec 32 := Scalar.select (IntOp.cmpi .slt (clipw w) 0#32) (IntOp.addi (clipw w) 2049#32) (clipw w)

/-- The place after the window as the reference finds it. -/
theorem hi0 : ∀ s : Fin 2048, (wrapw (IntOp.addi (BitVec.ofNat 32 s.val) 1#32)).toInt.toNat = min (s.val + 1) 2048 := by decide +kernel
/-- The first place of the window as the reference finds it. -/
theorem lo0 : ∀ s : Fin 2048, (wrapw (IntOp.subi (BitVec.ofNat 32 s.val) 1#32)).toInt.toNat = s.val - 1 := by decide +kernel
/-- The window's length as the reference finds it. -/
theorem cnt0 : ∀ s : Fin 2048, (IntOp.subi (clipw (IntOp.addi (BitVec.ofNat 32 s.val) 1#32)) (clipw (IntOp.subi (BitVec.ofNat 32 s.val) 1#32))).toInt
    = ((min (s.val + 1) 2048 : ℕ) : ℤ) - ((s.val - 1 : ℕ) : ℤ) := by decide +kernel

/-- The running sums at the places after the windows. -/
theorem top0 (b : Fin 16) (s : Fin 2048) (c : Fin 256) :
    val_main_v37 (F := Ideal) x g wi (ix3 b s c) = csum (prod x g wi b (col 0 c)) (hi 0 s) := by
  have e0 : val_main_v36 (F := Ideal) (ix2 s 0) = wrapw (IntOp.addi (BitVec.ofNat 32 s.val) 1#32) := by
    pointwise [val_main_v36, val_main_v34, val_main_v31, val_main_v28, val_main_v23, val_main_call3_v4, val_main_call3_v3, val_main_c_7, val_main_call3_v2, val_main_call3_v1, val_main_call3_v0, val_main_c_6, val_main_v22, val_main_v17, val_main_v21, val_main_c_5, val_main_v27, val_main_c_8, val_main_v30, val_main_v29, val_main_c_9, val_main_v35, val_main_v33, val_main_v32, val_main_c_10]
    rfl
  have e1 : val_main_v36 (F := Ideal) (ix2 s 1) = 0#32 := by
    pointwise [val_main_v36, val_main_v34, val_main_v31, val_main_v28, val_main_v23, val_main_call3_v4, val_main_call3_v3, val_main_c_7, val_main_call3_v2, val_main_call3_v1, val_main_call3_v0, val_main_c_6, val_main_v22, val_main_v17, val_main_v21, val_main_c_5, val_main_v27, val_main_c_8, val_main_v30, val_main_v29, val_main_c_9, val_main_v35, val_main_v33, val_main_v32, val_main_c_10]
    rfl
  unfold val_main_v37
  rw [pick_eq, v16_eq]
  refine congrArg₂ (fun j q => csum (prod x g wi b (col j c)) q) (Fin.ext ?_) ?_
  · dsimp only; rw [e1]; rfl
  · dsimp only; rw [e0, hi0]; show min (min (s.val + 1) 2048) 2048 = min (s.val + 1) 2048; omega

/-- The running sums at the first places of the windows. -/
theorem bot0 (b : Fin 16) (s : Fin 2048) (c : Fin 256) :
    val_main_v48 (F := Ideal) x g wi (ix3 b s c) = csum (prod x g wi b (col 0 c)) (lo 0 s) := by
  have e0 : val_main_v47 (F := Ideal) (ix2 s 0) = wrapw (IntOp.subi (BitVec.ofNat 32 s.val) 1#32) := by
    pointwise [val_main_v47, val_main_v45, val_main_v42, val_main_v39, val_main_v20, val_main_call2_v4, val_main_call2_v3, val_main_c_4, val_main_call2_v2, val_main_call2_v1, val_main_call2_v0, val_main_c_3, val_main_v19, val_main_v17, val_main_v18, val_main_c_2, val_main_v38, val_main_c_11, val_main_v41, val_main_v40, val_main_c_12, val_main_v46, val_main_v44, val_main_v43, val_main_c_13]
    rfl
  have e1 : val_main_v47 (F := Ideal) (ix2 s 1) = 0#32 := by
    pointwise [val_main_v47, val_main_v45, val_main_v42, val_main_v39, val_main_v20, val_main_call2_v4, val_main_call2_v3, val_main_c_4, val_main_call2_v2, val_main_call2_v1, val_main_call2_v0, val_main_c_3, val_main_v19, val_main_v17, val_main_v18, val_main_c_2, val_main_v38, val_main_c_11, val_main_v41, val_main_v40, val_main_c_12, val_main_v46, val_main_v44, val_main_v43, val_main_c_13]
    rfl
  unfold val_main_v48
  rw [pick_eq, v16_eq]
  refine congrArg₂ (fun j q => csum (prod x g wi b (col j c)) q) (Fin.ext ?_) ?_
  · dsimp only; rw [e1]; rfl
  · dsimp only; rw [e0, lo0]; show min (s.val - 1) 2048 = s.val - 1; omega

/-- The windows' lengths. -/
theorem len0 (s : Fin 2048) : val_main_v25 (F := Ideal) (ix1 s) = (cnt 0 s : EReal) := by
  have e : val_main_v25 (F := Ideal) (ix1 s)
      = (((IntOp.subi (clipw (IntOp.addi (BitVec.ofNat 32 s.val) 1#32)) (clipw (IntOp.subi (BitVec.ofNat 32 s.val) 1#32))).toInt : ℝ) : EReal) := by
    pointwise [val_main_v25, val_main_v24, val_main_v23, val_main_call3_v4, val_main_call3_v3, val_main_c_7, val_main_call3_v2, val_main_call3_v1, val_main_call3_v0, val_main_c_6, val_main_v22, val_main_v17, val_main_v21, val_main_c_5, val_main_v20, val_main_call2_v4, val_main_call2_v3, val_main_c_4, val_main_call2_v2, val_main_call2_v1, val_main_call2_v0, val_main_c_3, val_main_v19, val_main_v18, val_main_c_2]
    rfl
  rw [e, cnt0]
  rfl

/-- The group's pooled rows. -/
theorem group0 (b : Fin 16) (s : Fin 2048) (c : Fin 256) :
    val_main_v54 (F := Ideal) x g wi (ix3 b s c) = poolR (prod x g wi b (col 0 c)) 0 s := by
  pointwise [val_main_v54, val_main_v51, val_main_v49, val_main_v50, val_main_v26, val_main_v53, val_main_v52, v14_eq, top0, bot0, len0, poolR]
  try rfl

/-- The place after the window as the reference finds it. -/
theorem hi1 : ∀ s : Fin 2048, (wrapw (IntOp.addi (BitVec.ofNat 32 s.val) 2#32)).toInt.toNat = min (s.val + 2) 2048 := by decide +kernel
/-- The first place of the window as the reference finds it. -/
theorem lo1 : ∀ s : Fin 2048, (wrapw (IntOp.subi (BitVec.ofNat 32 s.val) 2#32)).toInt.toNat = s.val - 2 := by decide +kernel
/-- The window's length as the reference finds it. -/
theorem cnt1 : ∀ s : Fin 2048, (IntOp.subi (clipw (IntOp.addi (BitVec.ofNat 32 s.val) 2#32)) (clipw (IntOp.subi (BitVec.ofNat 32 s.val) 2#32))).toInt
    = ((min (s.val + 2) 2048 : ℕ) : ℤ) - ((s.val - 2 : ℕ) : ℤ) := by decide +kernel

/-- The running sums at the places after the windows. -/
theorem top1 (b : Fin 16) (s : Fin 2048) (c : Fin 256) :
    val_main_v74 (F := Ideal) x g wi (ix3 b s c) = csum (prod x g wi b (col 1 c)) (hi 1 s) := by
  have e0 : val_main_v73 (F := Ideal) (ix2 s 0) = wrapw (IntOp.addi (BitVec.ofNat 32 s.val) 2#32) := by
    pointwise [val_main_v73, val_main_v71, val_main_v68, val_main_v65, val_main_v60, val_main_call5_v4, val_main_call5_v3, val_main_c_19, val_main_call5_v2, val_main_call5_v1, val_main_call5_v0, val_main_c_18, val_main_v59, val_main_v17, val_main_v58, val_main_c_17, val_main_v64, val_main_c_20, val_main_v67, val_main_v66, val_main_c_21, val_main_v72, val_main_v70, val_main_v69, val_main_c_22]
    rfl
  have e1 : val_main_v73 (F := Ideal) (ix2 s 1) = 1#32 := by
    pointwise [val_main_v73, val_main_v71, val_main_v68, val_main_v65, val_main_v60, val_main_call5_v4, val_main_call5_v3, val_main_c_19, val_main_call5_v2, val_main_call5_v1, val_main_call5_v0, val_main_c_18, val_main_v59, val_main_v17, val_main_v58, val_main_c_17, val_main_v64, val_main_c_20, val_main_v67, val_main_v66, val_main_c_21, val_main_v72, val_main_v70, val_main_v69, val_main_c_22]
    rfl
  unfold val_main_v74
  rw [pick_eq, v16_eq]
  refine congrArg₂ (fun j q => csum (prod x g wi b (col j c)) q) (Fin.ext ?_) ?_
  · dsimp only; rw [e1]; rfl
  · dsimp only; rw [e0, hi1]; show min (min (s.val + 2) 2048) 2048 = min (s.val + 2) 2048; omega

/-- The running sums at the first places of the windows. -/
theorem bot1 (b : Fin 16) (s : Fin 2048) (c : Fin 256) :
    val_main_v85 (F := Ideal) x g wi (ix3 b s c) = csum (prod x g wi b (col 1 c)) (lo 1 s) := by
  have e0 : val_main_v84 (F := Ideal) (ix2 s 0) = wrapw (IntOp.subi (BitVec.ofNat 32 s.val) 2#32) := by
    pointwise [val_main_v84, val_main_v82, val_main_v79, val_main_v76, val_main_v57, val_main_call4_v4, val_main_call4_v3, val_main_c_16, val_main_call4_v2, val_main_call4_v1, val_main_call4_v0, val_main_c_15, val_main_v56, val_main_v17, val_main_v55, val_main_c_14, val_main_v75, val_main_c_23, val_main_v78, val_main_v77, val_main_c_24, val_main_v83, val_main_v81, val_main_v80, val_main_c_25]
    rfl
  have e1 : val_main_v84 (F := Ideal) (ix2 s 1) = 1#32 := by
    pointwise [val_main_v84, val_main_v82, val_main_v79, val_main_v76, val_main_v57, val_main_call4_v4, val_main_call4_v3, val_main_c_16, val_main_call4_v2, val_main_call4_v1, val_main_call4_v0, val_main_c_15, val_main_v56, val_main_v17, val_main_v55, val_main_c_14, val_main_v75, val_main_c_23, val_main_v78, val_main_v77, val_main_c_24, val_main_v83, val_main_v81, val_main_v80, val_main_c_25]
    rfl
  unfold val_main_v85
  rw [pick_eq, v16_eq]
  refine congrArg₂ (fun j q => csum (prod x g wi b (col j c)) q) (Fin.ext ?_) ?_
  · dsimp only; rw [e1]; rfl
  · dsimp only; rw [e0, lo1]; show min (s.val - 2) 2048 = s.val - 2; omega

/-- The windows' lengths. -/
theorem len1 (s : Fin 2048) : val_main_v62 (F := Ideal) (ix1 s) = (cnt 1 s : EReal) := by
  have e : val_main_v62 (F := Ideal) (ix1 s)
      = (((IntOp.subi (clipw (IntOp.addi (BitVec.ofNat 32 s.val) 2#32)) (clipw (IntOp.subi (BitVec.ofNat 32 s.val) 2#32))).toInt : ℝ) : EReal) := by
    pointwise [val_main_v62, val_main_v61, val_main_v60, val_main_call5_v4, val_main_call5_v3, val_main_c_19, val_main_call5_v2, val_main_call5_v1, val_main_call5_v0, val_main_c_18, val_main_v59, val_main_v17, val_main_v58, val_main_c_17, val_main_v57, val_main_call4_v4, val_main_call4_v3, val_main_c_16, val_main_call4_v2, val_main_call4_v1, val_main_call4_v0, val_main_c_15, val_main_v56, val_main_v55, val_main_c_14]
    rfl
  rw [e, cnt1]
  rfl

/-- The group's pooled rows. -/
theorem group1 (b : Fin 16) (s : Fin 2048) (c : Fin 256) :
    val_main_v91 (F := Ideal) x g wi (ix3 b s c) = poolR (prod x g wi b (col 1 c)) 1 s := by
  pointwise [val_main_v91, val_main_v88, val_main_v86, val_main_v87, val_main_v63, val_main_v90, val_main_v89, v14_eq, top1, bot1, len1, poolR]
  try rfl

/-- The place after the window as the reference finds it. -/
theorem hi2 : ∀ s : Fin 2048, (wrapw (IntOp.addi (BitVec.ofNat 32 s.val) 4#32)).toInt.toNat = min (s.val + 4) 2048 := by decide +kernel
/-- The first place of the window as the reference finds it. -/
theorem lo2 : ∀ s : Fin 2048, (wrapw (IntOp.subi (BitVec.ofNat 32 s.val) 4#32)).toInt.toNat = s.val - 4 := by decide +kernel
/-- The window's length as the reference finds it. -/
theorem cnt2 : ∀ s : Fin 2048, (IntOp.subi (clipw (IntOp.addi (BitVec.ofNat 32 s.val) 4#32)) (clipw (IntOp.subi (BitVec.ofNat 32 s.val) 4#32))).toInt
    = ((min (s.val + 4) 2048 : ℕ) : ℤ) - ((s.val - 4 : ℕ) : ℤ) := by decide +kernel

/-- The running sums at the places after the windows. -/
theorem top2 (b : Fin 16) (s : Fin 2048) (c : Fin 256) :
    val_main_v111 (F := Ideal) x g wi (ix3 b s c) = csum (prod x g wi b (col 2 c)) (hi 2 s) := by
  have e0 : val_main_v110 (F := Ideal) (ix2 s 0) = wrapw (IntOp.addi (BitVec.ofNat 32 s.val) 4#32) := by
    pointwise [val_main_v110, val_main_v108, val_main_v105, val_main_v102, val_main_v97, val_main_call7_v4, val_main_call7_v3, val_main_c_31, val_main_call7_v2, val_main_call7_v1, val_main_call7_v0, val_main_c_30, val_main_v96, val_main_v17, val_main_v95, val_main_c_29, val_main_v101, val_main_c_32, val_main_v104, val_main_v103, val_main_c_33, val_main_v109, val_main_v107, val_main_v106, val_main_c_34]
    rfl
  have e1 : val_main_v110 (F := Ideal) (ix2 s 1) = 2#32 := by
    pointwise [val_main_v110, val_main_v108, val_main_v105, val_main_v102, val_main_v97, val_main_call7_v4, val_main_call7_v3, val_main_c_31, val_main_call7_v2, val_main_call7_v1, val_main_call7_v0, val_main_c_30, val_main_v96, val_main_v17, val_main_v95, val_main_c_29, val_main_v101, val_main_c_32, val_main_v104, val_main_v103, val_main_c_33, val_main_v109, val_main_v107, val_main_v106, val_main_c_34]
    rfl
  unfold val_main_v111
  rw [pick_eq, v16_eq]
  refine congrArg₂ (fun j q => csum (prod x g wi b (col j c)) q) (Fin.ext ?_) ?_
  · dsimp only; rw [e1]; rfl
  · dsimp only; rw [e0, hi2]; show min (min (s.val + 4) 2048) 2048 = min (s.val + 4) 2048; omega

/-- The running sums at the first places of the windows. -/
theorem bot2 (b : Fin 16) (s : Fin 2048) (c : Fin 256) :
    val_main_v122 (F := Ideal) x g wi (ix3 b s c) = csum (prod x g wi b (col 2 c)) (lo 2 s) := by
  have e0 : val_main_v121 (F := Ideal) (ix2 s 0) = wrapw (IntOp.subi (BitVec.ofNat 32 s.val) 4#32) := by
    pointwise [val_main_v121, val_main_v119, val_main_v116, val_main_v113, val_main_v94, val_main_call6_v4, val_main_call6_v3, val_main_c_28, val_main_call6_v2, val_main_call6_v1, val_main_call6_v0, val_main_c_27, val_main_v93, val_main_v17, val_main_v92, val_main_c_26, val_main_v112, val_main_c_35, val_main_v115, val_main_v114, val_main_c_36, val_main_v120, val_main_v118, val_main_v117, val_main_c_37]
    rfl
  have e1 : val_main_v121 (F := Ideal) (ix2 s 1) = 2#32 := by
    pointwise [val_main_v121, val_main_v119, val_main_v116, val_main_v113, val_main_v94, val_main_call6_v4, val_main_call6_v3, val_main_c_28, val_main_call6_v2, val_main_call6_v1, val_main_call6_v0, val_main_c_27, val_main_v93, val_main_v17, val_main_v92, val_main_c_26, val_main_v112, val_main_c_35, val_main_v115, val_main_v114, val_main_c_36, val_main_v120, val_main_v118, val_main_v117, val_main_c_37]
    rfl
  unfold val_main_v122
  rw [pick_eq, v16_eq]
  refine congrArg₂ (fun j q => csum (prod x g wi b (col j c)) q) (Fin.ext ?_) ?_
  · dsimp only; rw [e1]; rfl
  · dsimp only; rw [e0, lo2]; show min (s.val - 4) 2048 = s.val - 4; omega

/-- The windows' lengths. -/
theorem len2 (s : Fin 2048) : val_main_v99 (F := Ideal) (ix1 s) = (cnt 2 s : EReal) := by
  have e : val_main_v99 (F := Ideal) (ix1 s)
      = (((IntOp.subi (clipw (IntOp.addi (BitVec.ofNat 32 s.val) 4#32)) (clipw (IntOp.subi (BitVec.ofNat 32 s.val) 4#32))).toInt : ℝ) : EReal) := by
    pointwise [val_main_v99, val_main_v98, val_main_v97, val_main_call7_v4, val_main_call7_v3, val_main_c_31, val_main_call7_v2, val_main_call7_v1, val_main_call7_v0, val_main_c_30, val_main_v96, val_main_v17, val_main_v95, val_main_c_29, val_main_v94, val_main_call6_v4, val_main_call6_v3, val_main_c_28, val_main_call6_v2, val_main_call6_v1, val_main_call6_v0, val_main_c_27, val_main_v93, val_main_v92, val_main_c_26]
    rfl
  rw [e, cnt2]
  rfl

/-- The group's pooled rows. -/
theorem group2 (b : Fin 16) (s : Fin 2048) (c : Fin 256) :
    val_main_v128 (F := Ideal) x g wi (ix3 b s c) = poolR (prod x g wi b (col 2 c)) 2 s := by
  pointwise [val_main_v128, val_main_v125, val_main_v123, val_main_v124, val_main_v100, val_main_v127, val_main_v126, v14_eq, top2, bot2, len2, poolR]
  try rfl

/-- The place after the window as the reference finds it. -/
theorem hi3 : ∀ s : Fin 2048, (wrapw (IntOp.addi (BitVec.ofNat 32 s.val) 8#32)).toInt.toNat = min (s.val + 8) 2048 := by decide +kernel
/-- The first place of the window as the reference finds it. -/
theorem lo3 : ∀ s : Fin 2048, (wrapw (IntOp.subi (BitVec.ofNat 32 s.val) 8#32)).toInt.toNat = s.val - 8 := by decide +kernel
/-- The window's length as the reference finds it. -/
theorem cnt3 : ∀ s : Fin 2048, (IntOp.subi (clipw (IntOp.addi (BitVec.ofNat 32 s.val) 8#32)) (clipw (IntOp.subi (BitVec.ofNat 32 s.val) 8#32))).toInt
    = ((min (s.val + 8) 2048 : ℕ) : ℤ) - ((s.val - 8 : ℕ) : ℤ) := by decide +kernel

/-- The running sums at the places after the windows. -/
theorem top3 (b : Fin 16) (s : Fin 2048) (c : Fin 256) :
    val_main_v148 (F := Ideal) x g wi (ix3 b s c) = csum (prod x g wi b (col 3 c)) (hi 3 s) := by
  have e0 : val_main_v147 (F := Ideal) (ix2 s 0) = wrapw (IntOp.addi (BitVec.ofNat 32 s.val) 8#32) := by
    pointwise [val_main_v147, val_main_v145, val_main_v142, val_main_v139, val_main_v134, val_main_call9_v4, val_main_call9_v3, val_main_c_43, val_main_call9_v2, val_main_call9_v1, val_main_call9_v0, val_main_c_42, val_main_v133, val_main_v17, val_main_v132, val_main_c_41, val_main_v138, val_main_c_44, val_main_v141, val_main_v140, val_main_c_45, val_main_v146, val_main_v144, val_main_v143, val_main_c_46]
    rfl
  have e1 : val_main_v147 (F := Ideal) (ix2 s 1) = 3#32 := by
    pointwise [val_main_v147, val_main_v145, val_main_v142, val_main_v139, val_main_v134, val_main_call9_v4, val_main_call9_v3, val_main_c_43, val_main_call9_v2, val_main_call9_v1, val_main_call9_v0, val_main_c_42, val_main_v133, val_main_v17, val_main_v132, val_main_c_41, val_main_v138, val_main_c_44, val_main_v141, val_main_v140, val_main_c_45, val_main_v146, val_main_v144, val_main_v143, val_main_c_46]
    rfl
  unfold val_main_v148
  rw [pick_eq, v16_eq]
  refine congrArg₂ (fun j q => csum (prod x g wi b (col j c)) q) (Fin.ext ?_) ?_
  · dsimp only; rw [e1]; rfl
  · dsimp only; rw [e0, hi3]; show min (min (s.val + 8) 2048) 2048 = min (s.val + 8) 2048; omega

/-- The running sums at the first places of the windows. -/
theorem bot3 (b : Fin 16) (s : Fin 2048) (c : Fin 256) :
    val_main_v159 (F := Ideal) x g wi (ix3 b s c) = csum (prod x g wi b (col 3 c)) (lo 3 s) := by
  have e0 : val_main_v158 (F := Ideal) (ix2 s 0) = wrapw (IntOp.subi (BitVec.ofNat 32 s.val) 8#32) := by
    pointwise [val_main_v158, val_main_v156, val_main_v153, val_main_v150, val_main_v131, val_main_call8_v4, val_main_call8_v3, val_main_c_40, val_main_call8_v2, val_main_call8_v1, val_main_call8_v0, val_main_c_39, val_main_v130, val_main_v17, val_main_v129, val_main_c_38, val_main_v149, val_main_c_47, val_main_v152, val_main_v151, val_main_c_48, val_main_v157, val_main_v155, val_main_v154, val_main_c_49]
    rfl
  have e1 : val_main_v158 (F := Ideal) (ix2 s 1) = 3#32 := by
    pointwise [val_main_v158, val_main_v156, val_main_v153, val_main_v150, val_main_v131, val_main_call8_v4, val_main_call8_v3, val_main_c_40, val_main_call8_v2, val_main_call8_v1, val_main_call8_v0, val_main_c_39, val_main_v130, val_main_v17, val_main_v129, val_main_c_38, val_main_v149, val_main_c_47, val_main_v152, val_main_v151, val_main_c_48, val_main_v157, val_main_v155, val_main_v154, val_main_c_49]
    rfl
  unfold val_main_v159
  rw [pick_eq, v16_eq]
  refine congrArg₂ (fun j q => csum (prod x g wi b (col j c)) q) (Fin.ext ?_) ?_
  · dsimp only; rw [e1]; rfl
  · dsimp only; rw [e0, lo3]; show min (s.val - 8) 2048 = s.val - 8; omega

/-- The windows' lengths. -/
theorem len3 (s : Fin 2048) : val_main_v136 (F := Ideal) (ix1 s) = (cnt 3 s : EReal) := by
  have e : val_main_v136 (F := Ideal) (ix1 s)
      = (((IntOp.subi (clipw (IntOp.addi (BitVec.ofNat 32 s.val) 8#32)) (clipw (IntOp.subi (BitVec.ofNat 32 s.val) 8#32))).toInt : ℝ) : EReal) := by
    pointwise [val_main_v136, val_main_v135, val_main_v134, val_main_call9_v4, val_main_call9_v3, val_main_c_43, val_main_call9_v2, val_main_call9_v1, val_main_call9_v0, val_main_c_42, val_main_v133, val_main_v17, val_main_v132, val_main_c_41, val_main_v131, val_main_call8_v4, val_main_call8_v3, val_main_c_40, val_main_call8_v2, val_main_call8_v1, val_main_call8_v0, val_main_c_39, val_main_v130, val_main_v129, val_main_c_38]
    rfl
  rw [e, cnt3]
  rfl

/-- The group's pooled rows. -/
theorem group3 (b : Fin 16) (s : Fin 2048) (c : Fin 256) :
    val_main_v165 (F := Ideal) x g wi (ix3 b s c) = poolR (prod x g wi b (col 3 c)) 3 s := by
  pointwise [val_main_v165, val_main_v162, val_main_v160, val_main_v161, val_main_v137, val_main_v164, val_main_v163, v14_eq, top3, bot3, len3, poolR]
  try rfl

/-- The pooled rows, the groups side by side. -/
theorem v170_eq (b : Fin 16) (s : Fin 2048) (j : Fin 4) (c : Fin 256) :
    val_main_v170 (F := Ideal) x g wi (ix4 b s j c) = poolR (prod x g wi b (col j c)) j s := by
  pointwise [val_main_v170, val_main_v166, val_main_v167, val_main_v168, val_main_v169, group0, group1, group2, group3]
  match j with
  | 0 => rfl
  | 1 => rfl
  | 2 => rfl
  | 3 => rfl

/-- The reference's whole result. -/
theorem v178_eq (b : Fin 16) (s : Fin 2048) (n : Fin 1024) :
    val_main_v178 (F := Ideal) x g wi wg sc wo (ix3 b s n) = x (ix3 b s n)
      + ∑ j : Fin 1024, ((∑ c : Fin 256, wg (ix3 (grp j) c (plc j)) * poolR (prod x g wi b (col (grp j) c)) (grp j) s) * sc (ix1 j)) * wo (ix2 j n) := by
  pointwise [val_main_v178, val_main_v177, val_main_v176, val_main_v175, val_main_v174, val_main_v173, val_main_v172, val_main_v171, v170_eq]
  rfl

end Cert.ReferenceIdeal.Pool
-- ==== Proof.PoolEqual.lean ====
/- The pooling kernel's value and its reference's value are the same array where the scale of the norm and the four weight
   arrays are finite. -/
module

public import proofs.«01_k».proof.Defs
public import proofs.«01_k».proof.Proof.PoolValue
public import proofs.«01_k».proof.Proof.PoolReference

@[expose] public section

set_option maxRecDepth 16384

noncomputable section

open Idealize.ShloMosaic Idealize.ShloMosaic.TcCoe Idealize.SL.Sem

namespace Cert.PoolEqual

/-- The precondition's shape relations hold. -/
instance facts : Cert.Pre_finite.Facts where
  bcast_S_S1024 := by decide
  bcast_S_S1024x1024 := by decide
  bcast_S_S4x256x256 := by decide

open Cert.RowMath

/-- The word of positive infinity is the top element. -/
theorem cinf : (FloatOps.ofBits (F := Ideal) .f32 0x7F800000#32 : EReal) = ⊤ := by
  show Ideal.ofBits .f32 0x7F800000#32 = ⊤
  simp [Ideal.ofBits, Ideal.ieee]

/-- A number whose size compares below infinity is real. -/
theorem real_of_lt (a : EReal) (h : FloatOps.cmpf (F := Ideal) (φ := .f32) .olt (FloatOps.hostAbsf (F := Ideal) (φ := .f32) a) (FloatOps.ofBits (F := Ideal) .f32 0x7F800000#32) = 1#1) : Real? a := by
  rw [cinf] at h
  induction a using EReal.rec with
  | bot =>
    rw [show FloatOps.hostAbsf (F := Ideal) (φ := .f32) (⊥ : EReal) = (⊤ : EReal) from max_eq_right bot_le] at h
    change BitVec.ofBool (decide ((⊤ : EReal) < ⊤)) = 1#1 at h
    simp at h
  | coe r => exact ⟨r, rfl⟩
  | top =>
    rw [show FloatOps.hostAbsf (F := Ideal) (φ := .f32) (⊤ : EReal) = (⊤ : EReal) from max_eq_left le_top] at h
    change BitVec.ofBool (decide ((⊤ : EReal) < ⊤)) = 1#1 at h
    simp at h

open Cert.KernelIdeal in
/-- The precondition makes every entry of the norm's scale and of the weights real. -/
theorem reals (m : (ℓ : Loc Cert.KernelIdeal.nD Cert.KernelIdeal.τ Cert.KernelIdeal.sig) → Buf (Elt Ideal) ℓ) (h : Cert.Pre_KernelIdeal_finite m) (c : Dev nD) :
    (∀ i, Real? ((m ((c : Thread nD τ).loc main_arg1) : FVec Ideal S1024 .f32) i)) ∧ (∀ i, Real? ((m ((c : Thread nD τ).loc main_arg2) : FVec Ideal S1024x1024 .f32) i))
    ∧ (∀ i, Real? ((m ((c : Thread nD τ).loc main_arg3) : FVec Ideal S4x256x256 .f32) i)) ∧ (∀ i, Real? ((m ((c : Thread nD τ).loc main_arg4) : FVec Ideal S1024 .f32) i))
    ∧ (∀ i, Real? ((m ((c : Thread nD τ).loc main_arg5) : FVec Ideal S1024x1024 .f32) i)) := by
  obtain ⟨h1, h2, h3, h4, h5⟩ := h c
  exact ⟨fun i => real_of_lt _ (congrFun h1 i), fun i => real_of_lt _ (congrFun h2 i), fun i => real_of_lt _ (congrFun h3 i),
    fun i => real_of_lt _ (congrFun h4 i), fun i => real_of_lt _ (congrFun h5 i)⟩

section Same
open Cert.ReferenceIdeal
variable (x : FVec Ideal S16x2048x1024 .f32) (g : FVec Ideal S1024 .f32) (wi : FVec Ideal S1024x1024 .f32)
  (wg : FVec Ideal S4x256x256 .f32) (sc : FVec Ideal S1024 .f32) (wo : FVec Ideal S1024x1024 .f32)
  (hg : ∀ i, Real? (g i)) (hi : ∀ i, Real? (wi i)) (hwg : ∀ i, Real? (wg i)) (hsc : ∀ i, Real? (sc i)) (ho : ∀ i, Real? (wo i))
include hg hi hwg hsc ho

/-- The reference's entry, its sums arranged as the kernel's. -/
theorem entry (b : Fin 16) (s : Fin 2048) (n : Fin 1024) :
    Read.val_main_v178 (F := Ideal) x g wi wg sc wo (ValueIdx.ix3 b s n) = x (ValueIdx.ix3 b s n)
      + ∑ k : Fin 1024, poolK (Cert.KernelIdeal.Pool.prod x g wi b k) (grp k) s * Cert.KernelIdeal.Pool.fold wg sc wo k n := by
  have hu : ∀ k s, Real? (Cert.KernelIdeal.Pool.prod x g wi b k s) := fun k s =>
    real_sum _ _ fun l _ => real_mul (real_rms _ _ (fun l => hg _) l) (hi _)
  refine (Pool.v178_eq x g wi wg sc wo b s n).trans (congrArg (x (ValueIdx.ix3 b s n) + ·) ?_)
  have e := fold_eq (fun k => poolR (Cert.KernelIdeal.Pool.prod x g wi b k) (grp k) s) (fun j c d => wg (ValueIdx.ix3 j c d))
    (fun k => sc (ValueIdx.ix1 k)) (fun k => wo (ValueIdx.ix2 k n)) (fun k => real_pool _ (hu k) _ _) (fun _ _ _ => hwg _) (fun _ => hsc _) (fun _ => ho _)
  have hgc : ∀ (j : Fin 4) (c : Fin 256), grp (col j c) = j := fun j c => Fin.ext (by show (j.val * 256 + c.val) / 256 = j.val; omega)
  refine Eq.trans (Finset.sum_congr rfl fun j _ => ?_) (e.symm.trans (Finset.sum_congr rfl fun k _ => ?_))
  · simp only [hgc]
    rfl
  · rw [← pool_eq _ (hu k)]
    rfl

/-- The two values are one array. -/
theorem same : Read.val_main_v178 (F := Ideal) x g wi wg sc wo = Cert.KernelIdeal.Pool.OUT x g wi wg sc wo := by
  funext y
  refine Eq.trans (congrArg _ (ValueIdx.eq_ix3 y)) ((entry x g wi wg sc wo hg hi hwg hsc ho (y 0) (y 1) (y 2)).trans ?_)
  exact congrArg (fun z => x z + ∑ k : Fin 1024, poolK (Cert.KernelIdeal.Pool.prod x g wi (y 0) k) (grp k) (y 1)
    * Cert.KernelIdeal.Pool.fold wg sc wo k (y 2)) (ValueIdx.eq_ix3 y).symm

end Same

end Cert.PoolEqual

end
-- ==== Proof.ConvIdealRows.lean ====
/- The convolution program's loop over output rows: one trip's stores, their list over the trips, and the loop's invariant. -/
module

public import proofs.«01_k».proof.Proof.Gen.ConvIdeal.Loops

@[expose] public section

set_option maxRecDepth 8192
set_option maxHeartbeats 4000000

noncomputable section

namespace Cert.ConvIdeal.Rows

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
abbrev Alg (F : FTy → Type) := MT nD τ sig Unit (Elt F) ℕ (UR sig nD τ) ℕ

variable (𝒱 : Variants) (c : Dev nD)
  (bd : Option 𝒱.V) (i : grid0.Coords)
  (arg2 : Memref sig .tc .vmem S1x16x1024 .f32) (harg2 : arg2.IsWhole)
  (arg3 : Memref sig .tc .vmem S1x1024x1024 .f32) (harg3 : arg3.IsWhole)
  (arg4 : Memref sig .tc .vmem S1x16x1024 .f32) (harg4 : arg4.IsWhole)
  (arg5 : Memref sig .tc .vmem S1x1024 .f32) (harg5 : arg5.IsWhole)
  (arg6 : Memref sig .tc .vmem S1024x2048 .bf16) (harg6 : arg6.IsWhole)
  (arg7 : Memref sig .tc .vmem S31x16x128 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024x1024 .f32) (harg12 : arg12.IsWhole)
  (arg13 : Memref sig .tc .vmem S132x64x128 .f32) (harg13 : arg13.IsWhole)
  (arg14 : Memref sig .tc .vmem S544x16x128 .bf16) (harg14 : arg14.IsWhole)
  (arg15 : Memref sig .tc .vmem S128x64x128 .f32) (harg15 : arg15.IsWhole)
  (v45 : FVec F S1056x1024 .bf16) (v55 : IVec S1056x1 1)
  (v118 : FVec F S132x8x128 .f32)
  (X7 : BufTy.Contents (Elt F) arg7.view.ty) (X14 : BufTy.Contents (Elt F) arg14.view.ty)

/-- What one trip holds: the taps and the packed rows at their contents, the output rows at any. -/
abbrev Hold (f15 : BufTy.Contents (Elt F) arg15.view.ty) : sProp (Alg F) :=
  iprop((arg7.view.loc (c : Thread nD τ) ↦[arg7.view.set]{fullShare} X7)
    ∗ (arg14.view.loc (c : Thread nD τ) ↦[arg14.view.set]{fullShare} X14)
    ∗ (arg15.view.loc (c : Thread nD τ) ↦[arg15.view.set]{fullShare} f15))

/-- One trip of the loop: the sixteen stores it does, with the proof that it does them from what it holds. -/
@[irreducible] def trip (k : Fin k0_t2_loop.trips) :
    { L : List (View.Piece (Elt F) S128x64x128 .f32) // ∀ (E : Set ℕ) (f15 : BufTy.Contents (Elt F) arg15.view.ty),
      Hold (F := F) c arg7 arg14 arg15 X7 X14 f15
      ⊢ wp frame (wpE (defs₀ (F := F)) 𝒱 (c : Thread nD τ) bd) E
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v45 v55 v118 k PUnit.unit)
          (fun _ => Hold (F := F) c arg7 arg14 arg15 X7 X14 (arg15.view.writes (Elt F) f15 L)) } := by
  have hk : k.val < 64 := Nat.lt_of_lt_of_le k.isLt k0_t2_abs.2.1
  refine ⟨?_, fun E f15 => ?run⟩
  case run =>
    unfold k0_t2_body
    iintro ⟨H7, H14, H15⟩
    sl_exec
    sl_step
    sl_close

/-- Trip `k`'s stores in front of those before it; past the last trip nothing. -/
@[irreducible] def next (k : ℕ) (prev : List (View.Piece (Elt F) S128x64x128 .f32)) :
    List (View.Piece (Elt F) S128x64x128 .f32) :=
  if h : k < k0_t2_loop.trips then
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 ⟨k, h⟩).1 ++ prev
  else prev

/-- The stores of the trips before `k`, the last first. -/
def stores : ℕ → List (View.Piece (Elt F) S128x64x128 .f32)
  | 0 => []
  | k + 1 => next (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k (stores k)

/-- One more trip puts its stores in front. -/
theorem stores_succ (k : Fin k0_t2_loop.trips) :
    stores (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 (k.val + 1)
      = (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k).1 ++ stores (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k.val := by
  rw [stores.eq_2]; unfold next; exact dif_pos k.isLt

/-- Before trip `k`: the taps and packed rows at their contents, the output rows with the stores of the trips before `k`
    over what they held at the start. -/
abbrev before (G15 : BufTy.Contents (Elt F) arg15.view.ty) (k : ℕ) (_u : PUnit) : sProp (Alg F) :=
  iprop((arg7.view.loc (c : Thread nD τ) ↦[arg7.view.set]{fullShare} X7)
    ∗ (arg14.view.loc (c : Thread nD τ) ↦[arg14.view.set]{fullShare} X14)
    ∗ (∃ f, (arg15.view.loc (c : Thread nD τ) ↦[arg15.view.set]{fullShare} f)
        ∗ ⌜f = arg15.view.writes (Elt F) G15 (stores (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k)⌝))

set_option warn.classDefReducibility false in
/-- The loop by its invariant. -/
@[sl_loop] def rowsInv (E : Set ℕ) (G15 : BufTy.Contents (Elt F) arg15.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v45 v55 v118 where
  inv := before (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 G15
  step k acc := by
    iintro ⟨H7, H14, ⟨%f, H15, %hf⟩⟩
    iapply (wp_wand_r Idealize.ShloMosaic.frame (wpE (defs₀ (F := F)) 𝒱 (c : Thread nD τ) bd) E)
    isplitl [H7 H14 H15]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k).2 E f)
      isplitl [H7]; · iexact H7
      isplitl [H14]; · iexact H14
      iexact H15
    · iintro %_ ⟨H7, H14, H15⟩
      isplitl [H7]; · iexact H7
      isplitl [H14]; · iexact H14
      rw [stores_succ]
      iexists _; isplitl [H15]; · iexact H15
      ipureintro; rw [hf, ← View.writes_append]

end Cert.ConvIdeal.Rows
-- ==== Proof.ConvIdealLoops.lean ====
/- The convolution program's two loops as one step: the packed rows and then the output rows, from the staged rows and the taps. -/
module

public import proofs.«01_k».proof.Proof.ConvIdealRows
public import proofs.«01_k».proof.Proof.Gen.ConvIdeal.Frame

@[expose] public section

set_option maxRecDepth 16384

noncomputable section

namespace Cert.ConvIdeal.Rows

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first loop: it packs the staged rows. -/
@[irreducible] def packLoop (i : grid0.Coords) (arg2 : Memref sig .tc .vmem S1x16x1024 .f32)
    (harg2 : arg2.IsWhole) (arg3 : Memref sig .tc .vmem S1x1024x1024 .f32)
    (harg3 : arg3.IsWhole) (arg4 : Memref sig .tc .vmem S1x16x1024 .f32)
    (harg4 : arg4.IsWhole) (arg5 : Memref sig .tc .vmem S1x1024 .f32)
    (harg5 : arg5.IsWhole) (arg6 : Memref sig .tc .vmem S1024x2048 .bf16)
    (harg6 : arg6.IsWhole) (arg7 : Memref sig .tc .vmem S31x16x128 .bf16)
    (harg7 : arg7.IsWhole) (arg8 : Memref sig .tc .vmem S1x1024 .f32)
    (harg8 : arg8.IsWhole) (arg9 : Memref sig .tc .vmem S1x1024 .f32)
    (harg9 : arg9.IsWhole) (arg10 : Memref sig .tc .vmem S1x1024 .f32)
    (harg10 : arg10.IsWhole) (arg11 : Memref sig .tc .vmem S1024x1024 .bf16)
    (harg11 : arg11.IsWhole) (arg12 : Memref sig .tc .vmem S1x1024x1024 .f32)
    (harg12 : arg12.IsWhole) (arg13 : Memref sig .tc .vmem S132x64x128 .f32)
    (harg13 : arg13.IsWhole) (arg14 : Memref sig .tc .vmem S544x16x128 .bf16)
    (harg14 : arg14.IsWhole) (arg15 : Memref sig .tc .vmem S128x64x128 .f32)
    (harg15 : arg15.IsWhole) (v45 : FVec F S1056x1024 .bf16)
    (v55 : IVec S1056x1 1) (v118 : FVec F S132x8x128 .f32) :
    Prog (TpuEff nD τ sig (Elt F) Λ₀ .tc) PUnit :=
  Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 v45 v55 v118)

/-- The second loop: it makes the output rows. -/
@[irreducible] def rowLoop (i : grid0.Coords) (arg2 : Memref sig .tc .vmem S1x16x1024 .f32)
    (harg2 : arg2.IsWhole) (arg3 : Memref sig .tc .vmem S1x1024x1024 .f32)
    (harg3 : arg3.IsWhole) (arg4 : Memref sig .tc .vmem S1x16x1024 .f32)
    (harg4 : arg4.IsWhole) (arg5 : Memref sig .tc .vmem S1x1024 .f32)
    (harg5 : arg5.IsWhole) (arg6 : Memref sig .tc .vmem S1024x2048 .bf16)
    (harg6 : arg6.IsWhole) (arg7 : Memref sig .tc .vmem S31x16x128 .bf16)
    (harg7 : arg7.IsWhole) (arg8 : Memref sig .tc .vmem S1x1024 .f32)
    (harg8 : arg8.IsWhole) (arg9 : Memref sig .tc .vmem S1x1024 .f32)
    (harg9 : arg9.IsWhole) (arg10 : Memref sig .tc .vmem S1x1024 .f32)
    (harg10 : arg10.IsWhole) (arg11 : Memref sig .tc .vmem S1024x1024 .bf16)
    (harg11 : arg11.IsWhole) (arg12 : Memref sig .tc .vmem S1x1024x1024 .f32)
    (harg12 : arg12.IsWhole) (arg13 : Memref sig .tc .vmem S132x64x128 .f32)
    (harg13 : arg13.IsWhole) (arg14 : Memref sig .tc .vmem S544x16x128 .bf16)
    (harg14 : arg14.IsWhole) (arg15 : Memref sig .tc .vmem S128x64x128 .f32)
    (harg15 : arg15.IsWhole) (v45 : FVec F S1056x1024 .bf16)
    (v55 : IVec S1056x1 1) (v118 : FVec F S132x8x128 .f32) :
    Prog (TpuEff nD τ sig (Elt F) Λ₀ .tc) PUnit :=
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 v45 v55 v118)

/-- The part of the body that holds the two loops, the loops by name. -/
def loopPart (i : grid0.Coords) (arg2 : Memref sig .tc .vmem S1x16x1024 .f32)
    (harg2 : arg2.IsWhole) (arg3 : Memref sig .tc .vmem S1x1024x1024 .f32)
    (harg3 : arg3.IsWhole) (arg4 : Memref sig .tc .vmem S1x16x1024 .f32)
    (harg4 : arg4.IsWhole) (arg5 : Memref sig .tc .vmem S1x1024 .f32)
    (harg5 : arg5.IsWhole) (arg6 : Memref sig .tc .vmem S1024x2048 .bf16)
    (harg6 : arg6.IsWhole) (arg7 : Memref sig .tc .vmem S31x16x128 .bf16)
    (harg7 : arg7.IsWhole) (arg8 : Memref sig .tc .vmem S1x1024 .f32)
    (harg8 : arg8.IsWhole) (arg9 : Memref sig .tc .vmem S1x1024 .f32)
    (harg9 : arg9.IsWhole) (arg10 : Memref sig .tc .vmem S1x1024 .f32)
    (harg10 : arg10.IsWhole) (arg11 : Memref sig .tc .vmem S1024x1024 .bf16)
    (harg11 : arg11.IsWhole) (arg12 : Memref sig .tc .vmem S1x1024x1024 .f32)
    (harg12 : arg12.IsWhole) (arg13 : Memref sig .tc .vmem S132x64x128 .f32)
    (harg13 : arg13.IsWhole) (arg14 : Memref sig .tc .vmem S544x16x128 .bf16)
    (harg14 : arg14.IsWhole) (arg15 : Memref sig .tc .vmem S128x64x128 .f32)
    (harg15 : arg15.IsWhole) (v45 : FVec F S1056x1024 .bf16)
    (v55 : IVec S1056x1 1) (v118 : FVec F S132x8x128 .f32) :
    Prog (TpuEff nD τ sig (Elt F) Λ₀ .tc) (Σ' (v143 : FVec F S512x128 .f32) (v145 : FVec F S512x128 .f32), Vec F S64x8x128 .f32) := do
  Prog.lift (.store arg13 (Rect.unit (s := S132x64x128) ![0, 40, 0] S132x8x128.size inb_S132x64x128_S132x8x128_0_40_0) v118 Finset.univ (View.stores_vmem_bits_univ h_S132x8x128 rfl) (.inl rfl))
  let v119 : Vec F S1024x512 .bf16 ← Prog.lift (.load arg6 (Rect.unit (s := S1024x2048) ![0, 1536] S1024x512.size inb_S1024x2048_S1024x512_0_1536).toLoadRect (View.loadsAt_vmem h_S1024x512))
  let v132 : Vec F S132x8x128 .f32 ← Prog.lift (.load arg13 (Rect.unit (s := S132x64x128) ![0, 48, 0] S132x8x128.size inb_S132x64x128_S132x8x128_0_48_0).toLoadRect (View.loadsAt_vmem h_S132x8x128))
  Prog.lift (.store arg13 (Rect.unit (s := S132x64x128) ![0, 48, 0] S132x8x128.size inb_S132x64x128_S132x8x128_0_48_0) (k0_pay157 v45 v55 v119) Finset.univ (View.stores_vmem_bits_univ h_S132x8x128 rfl) (.inl rfl))
  let v137 : Vec F S132x8x128 .f32 ← Prog.lift (.load arg13 (Rect.unit (s := S132x64x128) ![0, 56, 0] S132x8x128.size inb_S132x64x128_S132x8x128_0_56_0).toLoadRect (View.loadsAt_vmem h_S132x8x128))
  Prog.lift (.store arg13 (Rect.unit (s := S132x64x128) ![0, 56, 0] S132x8x128.size inb_S132x64x128_S132x8x128_0_56_0) (k0_pay158 v45 v55 v119) Finset.univ (View.stores_vmem_bits_univ h_S132x8x128 rfl) (.inl rfl))
  packLoop i arg2 harg2 arg3 harg3 arg4 harg4 arg5 harg5 arg6 harg6 arg7 harg7 arg8 harg8 arg9 harg9 arg10 harg10 arg11 harg11 arg12 harg12 arg13 harg13 arg14 harg14 arg15 harg15 v45 v55 v118
  rowLoop i arg2 harg2 arg3 harg3 arg4 harg4 arg5 harg5 arg6 harg6 arg7 harg7 arg8 harg8 arg9 harg9 arg10 harg10 arg11 harg11 arg12 harg12 arg13 harg13 arg14 harg14 arg15 harg15 v45 v55 v118
  let v142 : Vec F S64x8x128 .f32 ← Prog.lift (.load arg15 (Rect.unit (s := S128x64x128) ![0, 0, 0] S64x8x128.size inb_S128x64x128_S64x8x128_0_0_0).toLoadRect (View.loadsAt_vmem h_S64x8x128))
  let v144 : Vec F S64x8x128 .f32 ← Prog.lift (.load arg15 (Rect.unit (s := S128x64x128) ![0, 8, 0] S64x8x128.size inb_S128x64x128_S64x8x128_0_8_0).toLoadRect (View.loadsAt_vmem h_S64x8x128))
  let v146 : Vec F S64x8x128 .f32 ← Prog.lift (.load arg15 (Rect.unit (s := S128x64x128) ![0, 16, 0] S64x8x128.size inb_S128x64x128_S64x8x128_0_16_0).toLoadRect (View.loadsAt_vmem h_S64x8x128))
  pure ⟨k0_pay163 v142, k0_pay164 v144, v146⟩

/-- That part is the printed one. -/
theorem loopPart_eq : k0_part33 (F := F) = loopPart (F := F) := by
  rw [k0_part33_eq_skeleton]; delta k0_part33_skel loopPart packLoop rowLoop; rfl

variable (c : Dev nD) (i : grid0.Coords) (arg2 : Memref sig .tc .vmem S1x16x1024 .f32)
    (harg2 : arg2.IsWhole) (arg3 : Memref sig .tc .vmem S1x1024x1024 .f32)
    (harg3 : arg3.IsWhole) (arg4 : Memref sig .tc .vmem S1x16x1024 .f32)
    (harg4 : arg4.IsWhole) (arg5 : Memref sig .tc .vmem S1x1024 .f32)
    (harg5 : arg5.IsWhole) (arg6 : Memref sig .tc .vmem S1024x2048 .bf16)
    (harg6 : arg6.IsWhole) (arg7 : Memref sig .tc .vmem S31x16x128 .bf16)
    (harg7 : arg7.IsWhole) (arg8 : Memref sig .tc .vmem S1x1024 .f32)
    (harg8 : arg8.IsWhole) (arg9 : Memref sig .tc .vmem S1x1024 .f32)
    (harg9 : arg9.IsWhole) (arg10 : Memref sig .tc .vmem S1x1024 .f32)
    (harg10 : arg10.IsWhole) (arg11 : Memref sig .tc .vmem S1024x1024 .bf16)
    (harg11 : arg11.IsWhole) (arg12 : Memref sig .tc .vmem S1x1024x1024 .f32)
    (harg12 : arg12.IsWhole) (arg13 : Memref sig .tc .vmem S132x64x128 .f32)
    (harg13 : arg13.IsWhole) (arg14 : Memref sig .tc .vmem S544x16x128 .bf16)
    (harg14 : arg14.IsWhole) (arg15 : Memref sig .tc .vmem S128x64x128 .f32)
    (harg15 : arg15.IsWhole) (v45 : FVec F S1056x1024 .bf16)
    (v55 : IVec S1056x1 1) (v118 : FVec F S132x8x128 .f32)

/-- A whole buffer covered by pieces may as well hold them over junk. -/
theorem over_junk {s : Shape} {e : EltTy} (r : Memref sig .tc .vmem s e) (c : Dev nD) (f : BufTy.Contents (Elt F) r.view.ty)
    (L : List (View.Piece (Elt F) s e)) (h : ∀ y, ∃ p ∈ L, y ∈ p.1.set) :
    ((r.view.loc (c : Thread nD τ) ↦[r.view.set]{fullShare} r.view.writes (Elt F) r.view.junk L) : sProp (Alg F))
      = (r.view.loc (c : Thread nD τ) ↦[r.view.set]{fullShare} r.view.writes (Elt F) f L) := by
  rw [Idealize.ShloMosaic.pointsTo_rep (Ix := Unit) (Name := ℕ) (U := UR sig nD τ) (Lvl := ℕ) (c : Thread nD τ) r,
    Idealize.ShloMosaic.pointsTo_rep (Ix := Unit) (Name := ℕ) (U := UR sig nD τ) (Lvl := ℕ) (c : Thread nD τ) r (r.view.writes (Elt F) f L)]
  rw [View.read_writes_of_cover r.view r.view.junk r.view f L h]

/-- The packed rows after the first loop, from the staged rows `X13`. -/
def packed (X13 : BufTy.Contents (Elt F) arg13.view.ty) : BufTy.Contents (Elt F) arg14.view.ty :=
  arg14.view.writes (Elt F) arg14.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X13 k0_t1_loop.trips)

/-- The output rows after the second loop, from the taps `X7` and the packed rows `X14`. -/
def rowed (X7 : BufTy.Contents (Elt F) arg7.view.ty) (X14 : BufTy.Contents (Elt F) arg14.view.ty) : BufTy.Contents (Elt F) arg15.view.ty :=
  arg15.view.writes (Elt F) arg15.view.junk (stores (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k0_t2_loop.trips)

/-- The first loop's stores cover the packed rows. -/
theorem packed_cover (X13 : BufTy.Contents (Elt F) arg13.view.ty) (y : S544x16x128.Idx) :
    ∃ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X13 k0_t1_loop.trips, y ∈ p.1.set :=
  View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X13 k0_t1_loop.trips) S1x16x128.size (by sl_kernel_rfl) y

/-- The first loop, whatever the packed rows held. -/
theorem pack_run (X13 : BufTy.Contents (Elt F) arg13.view.ty) (f14 : BufTy.Contents (Elt F) arg14.view.ty) (E : Set ℕ)
    (K : PUnit → sProp (Alg F)) :
    iprop((arg13.view.loc (c : Thread nD τ) ↦[arg13.view.set]{fullShare} X13)
      ∗ (arg14.view.loc (c : Thread nD τ) ↦[arg14.view.set]{fullShare} f14)
      ∗ (iprop((arg13.view.loc (c : Thread nD τ) ↦[arg13.view.set]{fullShare} X13)
        ∗ (arg14.view.loc (c : Thread nD τ) ↦[arg14.view.set]{fullShare} packed (F := F) c i arg2 harg2 arg3 harg3 arg4 harg4 arg5 harg5 arg6 harg6 arg7 harg7 arg8 harg8 arg9 harg9 arg10 harg10 arg11 harg11 arg12 harg12 arg13 harg13 arg14 harg14 arg15 harg15 v45 v55 v118 X13)) -∗ K ⟨⟩))
    ⊢ wp frame (wpE (defs₀ (F := F)) Variants.none c none) E (packLoop (F := F) i arg2 harg2 arg3 harg3 arg4 harg4 arg5 harg5 arg6 harg6 arg7 harg7 arg8 harg8 arg9 harg9 arg10 harg10 arg11 harg11 arg12 harg12 arg13 harg13 arg14 harg14 arg15 harg15 v45 v55 v118) K := by
  unfold packLoop
  iintro ⟨H13, H14, Hk⟩
  sl_exec
  iapply Hk
  isplitl [H13]; · iexact H13
  unfold packed
  rw [over_junk arg14 c _ _ (packed_cover (F := F) c i arg2 harg2 arg3 harg3 arg4 harg4 arg5 harg5 arg6 harg6 arg7 harg7 arg8 harg8 arg9 harg9 arg10 harg10 arg11 harg11 arg12 harg12 arg13 harg13 arg14 harg14 arg15 harg15 v45 v55 v118 X13)]
  iexact H14

/-- The first loop after stores that cover the staged rows, whatever those held before. -/
theorem pack_run_over (f13 : BufTy.Contents (Elt F) arg13.view.ty) (L : List (View.Piece (Elt F) S132x64x128 .f32))
    (f14 : BufTy.Contents (Elt F) arg14.view.ty) (E : Set ℕ) (K : PUnit → sProp (Alg F)) :
    iprop((arg13.view.loc (c : Thread nD τ) ↦[arg13.view.set]{fullShare} arg13.view.writes (Elt F) f13 L)
      ∗ ⌜∀ y, ∃ p ∈ L, y ∈ p.1.set⌝
      ∗ (arg14.view.loc (c : Thread nD τ) ↦[arg14.view.set]{fullShare} f14)
      ∗ (iprop((arg13.view.loc (c : Thread nD τ) ↦[arg13.view.set]{fullShare} arg13.view.writes (Elt F) arg13.view.junk L)
        ∗ (arg14.view.loc (c : Thread nD τ) ↦[arg14.view.set]{fullShare} packed (F := F) c i arg2 harg2 arg3 harg3 arg4 harg4 arg5 harg5 arg6 harg6 arg7 harg7 arg8 harg8 arg9 harg9 arg10 harg10 arg11 harg11 arg12 harg12 arg13 harg13 arg14 harg14 arg15 harg15 v45 v55 v118 (arg13.view.writes (Elt F) arg13.view.junk L))) -∗ K ⟨⟩))
    ⊢ wp frame (wpE (defs₀ (F := F)) Variants.none c none) E (packLoop (F := F) i arg2 harg2 arg3 harg3 arg4 harg4 arg5 harg5 arg6 harg6 arg7 harg7 arg8 harg8 arg9 harg9 arg10 harg10 arg11 harg11 arg12 harg12 arg13 harg13 arg14 harg14 arg15 harg15 v45 v55 v118) K := by
  iintro ⟨H13, %hL, H14, Hk⟩
  iapply (pack_run (F := F) c)
  isplitl [H13]
  · rw [over_junk arg13 c f13 L hL]; iexact H13
  isplitl [H14]; · iexact H14
  iexact Hk

/-- A strip of eight rows, one in eight, holds the indices on it. -/
theorem strip_mem {off : Fin 3 → ℕ} {inb} {sp} (p s : ℕ) (h : off = ![p, s, 0]) (y : S128x64x128.Idx) (q : ℕ) (hq : q < 8)
    (h0 : (y 0).val = p) (h1 : (y 1).val = s + 8 * q) :
    y ∈ (⟨⟨off, S1x8x128.size, ![1, 8, 1], inb⟩, sp⟩ : Rect S128x64x128).set := by
  subst h
  refine (LoadRect.mem_set _).mpr fun a => ?_
  match a with
  | 0 => exact ⟨0, Nat.one_pos, by rw [h0]; rfl⟩
  | 1 => exact ⟨q, hq, h1⟩
  | 2 => exact ⟨(y 2).val, (y 2).isLt, by show (y 2).val = 0 + 1 * (y 2).val; omega⟩

/-- One trip's stores hold its two rows. -/
theorem trip_cover (X7 : BufTy.Contents (Elt F) arg7.view.ty) (X14 : BufTy.Contents (Elt F) arg14.view.ty)
    (k : Fin k0_t2_loop.trips) (y : S128x64x128.Idx) (h : (y 0).val = k.val ∨ (y 0).val = k.val + 64) :
    ∃ p ∈ (trip (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k).1, y ∈ p.1.set := by
  have hy : (y 1).val < 64 := (y 1).isLt
  have hd := Nat.mod_add_div (y 1).val 8
  have hq : (y 1).val / 8 < 8 := by omega
  have hr : (y 1).val % 8 < 8 := Nat.mod_lt _ (by omega)
  unfold trip
  rcases h with h | h
  · obtain hs | hs | hs | hs | hs | hs | hs | hs : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 := by omega
    · exact ⟨_, .tail _ (.tail _ (.tail _ (.tail _ (.tail _ (.tail _ (.tail _ (.tail _ (.tail _ (.tail _ (.tail _ (.tail _ (.tail _ (.tail _ (.tail _ (.head _))))))))))))))), strip_mem k.val 0 (k0_off19_eq k) y _ hq h (by omega)⟩
    · exact ⟨_, .tail _ (.tail _ (.tail _ (.tail _ (.tail _ (.tail _ (.tail _ (.tail _ (.tail _ (.tail _ (.tail _ (.tail _ (.tail _ (.head _))))))))))))), strip_mem k.val 1 (k0_off21_eq k) y _ hq h (by omega)⟩
    · exact ⟨_, .tail _ (.tail _ (.tail _ (.tail _ (.tail _ (.tail _ (.tail _ (.tail _ (.tail _ (.tail _ (.tail _ (.head _))))))))))), strip_mem k.val 2 (k0_off23_eq k) y _ hq h (by omega)⟩
    · exact ⟨_, .tail _ (.tail _ (.tail _ (.tail _ (.tail _ (.tail _ (.tail _ (.tail _ (.tail _ (.head _))))))))), strip_mem k.val 3 (k0_off25_eq k) y _ hq h (by omega)⟩
    · exact ⟨_, .tail _ (.tail _ (.tail _ (.tail _ (.tail _ (.tail _ (.tail _ (.head _))))))), strip_mem k.val 4 (k0_off27_eq k) y _ hq h (by omega)⟩
    · exact ⟨_, .tail _ (.tail _ (.tail _ (.tail _ (.tail _ (.head _))))), strip_mem k.val 5 (k0_off29_eq k) y _ hq h (by omega)⟩
    · exact ⟨_, .tail _ (.tail _ (.tail _ (.head _))), strip_mem k.val 6 (k0_off31_eq k) y _ hq h (by omega)⟩
    · exact ⟨_, .tail _ (.head _), strip_mem k.val 7 (k0_off33_eq k) y _ hq h (by omega)⟩
  · obtain hs | hs | hs | hs | hs | hs | hs | hs : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 := by omega
    · exact ⟨_, .tail _ (.tail _ (.tail _ (.tail _ (.tail _ (.tail _ (.tail _ (.tail _ (.tail _ (.tail _ (.tail _ (.tail _ (.tail _ (.tail _ (.head _)))))))))))))), strip_mem (k.val + 64) 0 (k0_off20_eq k) y _ hq h (by omega)⟩
    · exact ⟨_, .tail _ (.tail _ (.tail _ (.tail _ (.tail _ (.tail _ (.tail _ (.tail _ (.tail _ (.tail _ (.tail _ (.tail _ (.head _)))))))))))), strip_mem (k.val + 64) 1 (k0_off22_eq k) y _ hq h (by omega)⟩
    · exact ⟨_, .tail _ (.tail _ (.tail _ (.tail _ (.tail _ (.tail _ (.tail _ (.tail _ (.tail _ (.tail _ (.head _)))))))))), strip_mem (k.val + 64) 2 (k0_off24_eq k) y _ hq h (by omega)⟩
    · exact ⟨_, .tail _ (.tail _ (.tail _ (.tail _ (.tail _ (.tail _ (.tail _ (.tail _ (.head _)))))))), strip_mem (k.val + 64) 3 (k0_off26_eq k) y _ hq h (by omega)⟩
    · exact ⟨_, .tail _ (.tail _ (.tail _ (.tail _ (.tail _ (.tail _ (.head _)))))), strip_mem (k.val + 64) 4 (k0_off28_eq k) y _ hq h (by omega)⟩
    · exact ⟨_, .tail _ (.tail _ (.tail _ (.tail _ (.head _)))), strip_mem (k.val + 64) 5 (k0_off30_eq k) y _ hq h (by omega)⟩
    · exact ⟨_, .tail _ (.tail _ (.head _)), strip_mem (k.val + 64) 6 (k0_off32_eq k) y _ hq h (by omega)⟩
    · exact ⟨_, .head _, strip_mem (k.val + 64) 7 (k0_off34_eq k) y _ hq h (by omega)⟩

/-- The second loop's stores cover the output rows. -/
theorem rowed_cover (X7 : BufTy.Contents (Elt F) arg7.view.ty) (X14 : BufTy.Contents (Elt F) arg14.view.ty)
    (y : S128x64x128.Idx) :
    ∃ p ∈ stores (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 k0_t2_loop.trips, y ∈ p.1.set := by
  have key : ∀ n ≤ k0_t2_loop.trips, ∀ j < n, ((y 0).val = j ∨ (y 0).val = j + 64) →
      ∃ p ∈ stores (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 n, y ∈ p.1.set := by
    intro n
    induction n with
    | zero => intro _ j hj; omega
    | succ n ih =>
      intro hn j hj h
      rw [stores_succ Variants.none c none i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 ⟨n, hn⟩]
      by_cases e : j = n
      · subst e
        obtain ⟨p, hp, hm⟩ := trip_cover c i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14 ⟨j, hn⟩ y h
        exact ⟨p, List.mem_append_left _ hp, hm⟩
      · obtain ⟨p, hp, hm⟩ := ih (by omega) j (by omega) h
        exact ⟨p, List.mem_append_right _ hp, hm⟩
  have ht : k0_t2_loop.trips = 64 := by decide +kernel
  have hy : (y 0).val < 128 := (y 0).isLt
  refine key _ le_rfl ((y 0).val % 64) ?_ ?_
  · rw [ht]; omega
  · omega

/-- The second loop, whatever the output rows held. -/
theorem row_run (X7 : BufTy.Contents (Elt F) arg7.view.ty) (X14 : BufTy.Contents (Elt F) arg14.view.ty)
    (f15 : BufTy.Contents (Elt F) arg15.view.ty) (E : Set ℕ) (K : PUnit → sProp (Alg F)) :
    iprop((arg7.view.loc (c : Thread nD τ) ↦[arg7.view.set]{fullShare} X7)
      ∗ (arg14.view.loc (c : Thread nD τ) ↦[arg14.view.set]{fullShare} X14)
      ∗ (arg15.view.loc (c : Thread nD τ) ↦[arg15.view.set]{fullShare} f15)
      ∗ (iprop((arg7.view.loc (c : Thread nD τ) ↦[arg7.view.set]{fullShare} X7)
        ∗ (arg14.view.loc (c : Thread nD τ) ↦[arg14.view.set]{fullShare} X14)
        ∗ (arg15.view.loc (c : Thread nD τ) ↦[arg15.view.set]{fullShare} rowed (F := F) c i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14)) -∗ K ⟨⟩))
    ⊢ wp frame (wpE (defs₀ (F := F)) Variants.none c none) E (rowLoop (F := F) i arg2 harg2 arg3 harg3 arg4 harg4 arg5 harg5 arg6 harg6 arg7 harg7 arg8 harg8 arg9 harg9 arg10 harg10 arg11 harg11 arg12 harg12 arg13 harg13 arg14 harg14 arg15 harg15 v45 v55 v118) K := by
  unfold rowLoop
  iintro ⟨H7, H14, H15, Hk⟩
  sl_exec
  iapply Hk
  isplitl [H7]; · iexact H7
  isplitl [H14]; · iexact H14
  unfold rowed
  rw [over_junk arg15 c _ _ (rowed_cover (F := F) c i arg2 harg2 arg3 harg3 arg4 harg4 arg5 harg5 arg6 harg6 arg7 harg7 arg8 harg8 arg9 harg9 arg10 harg10 arg11 harg11 arg12 harg12 arg13 harg13 arg14 harg14 arg15 harg15 v45 v55 v118 X7 X14)]
  iexact H15

end Cert.ConvIdeal.Rows
-- ==== Proof.ConvIdealBody.lean ====
/- The convolution program's body, run once on any staging buffers: the pieces it stores into the result block. -/
module

public import proofs.«01_k».proof.Proof.ConvIdealLoops

@[expose] public section

set_option maxRecDepth 16384

noncomputable section

namespace Cert.ConvIdeal.Rows

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] packed rowed

set_option maxHeartbeats 4000000 in
/-- The body on whole buffers, the ten inputs at their contents and the rest at anything: it stores these pieces into the
    result block, leaves the inputs as they were and the three scratch buffers at something. -/
noncomputable def bodyRun (c : Dev nD) (i : grid0.Coords) (arg2 : Memref sig .tc .vmem S1x16x1024 .f32)
  (harg2 : arg2.IsWhole) (arg3 : Memref sig .tc .vmem S1x1024x1024 .f32)
  (harg3 : arg3.IsWhole) (arg4 : Memref sig .tc .vmem S1x16x1024 .f32)
  (harg4 : arg4.IsWhole) (arg5 : Memref sig .tc .vmem S1x1024 .f32)
  (harg5 : arg5.IsWhole) (arg6 : Memref sig .tc .vmem S1024x2048 .bf16)
  (harg6 : arg6.IsWhole) (arg7 : Memref sig .tc .vmem S31x16x128 .bf16)
  (harg7 : arg7.IsWhole) (arg8 : Memref sig .tc .vmem S1x1024 .f32)
  (harg8 : arg8.IsWhole) (arg9 : Memref sig .tc .vmem S1x1024 .f32)
  (harg9 : arg9.IsWhole) (arg10 : Memref sig .tc .vmem S1x1024 .f32)
  (harg10 : arg10.IsWhole) (arg11 : Memref sig .tc .vmem S1024x1024 .bf16)
  (harg11 : arg11.IsWhole) (arg12 : Memref sig .tc .vmem S1x1024x1024 .f32)
  (harg12 : arg12.IsWhole) (arg13 : Memref sig .tc .vmem S132x64x128 .f32)
  (harg13 : arg13.IsWhole) (arg14 : Memref sig .tc .vmem S544x16x128 .bf16)
  (harg14 : arg14.IsWhole) (arg15 : Memref sig .tc .vmem S128x64x128 .f32)
  (harg15 : arg15.IsWhole)
    (x0 : Vec F S1x16x1024 .f32) (x1 : Vec F S1x1024x1024 .f32) (x2 : Vec F S1x16x1024 .f32) (x3 : Vec F S1x1024 .f32) (x4 : Vec F S1024x2048 .bf16) (x5 : Vec F S31x16x128 .bf16) (x6 : Vec F S1x1024 .f32) (x7 : Vec F S1x1024 .f32) (x8 : Vec F S1x1024 .f32) (x9 : Vec F S1024x1024 .bf16) :
    { L : List (View.Piece (Elt F) S1x1024x1024 .f32) //
      ∀ (E : Set ℕ) (K : PUnit → sProp (Alg F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_conv_module i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_conv_module_eq_skeleton]; unfold cc0_conv_module_skel
    simp only [k0_part30_eq_skeleton, k0_part31_eq_skeleton, k0_part32_eq_skeleton, k0_part34_eq_skeleton, k0_part35_eq_skeleton, k0_part36_eq_skeleton, loopPart_eq]; unfold loopPart
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    generalize hpl : packLoop (F := F) = pl
    generalize hrl : rowLoop (F := F) = rl
    sl_exec
    subst hpl
    rw [Prog.bind_assoc, wp_bind]
    iapply (pack_run_over (F := F) c)
    isplitl [HS0]; · iexact HS0
    isplitr
    · ipureintro; intro y; refine View.cover_of_tiledL (s := S132x64x128) _ S132x8x128.size ?_ y; sl_kernel_rfl
    isplitl [HS1]; · iexact HS1
    iintro ⟨HS0, HS1⟩
    subst hrl
    rw [Prog.bind_assoc, wp_bind]
    iapply (row_run (F := F) c)
    isplitl [H5]; · iexact H5
    isplitl [HS1]; · iexact HS1
    isplitl [HS2]; · iexact HS2
    iintro ⟨H5, HS1, HS2⟩
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; iexists _; isplitr
      swap; · iexact HS0
      ipureintro; rfl
    isplitl [HS1]
    · iexists _; iexists _; isplitr
      swap; · iexact HS1
      ipureintro; rfl
    iexists _; iexists _; isplitr
    swap; · iexact HS2
    ipureintro; rfl

end Cert.ConvIdeal.Rows
-- ==== Proof.ConvIdealFrame.lean ====
/- The convolution program's frame: the body at every point, the launch, and the arguments left as they were. -/
module

public import proofs.«01_k».proof.Proof.ConvIdealBody
public import Idealize.ShloMosaic.Lib.Claim

@[expose] public section

set_option maxRecDepth 16384

noncomputable section

namespace Cert.ConvIdeal.Rows

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 0's staging buffer at point `t`. -/
abbrev stg0 (t : Fin cfg0.N) : Memref sig .tc .vmem S1x16x1024 .f32 := win0_0.stage (cfg0.slots t 0)
/-- It is a whole buffer. -/
abbrev stg0_whole (t : Fin cfg0.N) : (stg0 t).IsWhole := hstage0_0 ((cfg0.slots t 0).cast nbuf0_0)
/-- Window 1's staging buffer at point `t`. -/
abbrev stg1 (t : Fin cfg0.N) : Memref sig .tc .vmem S1x1024x1024 .f32 := win0_1.stage (cfg0.slots t 1)
/-- It is a whole buffer. -/
abbrev stg1_whole (t : Fin cfg0.N) : (stg1 t).IsWhole := hstage0_1 ((cfg0.slots t 1).cast nbuf0_1)
/-- Window 2's staging buffer at point `t`. -/
abbrev stg2 (t : Fin cfg0.N) : Memref sig .tc .vmem S1x16x1024 .f32 := win0_2.stage (cfg0.slots t 2)
/-- It is a whole buffer. -/
abbrev stg2_whole (t : Fin cfg0.N) : (stg2 t).IsWhole := hstage0_2 ((cfg0.slots t 2).cast nbuf0_2)
/-- Window 3's staging buffer at point `t`. -/
abbrev stg3 (t : Fin cfg0.N) : Memref sig .tc .vmem S1x1024 .f32 := win0_3.stage (cfg0.slots t 3)
/-- It is a whole buffer. -/
abbrev stg3_whole (t : Fin cfg0.N) : (stg3 t).IsWhole := hstage0_3 ((cfg0.slots t 3).cast nbuf0_3)
/-- Window 4's staging buffer at point `t`. -/
abbrev stg4 (t : Fin cfg0.N) : Memref sig .tc .vmem S1024x2048 .bf16 := win0_4.stage (cfg0.slots t 4)
/-- It is a whole buffer. -/
abbrev stg4_whole (t : Fin cfg0.N) : (stg4 t).IsWhole := hstage0_4 ((cfg0.slots t 4).cast nbuf0_4)
/-- Window 5's staging buffer at point `t`. -/
abbrev stg5 (t : Fin cfg0.N) : Memref sig .tc .vmem S31x16x128 .bf16 := win0_5.stage (cfg0.slots t 5)
/-- It is a whole buffer. -/
abbrev stg5_whole (t : Fin cfg0.N) : (stg5 t).IsWhole := hstage0_5 ((cfg0.slots t 5).cast nbuf0_5)
/-- Window 6's staging buffer at point `t`. -/
abbrev stg6 (t : Fin cfg0.N) : Memref sig .tc .vmem S1x1024 .f32 := win0_6.stage (cfg0.slots t 6)
/-- It is a whole buffer. -/
abbrev stg6_whole (t : Fin cfg0.N) : (stg6 t).IsWhole := hstage0_6 ((cfg0.slots t 6).cast nbuf0_6)
/-- Window 7's staging buffer at point `t`. -/
abbrev stg7 (t : Fin cfg0.N) : Memref sig .tc .vmem S1x1024 .f32 := win0_7.stage (cfg0.slots t 7)
/-- It is a whole buffer. -/
abbrev stg7_whole (t : Fin cfg0.N) : (stg7 t).IsWhole := hstage0_7 ((cfg0.slots t 7).cast nbuf0_7)
/-- Window 8's staging buffer at point `t`. -/
abbrev stg8 (t : Fin cfg0.N) : Memref sig .tc .vmem S1x1024 .f32 := win0_8.stage (cfg0.slots t 8)
/-- It is a whole buffer. -/
abbrev stg8_whole (t : Fin cfg0.N) : (stg8 t).IsWhole := hstage0_8 ((cfg0.slots t 8).cast nbuf0_8)
/-- Window 9's staging buffer at point `t`. -/
abbrev stg9 (t : Fin cfg0.N) : Memref sig .tc .vmem S1024x1024 .bf16 := win0_9.stage (cfg0.slots t 9)
/-- It is a whole buffer. -/
abbrev stg9_whole (t : Fin cfg0.N) : (stg9 t).IsWhole := hstage0_9 ((cfg0.slots t 9).cast nbuf0_9)
/-- Window 10's staging buffer at point `t`. -/
abbrev stg10 (t : Fin cfg0.N) : Memref sig .tc .vmem S1x1024x1024 .f32 := win0_10.stage (cfg0.slots t 10)
/-- It is a whole buffer. -/
abbrev stg10_whole (t : Fin cfg0.N) : (stg10 t).IsWhole := hstage0_10 ((cfg0.slots t 10).cast nbuf0_10)
/-- Scratch buffer 0, whole. -/
abbrev scr0 : Memref sig .tc .vmem S132x64x128 .f32 := Memref.whole cc0_scratch0
/-- Scratch buffer 1, whole. -/
abbrev scr1 : Memref sig .tc .vmem S544x16x128 .bf16 := Memref.whole cc0_scratch1
/-- Scratch buffer 2, whole. -/
abbrev scr2 : Memref sig .tc .vmem S128x64x128 .f32 := Memref.whole cc0_scratch2

/-- One buffer through which the result block's contents are stated. -/
abbrev outView : View sig .tc .vmem S1x1024x1024 .f32 := (Memref.whole cc0_stg10_0 : Memref sig .tc .vmem S1x1024x1024 .f32).view

/-- The pieces the body stores at point `t`. -/
abbrev piecesAt (c : Dev nD) (t : Fin cfg0.N) : List (View.Piece (Elt F) S1x1024x1024 .f32) :=
  (bodyRun (F := F) c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) scr0 (Memref.isWhole_whole _) scr1 (Memref.isWhole_whole _) scr2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)).1

/-- The pieces cover the result block. -/
theorem pieces_cover (c : Dev nD) (t : Fin cfg0.N) (y : S1x1024x1024.Idx) : ∃ p ∈ piecesAt m c t, y ∈ p.1.set :=
  View.cover_of_tiledL (piecesAt m c t) S1x512x1024.size (by sl_kernel_rfl) y

/-- What the result block holds after point `t`. -/
def outAt (c : Dev nD) (t : Fin cfg0.N) : Vec F S1x1024x1024 .f32 :=
  outView.read (Elt F) (outView.writes (Elt F) outView.junk (piecesAt m c t))

/-- The scoped buffers outside the windows are the three scratch buffers, at any contents. -/
theorem scoped_eq (c : Dev nD) :
    (Pipeline.ΦA spec0 c : sProp (Alg F))
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; rfl

/-- The pipeline's data: the arrays as the region finds them, each input block left in place, the result block at `outAt`;
    the three windows on the input array hold a share of it each. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q w := Pipeline.shareOf spec0 w
  owed _ := 0

/-- The data's arrays are those the region finds. -/
theorem data_A (c : Dev nD) (w : Fin cfg0.W) : (data m 0 c).A w = V m c (Pipeline.arrRef spec0 w) := by
  dsimp only [data]

/-- Window 0's block stays in place. -/
theorem after_0 (c : Dev nD) (t : Fin cfg0.N) : (data m 0 c).after 0 t = iblk m c 0 t := by dsimp only [data]
/-- Window 0's buffer holds its block before the body. -/
theorem held_0 (c : Dev nD) (t : Fin cfg0.N) (d) : (data m 0 c).before 0 t d = iblk m c 0 t :=
  before0_0_of m (data m 0 c) (data_A m c 0) (after_0 m c) t d
/-- Window 1's block stays in place. -/
theorem after_1 (c : Dev nD) (t : Fin cfg0.N) : (data m 0 c).after 1 t = iblk m c 1 t := by dsimp only [data]
/-- Window 1's buffer holds its block before the body. -/
theorem held_1 (c : Dev nD) (t : Fin cfg0.N) (d) : (data m 0 c).before 1 t d = iblk m c 1 t :=
  before0_1_of m (data m 0 c) (data_A m c 1) (after_1 m c) t d
/-- Window 2's block stays in place. -/
theorem after_2 (c : Dev nD) (t : Fin cfg0.N) : (data m 0 c).after 2 t = iblk m c 2 t := by dsimp only [data]
/-- Window 2's buffer holds its block before the body. -/
theorem held_2 (c : Dev nD) (t : Fin cfg0.N) (d) : (data m 0 c).before 2 t d = iblk m c 2 t :=
  before0_2_of m (data m 0 c) (data_A m c 2) (after_2 m c) t d
/-- Window 3's block stays in place. -/
theorem after_3 (c : Dev nD) (t : Fin cfg0.N) : (data m 0 c).after 3 t = iblk m c 3 t := by dsimp only [data]
/-- Window 3's buffer holds its block before the body. -/
theorem held_3 (c : Dev nD) (t : Fin cfg0.N) (d) : (data m 0 c).before 3 t d = iblk m c 3 t :=
  before0_3_of m (data m 0 c) (data_A m c 3) (after_3 m c) t d
/-- Window 4's block stays in place. -/
theorem after_4 (c : Dev nD) (t : Fin cfg0.N) : (data m 0 c).after 4 t = iblk m c 4 t := by dsimp only [data]
/-- Window 4's buffer holds its block before the body. -/
theorem held_4 (c : Dev nD) (t : Fin cfg0.N) (d) : (data m 0 c).before 4 t d = iblk m c 4 t :=
  before0_4_of m (data m 0 c) (data_A m c 4) (after_4 m c) t d
/-- Window 5's block stays in place. -/
theorem after_5 (c : Dev nD) (t : Fin cfg0.N) : (data m 0 c).after 5 t = iblk m c 5 t := by dsimp only [data]
/-- Window 5's buffer holds its block before the body. -/
theorem held_5 (c : Dev nD) (t : Fin cfg0.N) (d) : (data m 0 c).before 5 t d = iblk m c 5 t :=
  before0_5_of m (data m 0 c) (data_A m c 5) (after_5 m c) t d
/-- Window 6's block stays in place. -/
theorem after_6 (c : Dev nD) (t : Fin cfg0.N) : (data m 0 c).after 6 t = iblk m c 6 t := by dsimp only [data]
/-- Window 6's buffer holds its block before the body. -/
theorem held_6 (c : Dev nD) (t : Fin cfg0.N) (d) : (data m 0 c).before 6 t d = iblk m c 6 t :=
  before0_6_of m (data m 0 c) (data_A m c 6) (after_6 m c) t d
/-- Window 7's block stays in place. -/
theorem after_7 (c : Dev nD) (t : Fin cfg0.N) : (data m 0 c).after 7 t = iblk m c 7 t := by dsimp only [data]
/-- Window 7's buffer holds its block before the body. -/
theorem held_7 (c : Dev nD) (t : Fin cfg0.N) (d) : (data m 0 c).before 7 t d = iblk m c 7 t :=
  before0_7_of m (data m 0 c) (data_A m c 7) (after_7 m c) t d
/-- Window 8's block stays in place. -/
theorem after_8 (c : Dev nD) (t : Fin cfg0.N) : (data m 0 c).after 8 t = iblk m c 8 t := by dsimp only [data]
/-- Window 8's buffer holds its block before the body. -/
theorem held_8 (c : Dev nD) (t : Fin cfg0.N) (d) : (data m 0 c).before 8 t d = iblk m c 8 t :=
  before0_8_of m (data m 0 c) (data_A m c 8) (after_8 m c) t d
/-- Window 9's block stays in place. -/
theorem after_9 (c : Dev nD) (t : Fin cfg0.N) : (data m 0 c).after 9 t = iblk m c 9 t := by dsimp only [data]
/-- Window 9's buffer holds its block before the body. -/
theorem held_9 (c : Dev nD) (t : Fin cfg0.N) (d) : (data m 0 c).before 9 t d = iblk m c 9 t :=
  before0_9_of m (data m 0 c) (data_A m c 9) (after_9 m c) t d
/-- The result block holds `outAt` after the body. -/
theorem after_10 (c : Dev nD) (t : Fin cfg0.N) : (data m 0 c).after 10 t = outAt m c t := by dsimp only [data]

/-- What the body is called with at point `t`. -/
def pointPre (c : Dev nD) (t : Fin cfg0.N) : sProp (Alg F) :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare ((data m 0 c).before 7 t d))
    ∗ (∃ d, owns (c : Thread nD τ) (stg8 t) fullShare ((data m 0 c).before 8 t d))
    ∗ (∃ d, owns (c : Thread nD τ) (stg9 t) fullShare ((data m 0 c).before 9 t d))
    ∗ (∃ d, owns (c : Thread nD τ) (stg10 t) fullShare ((data m 0 c).before 10 t d)))

/-- What it returns. -/
def pointPost (c : Dev nD) (t : Fin cfg0.N) : sProp (Alg F) :=
  iprop((data m 0 c).Φ t.succ ∗ (data m 0 c).owesAt () t.succ
    ∗ owns (c : Thread nD τ) (stg0 t) fullShare ((data m 0 c).after 0 t)
    ∗ owns (c : Thread nD τ) (stg1 t) fullShare ((data m 0 c).after 1 t)
    ∗ owns (c : Thread nD τ) (stg2 t) fullShare ((data m 0 c).after 2 t)
    ∗ owns (c : Thread nD τ) (stg3 t) fullShare ((data m 0 c).after 3 t)
    ∗ owns (c : Thread nD τ) (stg4 t) fullShare ((data m 0 c).after 4 t)
    ∗ owns (c : Thread nD τ) (stg5 t) fullShare ((data m 0 c).after 5 t)
    ∗ owns (c : Thread nD τ) (stg6 t) fullShare ((data m 0 c).after 6 t)
    ∗ owns (c : Thread nD τ) (stg7 t) fullShare ((data m 0 c).after 7 t)
    ∗ owns (c : Thread nD τ) (stg8 t) fullShare ((data m 0 c).after 8 t)
    ∗ owns (c : Thread nD τ) (stg9 t) fullShare ((data m 0 c).after 9 t)
    ∗ owns (c : Thread nD τ) (stg10 t) fullShare ((data m 0 c).after 10 t))

/-- The body at any point. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [held_0, held_1, held_2, held_3, held_4, held_5, held_6, held_7, held_8, held_9]
  rw [show (data m 0 c).Φ t.succ = (data m 0 c).Φ t.castSucc from rfl,
    show (data m 0 c).owesAt () t.succ = (data m 0 c).owesAt () t.castSucc from rfl,
    after_0, after_1, after_2, after_3, after_4, after_5, after_6, after_7, after_8, after_9, after_10]
  rw [show (data m 0 c).Φ t.castSucc = Pipeline.ΦA spec0 c from rfl, scoped_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun (F := F) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  iintro ⟨H0, H1, H2, H3, H4, H5, H6, H7, H8, H9, ⟨%e10, H10⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (pieces_cover m c t)

/-- The body table's row at point `t` is the body there. -/
theorem row_eq (t : Fin cfg0.N) :
    defs₀ (F := F) .tc cfg0.body (cfg0.bodyArgs t (cfg0.slots t)) = bodyAt0 t := by
  unfold defs₀; rw [Defs.onTc_tc]

/-- The obligation of the body at every point. -/
theorem obligation (c : Dev nD) : BodyObligation (data (F := F) m 0 c) (defs₀ (F := F)) Variants.none () Set.univ := fun t => by
  rw [bigSep_W0, bigSep_W0, row_eq]
  exact triple_restated (point_sound m c t) rfl .rfl fun _ => .rfl

set_option backward.isDefEq.respectTransparency.types false in
/-- Every weakly fair execution ends with the arrays as the data say and every counter at zero. -/
theorem run_quiet : θ_run defs (onTc (τ := τ) (main (F := F))) (s₀ m ρ) (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hΦ := fun _ _ => rfl)

/-- The same without the counters. -/
theorem run_frame : θ_run defs (onTc (τ := τ) (main (F := F))) (s₀ m ρ) (Pipeline.FramePost cfgs (data m) 0 (V m)) :=
  (θ_run defs _ _).mono (fun _ h => h.1) (run_quiet m ρ)

/-- The arguments end as launched and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (data m) (data_A m) (run_frame m ρ)) ((θ_run defs _ _).mono (fun _ h => h.2) (run_quiet m ρ))

end Cert.ConvIdeal.Rows
-- ==== Proof.SecondValue.lean ====
/- The second feed-forward program's values: the layer with its residual, and four narrowed weight matrices. -/
module

public import proofs.«01_k».proof.Proof.RowMath
public import proofs.«01_k».proof.Proof.Gen.MlpSecondIdeal.Value
public import Idealize.ShloMosaic.Lib.Pipeline.ValueKit
public import proofs.«01_k».proof.Proof.Gen.MlpSecondReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpSecondIdeal.Block

open Cert.MlpSecondIdeal Cert.MlpSecondIdeal.Gen Cert.RowMath

/-- The narrowed scaled row. -/
theorem pay4_eq (v0 : Vec Ideal S1024x1024 .f32) (v2 : Vec Ideal S1x1024 .f32) (r k : Fin 1024) :
    k0_pay4 (F := Ideal) v0 v2 (ix2 r k) = rms (fun l => v0 (ix2 r l)) (fun l => v2 (ix2 0 l)) k := by
  pointwise [k0_pay4, k0_pay3, rms]

/-- The residual plus the first run of hidden units. -/
theorem pay5_eq (v0 : Vec Ideal S1024x1024 .f32) (v2 : Vec Ideal S1x1024 .f32) (a b : Vec Ideal S1024x1024 .bf16) (r n : Fin 1024) :
    k0_pay5 (F := Ideal) v0 v2 a b (ix2 r n) = v0 (ix2 r n)
      + ∑ t : Fin 1024, relu2 (∑ k : Fin 1024, k0_pay4 (F := Ideal) v0 v2 (ix2 r k) * a (ix2 k t)) * b (ix2 t n) := by
  generalize hp : k0_pay4 (F := Ideal) v0 v2 = p
  pointwise [k0_pay5, k0_pay3, relu2, hp]

/-- The second run of hidden units. -/
theorem pay6_eq (v0 : Vec Ideal S1024x1024 .f32) (v2 : Vec Ideal S1x1024 .f32) (a b : Vec Ideal S1024x1024 .bf16) (r n : Fin 1024) :
    k0_pay6 (F := Ideal) v0 v2 a b (ix2 r n) =
      ∑ t : Fin 1024, relu2 (∑ k : Fin 1024, k0_pay4 (F := Ideal) v0 v2 (ix2 r k) * a (ix2 k t)) * b (ix2 t n) := by
  generalize hp : k0_pay4 (F := Ideal) v0 v2 = p
  pointwise [k0_pay6, k0_pay3, relu2, hp]

/-- The last two runs added on. -/
theorem pay7_eq (p : FVec Ideal S1024x1024 .bf16) (u v : FVec Ideal S1024x1024 .f32) (a b a' b' : Vec Ideal S1024x1024 .bf16) (r n : Fin 1024) :
    k0_pay7 (F := Ideal) p u v a b a' b' (ix2 r n) = u (ix2 r n) + v (ix2 r n)
        + (∑ t : Fin 1024, relu2 (∑ k : Fin 1024, p (ix2 r k) * a (ix2 k t)) * b (ix2 t n))
        + (∑ t : Fin 1024, relu2 (∑ k : Fin 1024, p (ix2 r k) * a' (ix2 k t)) * b' (ix2 t n)) := by
  pointwise [k0_pay7, relu2]

section Stores
variable (x0 : Vec Ideal S1024x1024 .f32) (x1 : Vec Ideal S1x1024 .f32) (x2 : Vec Ideal S1024x4096 .bf16)
    (x3 : Vec Ideal S4096x1024 .bf16) (x4 : Vec Ideal S32x1024 .f32) (x5 : Vec Ideal S32x1024 .f32) (x6 : Vec Ideal S32x4096 .f32) (x7 : Vec Ideal S128x1024 .f32)

/-- A grid point's stored rows: the feed-forward layer of each row. -/
theorem block8 (r n : Fin 1024) : out0_8 (F := Ideal) x0 x1 x2 x3 x4 x5 x6 x7 (ix2 r n) =
      ffn (fun l => x0 (ix2 r l)) (fun l => x1 (ix2 0 l)) (fun k e => x2 (ix2 k e)) (fun e n => x3 (ix2 e n)) n := by
  unfold out0_8
  frame_out
  rw [pay7_eq]
  simp only [pay4_eq, pay5_eq, pay6_eq]
  rw [ffn_tiles]
  pointwise [hid]

/-- A grid point's rows of the first copy. -/
theorem block9 : out0_9 (F := Ideal) x0 x1 x2 x3 x4 x5 x6 x7 = x4 := by
  unfold out0_9
  frame_out
  rfl

/-- A grid point's rows of the second copy. -/
theorem block10 : out0_10 (F := Ideal) x0 x1 x2 x3 x4 x5 x6 x7 = x5 := by
  unfold out0_10
  frame_out
  rfl

/-- A grid point's rows of the third copy. -/
theorem block11 : out0_11 (F := Ideal) x0 x1 x2 x3 x4 x5 x6 x7 = x6 := by
  unfold out0_11
  frame_out
  rfl

/-- A grid point's rows of the fourth copy. -/
theorem block12 : out0_12 (F := Ideal) x0 x1 x2 x3 x4 x5 x6 x7 = x7 := by
  unfold out0_12
  frame_out
  rfl

end Stores

variable (m : (ℓ : Loc nD τ sig) → Buf (Elt Ideal) ℓ)

/-- The layer's whole result: row `R` is row `R % 2048` of batch element `R / 2048`. -/
def OUT (X : FVec Ideal S16x2048x1024 .f32) (g : FVec Ideal S1024 .f32) (wu : FVec Ideal S1024x4096 .f32)
    (wd : FVec Ideal S4096x1024 .f32) : FVec Ideal S32768x1024 .f32 := fun i =>
  ffn (fun l => X (ix3 (⟨(i 0).val / 2048, Nat.div_lt_of_lt_mul (i 0).isLt⟩ : Fin 16) (⟨(i 0).val % 2048, Nat.mod_lt _ (by norm_num)⟩ : Fin 2048) l))
      (fun l => g (ix1 l)) (fun k e => wu (ix2 k e)) (fun e n => wd (ix2 e n)) (i 1)

/-- The windows' block indices: the rows move with the grid point, the weights of the layer stay. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

/-- The rows of a grid point, read off the argument. -/
theorem blk0 (c : Dev nD) (t : Fin cfg0.N) (r l : Fin 1024) : iblk m c 0 t (ix2 r l)
    = (m ((c : Thread nD τ).loc main_arg0)) (ix3 (⟨(t.val * 1024 + r.val) / 2048, Nat.div_lt_of_lt_mul (by have : t.val < 32 := t.isLt; have := r.isLt; omega)⟩ : Fin 16)
        (⟨(t.val * 1024 + r.val) % 2048, Nat.mod_lt _ (by norm_num)⟩ : Fin 2048) l) := by
  blk_point [iblk, V, idx t]

/-- The gain. -/
theorem blk1 (c : Dev nD) (t : Fin cfg0.N) (l : Fin 1024) : iblk m c 1 t (ix2 0 l) = (m ((c : Thread nD τ).loc main_arg1)) (ix1 l) := by
  blk_point [iblk, V, idx t]

/-- The first weight matrix. -/
theorem blk2 (c : Dev nD) (t : Fin cfg0.N) (k : Fin 1024) (e : Fin 4096) : iblk m c 2 t (ix2 k e) = (m ((c : Thread nD τ).loc main_arg2)) (ix2 k e) := by
  blk_point [iblk, V, idx t]

/-- The second weight matrix. -/
theorem blk3 (c : Dev nD) (t : Fin cfg0.N) (e : Fin 4096) (n : Fin 1024) : iblk m c 3 t (ix2 e n) = (m ((c : Thread nD τ).loc main_arg3)) (ix2 e n) := by
  blk_point [iblk, V, idx t]

/-- The rows of the weights copied from argument 4. -/
theorem blk4 (c : Dev nD) (t : Fin cfg0.N) (r : Fin 32) (l : Fin 1024) : iblk m c 4 t (ix2 r l)
    = (m ((c : Thread nD τ).loc main_arg4)) (ix2 (⟨t.val * 32 + r.val, by have : t.val < 32 := t.isLt; omega⟩ : Fin 1024) l) := by
  blk_point [iblk, V, idx t]

/-- The rows of the weights copied from argument 5. -/
theorem blk5 (c : Dev nD) (t : Fin cfg0.N) (r : Fin 32) (l : Fin 1024) : iblk m c 5 t (ix2 r l)
    = (m ((c : Thread nD τ).loc main_arg5)) (ix2 (⟨t.val * 32 + r.val, by have : t.val < 32 := t.isLt; omega⟩ : Fin 1024) l) := by
  blk_point [iblk, V, idx t]

/-- The rows of the weights copied from argument 6. -/
theorem blk6 (c : Dev nD) (t : Fin cfg0.N) (r : Fin 32) (l : Fin 4096) : iblk m c 6 t (ix2 r l)
    = (m ((c : Thread nD τ).loc main_arg6)) (ix2 (⟨t.val * 32 + r.val, by have : t.val < 32 := t.isLt; omega⟩ : Fin 1024) l) := by
  blk_point [iblk, V, idx t]

/-- The rows of the weights copied from argument 7. -/
theorem blk7 (c : Dev nD) (t : Fin cfg0.N) (r : Fin 128) (l : Fin 1024) : iblk m c 7 t (ix2 r l)
    = (m ((c : Thread nD τ).loc main_arg7)) (ix2 (⟨t.val * 128 + r.val, by have : t.val < 32 := t.isLt; omega⟩ : Fin 4096) l) := by
  blk_point [iblk, V, idx t]

/-- The layer's result after the run. -/
theorem final8 (c : Dev nD) : (dats m 0 c).arrAt 8 (cfgs 0).N
    = OUT (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]
  idx_vars y
  have he : ((cfg0.win 8).blk t).view.emb (ix2 y0 y1) = (ix2 (⟨t.val * 1024 + y0.val, by have : t.val < 32 := t.isLt; have := y0.isLt; omega⟩ : Fin 32768) y1 : S32768x1024.Idx) := by
    blk_ext [idx t]
  rw [he]
  refine (block8 _ _ _ _ _ _ _ _ y0 y1).trans ?_
  simp only [blk0, blk1, blk2, blk3]
  rfl

/-- The first copy after the run. -/
theorem final9 (c : Dev nD) : (dats m 0 c).arrAt 9 (cfgs 0).N = (m ((c : Thread nD τ).loc main_arg4) : FVec Ideal S1024x1024 .f32) := by
  refine (dats m 0 c).arrAt_eq_of_covers 9 _ (by decide +kernel) fun t _ y => ?_
  blk_simp
  rw [after0_9, block9]
  idx_vars y
  have he : ((cfg0.win 9).blk t).view.emb (ix2 y0 y1) = (ix2 (⟨t.val * 32 + y0.val, by have : t.val < 32 := t.isLt; have := y0.isLt; omega⟩ : Fin 1024) y1 : S1024x1024.Idx) := by
    blk_ext [idx t]
  rw [he]
  exact blk4 m c t y0 y1

/-- The second copy after the run. -/
theorem final10 (c : Dev nD) : (dats m 0 c).arrAt 10 (cfgs 0).N = (m ((c : Thread nD τ).loc main_arg5) : FVec Ideal S1024x1024 .f32) := by
  refine (dats m 0 c).arrAt_eq_of_covers 10 _ (by decide +kernel) fun t _ y => ?_
  blk_simp
  rw [after0_10, block10]
  idx_vars y
  have he : ((cfg0.win 10).blk t).view.emb (ix2 y0 y1) = (ix2 (⟨t.val * 32 + y0.val, by have : t.val < 32 := t.isLt; have := y0.isLt; omega⟩ : Fin 1024) y1 : S1024x1024.Idx) := by
    blk_ext [idx t]
  rw [he]
  exact blk5 m c t y0 y1

/-- The third copy after the run. -/
theorem final11 (c : Dev nD) : (dats m 0 c).arrAt 11 (cfgs 0).N = (m ((c : Thread nD τ).loc main_arg6) : FVec Ideal S1024x4096 .f32) := by
  refine (dats m 0 c).arrAt_eq_of_covers 11 _ (by decide +kernel) fun t _ y => ?_
  blk_simp
  rw [after0_11, block11]
  idx_vars y
  have he : ((cfg0.win 11).blk t).view.emb (ix2 y0 y1) = (ix2 (⟨t.val * 32 + y0.val, by have : t.val < 32 := t.isLt; have := y0.isLt; omega⟩ : Fin 1024) y1 : S1024x4096.Idx) := by
    blk_ext [idx t]
  rw [he]
  exact blk6 m c t y0 y1

/-- The fourth copy after the run. -/
theorem final12 (c : Dev nD) : (dats m 0 c).arrAt 12 (cfgs 0).N = (m ((c : Thread nD τ).loc main_arg7) : FVec Ideal S4096x1024 .f32) := by
  refine (dats m 0 c).arrAt_eq_of_covers 12 _ (by decide +kernel) fun t _ y => ?_
  blk_simp
  rw [after0_12, block12]
  idx_vars y
  have he : ((cfg0.win 12).blk t).view.emb (ix2 y0 y1) = (ix2 (⟨t.val * 128 + y0.val, by have : t.val < 32 := t.isLt; have := y0.isLt; omega⟩ : Fin 4096) y1 : S4096x1024.Idx) := by
    blk_ext [idx t]
  rw [he]
  exact blk7 m c t y0 y1

end Cert.MlpSecondIdeal.Block

namespace Cert.MlpSecondReferenceIdeal.Block

open Cert.MlpSecondReferenceIdeal Cert.MlpSecondReferenceIdeal.Gen Cert.MlpSecondReferenceIdeal.Read Cert.RowMath

variable (x : FVec Ideal S16x2048x1024 .f32) (g : FVec Ideal S1024 .f32) (wu : FVec Ideal S1024x4096 .f32)
  (wd : FVec Ideal S4096x1024 .f32)

/-- The reference's scaled input. -/
theorem v12_eq (b : Fin 16) (s : Fin 2048) (k : Fin 1024) :
    val_main_v12 (F := Ideal) x g (ix3 b s k) = rms (fun l => x (ix3 b s l)) (fun l => g (ix1 l)) k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, rms]
  try simp only [zero_add]

/-- The reference's feed-forward layer with its residual. -/
theorem v17_eq (b : Fin 16) (s : Fin 2048) (n : Fin 1024) :
    val_main_v17 (F := Ideal) x g wu wd (ix3 b s n)
      = ffn (fun l => x (ix3 b s l)) (fun l => g (ix1 l)) (fun k e => wu (ix2 k e)) (fun e n => wd (ix2 e n)) n := by
  pointwise [val_main_v17, val_main_v16, val_main_v15, val_main_v14, val_main_call0_v0, val_main_call0_cst, val_main_v13,
    v12_eq, ffn, relu2, hid]

/-- The reference's layer result is the kernel's. -/
theorem layer_eq : val_main_v18 (F := Ideal) x g wu wd = Cert.MlpSecondIdeal.Block.OUT x g wu wd := by
  funext i
  idx_vars i
  pointwise [val_main_v18, v17_eq]
  rfl

end Cert.MlpSecondReferenceIdeal.Block

end
-- ==== Proof.ThirdValue.lean ====
/- The third feed-forward program's values: the layer with its residual, and three narrowed weight matrices. -/
module

public import proofs.«01_k».proof.Proof.RowMath
public import proofs.«01_k».proof.Proof.Gen.MlpThirdIdeal.Value
public import Idealize.ShloMosaic.Lib.Pipeline.ValueKit
public import proofs.«01_k».proof.Proof.Gen.MlpThirdReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpThirdIdeal.Block

open Cert.MlpThirdIdeal Cert.MlpThirdIdeal.Gen Cert.RowMath

/-- The narrowed scaled row. -/
theorem pay3_eq (v0 : Vec Ideal S1024x1024 .f32) (v2 : Vec Ideal S1x1024 .f32) (r k : Fin 1024) :
    k0_pay3 (F := Ideal) v0 v2 (ix2 r k) = rms (fun l => v0 (ix2 r l)) (fun l => v2 (ix2 0 l)) k := by
  pointwise [k0_pay3, k0_pay2, rms]

/-- The residual plus the first run of hidden units. -/
theorem pay4_eq (v0 : Vec Ideal S1024x1024 .f32) (v2 : Vec Ideal S1x1024 .f32) (a b : Vec Ideal S1024x1024 .bf16) (r n : Fin 1024) :
    k0_pay4 (F := Ideal) v0 v2 a b (ix2 r n) = v0 (ix2 r n)
      + ∑ t : Fin 1024, relu2 (∑ k : Fin 1024, k0_pay3 (F := Ideal) v0 v2 (ix2 r k) * a (ix2 k t)) * b (ix2 t n) := by
  generalize hp : k0_pay3 (F := Ideal) v0 v2 = p
  pointwise [k0_pay4, k0_pay2, relu2, hp]

/-- The second run of hidden units. -/
theorem pay5_eq (v0 : Vec Ideal S1024x1024 .f32) (v2 : Vec Ideal S1x1024 .f32) (a b : Vec Ideal S1024x1024 .bf16) (r n : Fin 1024) :
    k0_pay5 (F := Ideal) v0 v2 a b (ix2 r n) =
      ∑ t : Fin 1024, relu2 (∑ k : Fin 1024, k0_pay3 (F := Ideal) v0 v2 (ix2 r k) * a (ix2 k t)) * b (ix2 t n) := by
  generalize hp : k0_pay3 (F := Ideal) v0 v2 = p
  pointwise [k0_pay5, k0_pay2, relu2, hp]

/-- The last two runs added on. -/
theorem pay6_eq (p : FVec Ideal S1024x1024 .bf16) (u v : FVec Ideal S1024x1024 .f32) (a b a' b' : Vec Ideal S1024x1024 .bf16) (r n : Fin 1024) :
    k0_pay6 (F := Ideal) p u v a b a' b' (ix2 r n) = u (ix2 r n) + v (ix2 r n)
        + (∑ t : Fin 1024, relu2 (∑ k : Fin 1024, p (ix2 r k) * a (ix2 k t)) * b (ix2 t n))
        + (∑ t : Fin 1024, relu2 (∑ k : Fin 1024, p (ix2 r k) * a' (ix2 k t)) * b' (ix2 t n)) := by
  pointwise [k0_pay6, relu2]

section Stores
variable (x0 : Vec Ideal S1024x1024 .f32) (x1 : Vec Ideal S1x1024 .f32) (x2 : Vec Ideal S1024x4096 .bf16)
    (x3 : Vec Ideal S4096x1024 .bf16) (x4 : Vec Ideal S32x1024 .f32) (x5 : Vec Ideal S32x4096 .f32) (x6 : Vec Ideal S128x1024 .f32)

/-- A grid point's stored rows: the feed-forward layer of each row. -/
theorem block7 (r n : Fin 1024) : out0_7 (F := Ideal) x0 x1 x2 x3 x4 x5 x6 (ix2 r n) =
      ffn (fun l => x0 (ix2 r l)) (fun l => x1 (ix2 0 l)) (fun k e => x2 (ix2 k e)) (fun e n => x3 (ix2 e n)) n := by
  unfold out0_7
  frame_out
  rw [pay6_eq]
  simp only [pay3_eq, pay4_eq, pay5_eq]
  rw [ffn_tiles]
  pointwise [hid]

/-- A grid point's rows of the first copy. -/
theorem block8 : out0_8 (F := Ideal) x0 x1 x2 x3 x4 x5 x6 = x4 := by
  unfold out0_8
  frame_out
  rfl

/-- A grid point's rows of the second copy. -/
theorem block9 : out0_9 (F := Ideal) x0 x1 x2 x3 x4 x5 x6 = x5 := by
  unfold out0_9
  frame_out
  rfl

/-- A grid point's rows of the third copy. -/
theorem block10 : out0_10 (F := Ideal) x0 x1 x2 x3 x4 x5 x6 = x6 := by
  unfold out0_10
  frame_out
  rfl

end Stores

variable (m : (ℓ : Loc nD τ sig) → Buf (Elt Ideal) ℓ)

/-- The layer's whole result: row `R` is row `R % 2048` of batch element `R / 2048`. -/
def OUT (X : FVec Ideal S16x2048x1024 .f32) (g : FVec Ideal S1024 .f32) (wu : FVec Ideal S1024x4096 .f32)
    (wd : FVec Ideal S4096x1024 .f32) : FVec Ideal S32768x1024 .f32 := fun i =>
  ffn (fun l => X (ix3 (⟨(i 0).val / 2048, Nat.div_lt_of_lt_mul (i 0).isLt⟩ : Fin 16) (⟨(i 0).val % 2048, Nat.mod_lt _ (by norm_num)⟩ : Fin 2048) l))
      (fun l => g (ix1 l)) (fun k e => wu (ix2 k e)) (fun e n => wd (ix2 e n)) (i 1)

/-- The windows' block indices: the rows move with the grid point, the weights of the layer stay. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

/-- The rows of a grid point, read off the argument. -/
theorem blk0 (c : Dev nD) (t : Fin cfg0.N) (r l : Fin 1024) : iblk m c 0 t (ix2 r l)
    = (m ((c : Thread nD τ).loc main_arg0)) (ix3 (⟨(t.val * 1024 + r.val) / 2048, Nat.div_lt_of_lt_mul (by have : t.val < 32 := t.isLt; have := r.isLt; omega)⟩ : Fin 16)
        (⟨(t.val * 1024 + r.val) % 2048, Nat.mod_lt _ (by norm_num)⟩ : Fin 2048) l) := by
  blk_point [iblk, V, idx t]

/-- The gain. -/
theorem blk1 (c : Dev nD) (t : Fin cfg0.N) (l : Fin 1024) : iblk m c 1 t (ix2 0 l) = (m ((c : Thread nD τ).loc main_arg1)) (ix1 l) := by
  blk_point [iblk, V, idx t]

/-- The first weight matrix. -/
theorem blk2 (c : Dev nD) (t : Fin cfg0.N) (k : Fin 1024) (e : Fin 4096) : iblk m c 2 t (ix2 k e) = (m ((c : Thread nD τ).loc main_arg2)) (ix2 k e) := by
  blk_point [iblk, V, idx t]

/-- The second weight matrix. -/
theorem blk3 (c : Dev nD) (t : Fin cfg0.N) (e : Fin 4096) (n : Fin 1024) : iblk m c 3 t (ix2 e n) = (m ((c : Thread nD τ).loc main_arg3)) (ix2 e n) := by
  blk_point [iblk, V, idx t]

/-- The rows of the weights copied from argument 4. -/
theorem blk4 (c : Dev nD) (t : Fin cfg0.N) (r : Fin 32) (l : Fin 1024) : iblk m c 4 t (ix2 r l)
    = (m ((c : Thread nD τ).loc main_arg4)) (ix2 (⟨t.val * 32 + r.val, by have : t.val < 32 := t.isLt; omega⟩ : Fin 1024) l) := by
  blk_point [iblk, V, idx t]

/-- The rows of the weights copied from argument 5. -/
theorem blk5 (c : Dev nD) (t : Fin cfg0.N) (r : Fin 32) (l : Fin 4096) : iblk m c 5 t (ix2 r l)
    = (m ((c : Thread nD τ).loc main_arg5)) (ix2 (⟨t.val * 32 + r.val, by have : t.val < 32 := t.isLt; omega⟩ : Fin 1024) l) := by
  blk_point [iblk, V, idx t]

/-- The rows of the weights copied from argument 6. -/
theorem blk6 (c : Dev nD) (t : Fin cfg0.N) (r : Fin 128) (l : Fin 1024) : iblk m c 6 t (ix2 r l)
    = (m ((c : Thread nD τ).loc main_arg6)) (ix2 (⟨t.val * 128 + r.val, by have : t.val < 32 := t.isLt; omega⟩ : Fin 4096) l) := by
  blk_point [iblk, V, idx t]

/-- The layer's result after the run. -/
theorem final7 (c : Dev nD) : (dats m 0 c).arrAt 7 (cfgs 0).N
    = OUT (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]
  idx_vars y
  have he : ((cfg0.win 7).blk t).view.emb (ix2 y0 y1) = (ix2 (⟨t.val * 1024 + y0.val, by have : t.val < 32 := t.isLt; have := y0.isLt; omega⟩ : Fin 32768) y1 : S32768x1024.Idx) := by
    blk_ext [idx t]
  rw [he]
  refine (block7 _ _ _ _ _ _ _ y0 y1).trans ?_
  simp only [blk0, blk1, blk2, blk3]
  rfl

/-- The first copy after the run. -/
theorem final8 (c : Dev nD) : (dats m 0 c).arrAt 8 (cfgs 0).N = (m ((c : Thread nD τ).loc main_arg4) : FVec Ideal S1024x1024 .f32) := by
  refine (dats m 0 c).arrAt_eq_of_covers 8 _ (by decide +kernel) fun t _ y => ?_
  blk_simp
  rw [after0_8, block8]
  idx_vars y
  have he : ((cfg0.win 8).blk t).view.emb (ix2 y0 y1) = (ix2 (⟨t.val * 32 + y0.val, by have : t.val < 32 := t.isLt; have := y0.isLt; omega⟩ : Fin 1024) y1 : S1024x1024.Idx) := by
    blk_ext [idx t]
  rw [he]
  exact blk4 m c t y0 y1

/-- The second copy after the run. -/
theorem final9 (c : Dev nD) : (dats m 0 c).arrAt 9 (cfgs 0).N = (m ((c : Thread nD τ).loc main_arg5) : FVec Ideal S1024x4096 .f32) := by
  refine (dats m 0 c).arrAt_eq_of_covers 9 _ (by decide +kernel) fun t _ y => ?_
  blk_simp
  rw [after0_9, block9]
  idx_vars y
  have he : ((cfg0.win 9).blk t).view.emb (ix2 y0 y1) = (ix2 (⟨t.val * 32 + y0.val, by have : t.val < 32 := t.isLt; have := y0.isLt; omega⟩ : Fin 1024) y1 : S1024x4096.Idx) := by
    blk_ext [idx t]
  rw [he]
  exact blk5 m c t y0 y1

/-- The third copy after the run. -/
theorem final10 (c : Dev nD) : (dats m 0 c).arrAt 10 (cfgs 0).N = (m ((c : Thread nD τ).loc main_arg6) : FVec Ideal S4096x1024 .f32) := by
  refine (dats m 0 c).arrAt_eq_of_covers 10 _ (by decide +kernel) fun t _ y => ?_
  blk_simp
  rw [after0_10, block10]
  idx_vars y
  have he : ((cfg0.win 10).blk t).view.emb (ix2 y0 y1) = (ix2 (⟨t.val * 128 + y0.val, by have : t.val < 32 := t.isLt; have := y0.isLt; omega⟩ : Fin 4096) y1 : S4096x1024.Idx) := by
    blk_ext [idx t]
  rw [he]
  exact blk6 m c t y0 y1

end Cert.MlpThirdIdeal.Block

namespace Cert.MlpThirdReferenceIdeal.Block

open Cert.MlpThirdReferenceIdeal Cert.MlpThirdReferenceIdeal.Gen Cert.MlpThirdReferenceIdeal.Read Cert.RowMath

variable (x : FVec Ideal S16x2048x1024 .f32) (g : FVec Ideal S1024 .f32) (wu : FVec Ideal S1024x4096 .f32)
  (wd : FVec Ideal S4096x1024 .f32)

/-- The reference's scaled input. -/
theorem v12_eq (b : Fin 16) (s : Fin 2048) (k : Fin 1024) :
    val_main_v12 (F := Ideal) x g (ix3 b s k) = rms (fun l => x (ix3 b s l)) (fun l => g (ix1 l)) k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, rms]
  try simp only [zero_add]

/-- The reference's feed-forward layer with its residual. -/
theorem v17_eq (b : Fin 16) (s : Fin 2048) (n : Fin 1024) :
    val_main_v17 (F := Ideal) x g wu wd (ix3 b s n)
      = ffn (fun l => x (ix3 b s l)) (fun l => g (ix1 l)) (fun k e => wu (ix2 k e)) (fun e n => wd (ix2 e n)) n := by
  pointwise [val_main_v17, val_main_v16, val_main_v15, val_main_v14, val_main_call0_v0, val_main_call0_cst, val_main_v13,
    v12_eq, ffn, relu2, hid]

/-- The reference's layer result is the kernel's. -/
theorem layer_eq : val_main_v18 (F := Ideal) x g wu wd = Cert.MlpThirdIdeal.Block.OUT x g wu wd := by
  funext i
  idx_vars i
  pointwise [val_main_v18, v17_eq]
  rfl

end Cert.MlpThirdReferenceIdeal.Block

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpIdeal.Value
public import proofs.«01_k».proof.Proof.Gen.MlpReferenceIdeal.Run
public import proofs.«01_k».proof.Proof.Gen.MlpReferenceIdeal.Read
public import proofs.«01_k».proof.Proof.Gen.ReferenceIdeal.Run
public import proofs.«01_k».proof.Proof.Gen.ReferenceIdeal.Read
public import proofs.«01_k».proof.Proof.Gen.MlpInner
public import proofs.«01_k».proof.Proof.Gen.MlpInner.Skeleton
public import proofs.«01_k».proof.Proof.Gen.MlpInner.Launch
public import proofs.«01_k».proof.Proof.Gen.MlpInner.Points
public import proofs.«01_k».proof.Proof.Gen.MlpInner.Frame
public import proofs.«01_k».proof.Proof.Gen.MlpInnerIdeal
public import proofs.«01_k».proof.Proof.Gen.MlpInnerIdeal.Skeleton
public import proofs.«01_k».proof.Proof.Gen.MlpInnerIdeal.Launch
public import proofs.«01_k».proof.Proof.Gen.MlpInnerIdeal.Points
public import proofs.«01_k».proof.Proof.Gen.MlpInnerIdeal.Frame
public import proofs.«01_k».proof.Proof.Gen.MlpInnerIdeal.Value
public import proofs.«01_k».proof.Proof.Gen.MlpInnerReferenceIdeal
public import proofs.«01_k».proof.Proof.Gen.MlpInnerReferenceIdeal.Run
public import proofs.«01_k».proof.Proof.Gen.MlpInnerReferenceIdeal.Read
public import proofs.«01_k».proof.Proof.Gen.FourierIn
public import proofs.«01_k».proof.Proof.Gen.FourierIn.Skeleton
public import proofs.«01_k».proof.Proof.Gen.FourierIn.Launch
public import proofs.«01_k».proof.Proof.Gen.FourierIn.Points
public import proofs.«01_k».proof.Proof.Gen.FourierIn.Frame
public import proofs.«01_k».proof.Proof.Gen.FourierInIdeal
public import proofs.«01_k».proof.Proof.Gen.FourierInIdeal.Skeleton
public import proofs.«01_k».proof.Proof.Gen.FourierInIdeal.Launch
public import proofs.«01_k».proof.Proof.Gen.FourierInIdeal.Points
public import proofs.«01_k».proof.Proof.Gen.FourierInIdeal.Frame
public import proofs.«01_k».proof.Proof.Gen.FourierInIdeal.Value
public import proofs.«01_k».proof.Proof.Gen.FourierInReferenceIdeal
public import proofs.«01_k».proof.Proof.Gen.FourierInReferenceIdeal.Run
public import proofs.«01_k».proof.Proof.Gen.FourierInReferenceIdeal.Read
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.MlpValue
public import proofs.«01_k».proof.Proof.InnerValue
public import proofs.«01_k».proof.Proof.FourierValue
public import proofs.«01_k».proof.Proof.PoolRun
public import proofs.«01_k».proof.Proof.PoolValue
public import proofs.«01_k».proof.Proof.PoolEqual
public import Idealize.ShloMosaic.Adequacy
public import Idealize.ShloMosaic.Init
public import proofs.«01_k».proof.Proof.ConvFrame
public import proofs.«01_k».proof.Proof.ConvIdealFrame
public import proofs.«01_k».proof.Proof.Gen.MlpSecond
public import proofs.«01_k».proof.Proof.Gen.MlpSecond.Skeleton
public import proofs.«01_k».proof.Proof.Gen.MlpSecond.Launch
public import proofs.«01_k».proof.Proof.Gen.MlpSecond.Points
public import proofs.«01_k».proof.Proof.Gen.MlpSecond.Frame
public import proofs.«01_k».proof.Proof.Gen.MlpSecondIdeal
public import proofs.«01_k».proof.Proof.Gen.MlpSecondIdeal.Skeleton
public import proofs.«01_k».proof.Proof.Gen.MlpSecondIdeal.Launch
public import proofs.«01_k».proof.Proof.Gen.MlpSecondIdeal.Points
public import proofs.«01_k».proof.Proof.Gen.MlpSecondIdeal.Frame
public import proofs.«01_k».proof.Proof.Gen.MlpSecondIdeal.Value
public import proofs.«01_k».proof.Proof.Gen.MlpSecondReferenceIdeal
public import proofs.«01_k».proof.Proof.Gen.MlpSecondReferenceIdeal.Run
public import proofs.«01_k».proof.Proof.Gen.MlpSecondReferenceIdeal.Read
public import proofs.«01_k».proof.Proof.Gen.MlpThird
public import proofs.«01_k».proof.Proof.Gen.MlpThird.Skeleton
public import proofs.«01_k».proof.Proof.Gen.MlpThird.Launch
public import proofs.«01_k».proof.Proof.Gen.MlpThird.Points
public import proofs.«01_k».proof.Proof.Gen.MlpThird.Frame
public import proofs.«01_k».proof.Proof.Gen.MlpThirdIdeal
public import proofs.«01_k».proof.Proof.Gen.MlpThirdIdeal.Skeleton
public import proofs.«01_k».proof.Proof.Gen.MlpThirdIdeal.Launch
public import proofs.«01_k».proof.Proof.Gen.MlpThirdIdeal.Points
public import proofs.«01_k».proof.Proof.Gen.MlpThirdIdeal.Frame
public import proofs.«01_k».proof.Proof.Gen.MlpThirdIdeal.Value
public import proofs.«01_k».proof.Proof.Gen.MlpThirdReferenceIdeal
public import proofs.«01_k».proof.Proof.Gen.MlpThirdReferenceIdeal.Run
public import proofs.«01_k».proof.Proof.Gen.MlpThirdReferenceIdeal.Read
public import proofs.«01_k».proof.Proof.SecondValue
public import proofs.«01_k».proof.Proof.ThirdValue

@[expose] public section

noncomputable section

namespace Cert.Proof

open Idealize.ShloMosaic Idealize.SL.Sem

/-- The feed-forward kernel and its reference end with the same array, whatever the arguments. -/
theorem mlp_algebraic : Cert.algebraic_MlpIdeal_MlpReferenceIdeal := by
  pair_intro
  · run_from Cert.MlpIdeal.Gen.run_main m g
  · run_from Cert.MlpReferenceIdeal.Value.run m' g'
    obtain ⟨h0, h1, h2, h3, h4⟩ := hagree c
    rw [Cert.MlpReferenceIdeal.Read.val_main_v31_eq, Cert.MlpReferenceIdeal.Block.ref_eq, h0, h1, h2, h3, h4]
    exact (Cert.MlpIdeal.Block.final m c).symm

/-- The feed-forward reference runs, keeps its arguments and leaves every counter at zero. -/
theorem mlp_reference_frame : Cert.quiescent_MlpReferenceIdeal := fun m ρ _ =>
  (θ_run Cert.MlpReferenceIdeal.defs _ _).mono
    (fun r h => ⟨fun c => (h c).2, sem_eq_zero_of_no_sems (by decide) r.2⟩)
    (Cert.MlpReferenceIdeal.Value.run (F := Ideal) m ρ)

/-- The inner feed-forward kernel and its reference end with the same five arrays, whatever the arguments. -/
theorem inner_algebraic : Cert.algebraic_MlpInnerIdeal_MlpInnerReferenceIdeal := by
  pair_intro
  · run_from Cert.MlpInnerIdeal.Value.run_blocks m g
  · run_from Cert.MlpInnerReferenceIdeal.Value.run m' g'
    all_goals obtain ⟨h0, h1, h2, h3, h4, h5, h6, h7⟩ := hagree c
    · refine Eq.trans ?_ (Cert.MlpInnerIdeal.Block.final8 m c).symm
      rw [Cert.MlpInnerReferenceIdeal.Read.val_main_v26_eq, Cert.MlpInnerReferenceIdeal.Block.layer_eq]
    · refine Eq.trans ?_ (Cert.MlpInnerIdeal.Block.final9 m c).symm
      rw [← h4]
      exact (Cert.MlpInnerReferenceIdeal.Read.val_main_v27_eq _).trans (Cert.MlpInnerReferenceIdeal.Block.pair_eq _)
    · exact (Cert.MlpInnerIdeal.Block.final10 m c).symm
    · exact (Cert.MlpInnerIdeal.Block.final11 m c).symm
    · exact (Cert.MlpInnerIdeal.Block.final12 m c).symm

/-- The inner feed-forward reference runs, keeps its arguments and leaves every counter at zero. -/
theorem inner_reference_frame : Cert.quiescent_MlpInnerReferenceIdeal := fun m ρ _ =>
  (θ_run Cert.MlpInnerReferenceIdeal.defs _ _).mono
    (fun r h => ⟨fun c => (h c).2.2.2.2.2, sem_eq_zero_of_no_sems (by decide) r.2⟩)
    (Cert.MlpInnerReferenceIdeal.Value.run (F := Ideal) m ρ)

/-- The Fourier layer's projection kernel and its reference end with the same array, whatever the arguments. -/
theorem fourier_algebraic : Cert.algebraic_FourierInIdeal_FourierInReferenceIdeal := by
  pair_intro
  · run_from Cert.FourierInIdeal.Value.run_blocks m g
  · run_from Cert.FourierInReferenceIdeal.Value.run m' g'
    obtain ⟨h0, h1, h2⟩ := hagree c
    refine Eq.trans ?_ (Cert.FourierInIdeal.Block.final m c).symm
    rw [← h0, ← h1, ← h2]
    refine Eq.trans ?_ (Cert.FourierInReferenceIdeal.Block.ref_eq _ _ _)
    first
      | exact Cert.FourierInReferenceIdeal.Read.val_main_v16_eq _ _ _
      | exact Cert.FourierInReferenceIdeal.Read.val_main_v16_eq _

/-- The projection's reference runs, keeps its arguments and leaves every counter at zero. -/
theorem fourier_reference_frame : Cert.quiescent_FourierInReferenceIdeal := fun m ρ _ =>
  (θ_run Cert.FourierInReferenceIdeal.defs _ _).mono
    (fun r h => ⟨fun c => (h c).2, sem_eq_zero_of_no_sems (by decide) r.2⟩)
    (Cert.FourierInReferenceIdeal.Value.run (F := Ideal) m ρ)

/-- The pooling kernel and its reference end with the same array where the norm's scale and the weights are finite. -/
theorem pool_algebraic : Cert.algebraic_KernelIdeal_ReferenceIdeal_pre_finite := by
  pair_intro
  · run_from Cert.KernelIdeal.Pool.run m g
  · run_from Cert.ReferenceIdeal.Value.run m' g'
    obtain ⟨h0, h1, h2, h3, h4, h5⟩ := hagree c
    obtain ⟨r1, r2, r3, r4, r5⟩ := Cert.PoolEqual.reals m hpre c
    rw [← h0, ← h3, ← h4, ← h5]
    refine (Cert.ReferenceIdeal.Read.val_main_v178_eq (StableHlo.launchContents m' c)).trans ?_
    refine Eq.trans ?_ ((Cert.PoolEqual.same _ _ _ _ _ _ r1 r2 r3 r4 r5).trans (Cert.KernelIdeal.Pool.final m g c).symm)
    rw [← h0, ← h1, ← h2, ← h3, ← h4, ← h5]

/-- The pooling reference runs, keeps its arguments and leaves every counter at zero. -/
theorem pool_reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same from the memories of the precondition. -/
theorem pool_reference_frame_finite : Cert.quiescent_ReferenceIdeal_pre_finite := fun m ρ _ => pool_reference_frame m ρ trivial

/-- The convolution's reference runs, keeps its arguments and leaves every counter at zero. -/
theorem conv_reference_frame : Cert.quiescent_ConvReferenceIdeal := fun m ρ _ =>
  (θ_run Cert.ConvReferenceIdeal.defs _ _).mono
    (fun r h => ⟨fun c => (h c).2, sem_eq_zero_of_no_sems (by decide) r.2⟩)
    (Cert.ConvReferenceIdeal.Value.run (F := Ideal) m ρ)

/-- The second feed-forward kernel and its reference end with the same five arrays, whatever the arguments. -/
theorem second_algebraic : Cert.algebraic_MlpSecondIdeal_MlpSecondReferenceIdeal := by
  pair_intro
  · run_from Cert.MlpSecondIdeal.Value.run_blocks m g
  · run_from Cert.MlpSecondReferenceIdeal.Value.run m' g'
    all_goals obtain ⟨h0, h1, h2, h3, h4, h5, h6, h7⟩ := hagree c
    · refine Eq.trans ?_ (Cert.MlpSecondIdeal.Block.final8 m c).symm
      rw [Cert.MlpSecondReferenceIdeal.Read.val_main_v18_eq, Cert.MlpSecondReferenceIdeal.Block.layer_eq]
    · exact (Cert.MlpSecondIdeal.Block.final9 m c).symm
    · exact (Cert.MlpSecondIdeal.Block.final10 m c).symm
    · exact (Cert.MlpSecondIdeal.Block.final11 m c).symm
    · exact (Cert.MlpSecondIdeal.Block.final12 m c).symm

/-- The second feed-forward reference runs, keeps its arguments and leaves every counter at zero. -/
theorem second_reference_frame : Cert.quiescent_MlpSecondReferenceIdeal := fun m ρ _ =>
  (θ_run Cert.MlpSecondReferenceIdeal.defs _ _).mono
    (fun r h => ⟨fun c => (h c).2.2.2.2.2, sem_eq_zero_of_no_sems (by decide) r.2⟩)
    (Cert.MlpSecondReferenceIdeal.Value.run (F := Ideal) m ρ)

/-- The third feed-forward kernel and its reference end with the same four arrays, whatever the arguments. -/
theorem third_algebraic : Cert.algebraic_MlpThirdIdeal_MlpThirdReferenceIdeal := by
  pair_intro
  · run_from Cert.MlpThirdIdeal.Value.run_blocks m g
  · run_from Cert.MlpThirdReferenceIdeal.Value.run m' g'
    all_goals obtain ⟨h0, h1, h2, h3, h4, h5, h6⟩ := hagree c
    · refine Eq.trans ?_ (Cert.MlpThirdIdeal.Block.final7 m c).symm
      rw [Cert.MlpThirdReferenceIdeal.Read.val_main_v18_eq, Cert.MlpThirdReferenceIdeal.Block.layer_eq]
    · exact (Cert.MlpThirdIdeal.Block.final8 m c).symm
    · exact (Cert.MlpThirdIdeal.Block.final9 m c).symm
    · exact (Cert.MlpThirdIdeal.Block.final10 m c).symm

/-- The third feed-forward reference runs, keeps its arguments and leaves every counter at zero. -/
theorem third_reference_frame : Cert.quiescent_MlpThirdReferenceIdeal := fun m ρ _ =>
  (θ_run Cert.MlpThirdReferenceIdeal.defs _ _).mono
    (fun r h => ⟨fun c => (h c).2.2.2.2, sem_eq_zero_of_no_sems (by decide) r.2⟩)
    (Cert.MlpThirdReferenceIdeal.Value.run (F := Ideal) m ρ)

/-- All claims of the certificate. -/
theorem claim : Cert.Claim :=
  ⟨Cert.Kernel.Gen.facts, Cert.KernelIdeal.Gen.facts, Cert.ReferenceIdeal.Gen.facts, Cert.Mlp.Gen.facts,
    Cert.MlpIdeal.Gen.facts, Cert.MlpReferenceIdeal.Gen.facts,
    Cert.MlpInner.Gen.facts, Cert.MlpInnerIdeal.Gen.facts, Cert.MlpInnerReferenceIdeal.Gen.facts,
    Cert.FourierIn.Gen.facts, Cert.FourierInIdeal.Gen.facts, Cert.FourierInReferenceIdeal.Gen.facts,
    Cert.Conv.Gen.facts, Cert.ConvIdeal.Gen.facts, Cert.ConvReferenceIdeal.Gen.facts,
    Cert.MlpSecond.Gen.facts, Cert.MlpSecondIdeal.Gen.facts, Cert.MlpSecondReferenceIdeal.Gen.facts,
    Cert.MlpThird.Gen.facts, Cert.MlpThirdIdeal.Gen.facts, Cert.MlpThirdReferenceIdeal.Gen.facts, Cert.PoolEqual.facts,
    fun m ρ _ => Cert.Kernel.Gen.frame m ρ,
    fun m ρ _ => Cert.KernelIdeal.Gen.frame m ρ,
    fun m ρ _ => Cert.KernelIdeal.Gen.frame m ρ,
    pool_reference_frame,
    pool_reference_frame_finite,
    fun m ρ _ => Cert.Mlp.Gen.frame m ρ,
    fun m ρ _ => Cert.MlpIdeal.Gen.frame m ρ,
    mlp_reference_frame,
    fun m ρ _ => Cert.MlpInner.Gen.frame m ρ,
    fun m ρ _ => Cert.MlpInnerIdeal.Gen.frame m ρ,
    inner_reference_frame,
    fun m ρ _ => Cert.FourierIn.Gen.frame m ρ,
    fun m ρ _ => Cert.FourierInIdeal.Gen.frame m ρ,
    fourier_reference_frame,
    fun m ρ _ => Cert.Conv.Rows.frame_all m ρ,
    fun m ρ _ => Cert.ConvIdeal.Rows.frame_all m ρ,
    conv_reference_frame,
    fun m ρ _ => Cert.MlpSecond.Gen.frame m ρ,
    fun m ρ _ => Cert.MlpSecondIdeal.Gen.frame m ρ,
    second_reference_frame,
    fun m ρ _ => Cert.MlpThird.Gen.frame m ρ,
    fun m ρ _ => Cert.MlpThirdIdeal.Gen.frame m ρ,
    third_reference_frame,
    trivial,
    pool_algebraic,
    trivial,
    mlp_algebraic,
    trivial,
    inner_algebraic,
    trivial,
    fourier_algebraic,
    trivial,
    trivial,
    second_algebraic,
    trivial,
    third_algebraic⟩

end Cert.Proof

end
